-- ==== Defs.lean ====
def Pre_Lse (m : (ℓ : Loc Cert.Lse.nD Cert.Lse.τ Cert.Lse.sig) → Buf (Elt Bits) ℓ) : Prop :=
  True

def Pre_LseIdeal (m : (ℓ : Loc Cert.LseIdeal.nD Cert.LseIdeal.τ Cert.LseIdeal.sig) → Buf (Elt Ideal) ℓ) : Prop :=
  True

def Pre_LseRefIdeal (m : (ℓ : Loc Cert.LseRefIdeal.nD Cert.LseRefIdeal.τ Cert.LseRefIdeal.sig) → Buf (Elt Ideal) ℓ) : Prop :=
  True

def Pre_States [hPre_tokens_in_range : Cert.Pre_tokens_in_range.Facts] (m : (ℓ : Loc Cert.States.nD Cert.States.τ Cert.States.sig) → Buf (Elt Bits) ℓ) : Prop :=
  ∀ c : Dev Cert.States.nD,
    (Cert.Pre_tokens_in_range.fn (F := Bits) (m ((c.tc : Thread Cert.States.nD Cert.States.τ).loc Cert.States.main_arg0)) (m ((c.tc : Thread Cert.States.nD Cert.States.τ).loc Cert.States.main_arg1))) = (fun _ => 1#1)

def Pre_StatesIdeal [hPre_tokens_in_range : Cert.Pre_tokens_in_range.Facts] (m : (ℓ : Loc Cert.StatesIdeal.nD Cert.StatesIdeal.τ Cert.StatesIdeal.sig) → Buf (Elt Ideal) ℓ) : Prop :=
  ∀ c : Dev Cert.StatesIdeal.nD,
    (Cert.Pre_tokens_in_range.fn (F := Ideal) (m ((c.tc : Thread Cert.StatesIdeal.nD Cert.StatesIdeal.τ).loc Cert.StatesIdeal.main_arg0)) (m ((c.tc : Thread Cert.StatesIdeal.nD Cert.StatesIdeal.τ).loc Cert.StatesIdeal.main_arg1))) = (fun _ => 1#1)

def Pre_StatesIdeal_in_range_and_finite [hPre_in_range_and_finite : Cert.Pre_in_range_and_finite.Facts] (m : (ℓ : Loc Cert.StatesIdeal.nD Cert.StatesIdeal.τ Cert.StatesIdeal.sig) → Buf (Elt Ideal) ℓ) : Prop :=
  ∀ c : Dev Cert.StatesIdeal.nD,
    (Cert.Pre_in_range_and_finite.fn (F := Ideal) (m ((c.tc : Thread Cert.StatesIdeal.nD Cert.StatesIdeal.τ).loc Cert.StatesIdeal.main_arg0)) (m ((c.tc : Thread Cert.StatesIdeal.nD Cert.StatesIdeal.τ).loc Cert.StatesIdeal.main_arg1))) = (fun _ => 1#1)

def Pre_StatesRefIdeal (m : (ℓ : Loc Cert.StatesRefIdeal.nD Cert.StatesRefIdeal.τ Cert.StatesRefIdeal.sig) → Buf (Elt Ideal) ℓ) : Prop :=
  True

def Pre_StatesRefIdeal_in_range_and_finite [hPre_in_range_and_finite : Cert.Pre_in_range_and_finite.Facts] (m : (ℓ : Loc Cert.StatesRefIdeal.nD Cert.StatesRefIdeal.τ Cert.StatesRefIdeal.sig) → Buf (Elt Ideal) ℓ) : Prop :=
  ∀ c : Dev Cert.StatesRefIdeal.nD,
    (Cert.Pre_in_range_and_finite.fn (F := Ideal) (m ((c.tc : Thread Cert.StatesRefIdeal.nD Cert.StatesRefIdeal.τ).loc Cert.StatesRefIdeal.main_arg0)) (m ((c.tc : Thread Cert.StatesRefIdeal.nD Cert.StatesRefIdeal.τ).loc Cert.StatesRefIdeal.main_arg1))) = (fun _ => 1#1)

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_positive_and_finite [hPre_positive_and_finite : Cert.Pre_positive_and_finite.Facts] (m : (ℓ : Loc Cert.ScanIdeal.nD Cert.ScanIdeal.τ Cert.ScanIdeal.sig) → Buf (Elt Ideal) ℓ) : Prop :=
  ∀ c : Dev Cert.ScanIdeal.nD,
    (Cert.Pre_positive_and_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3))) = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_positive_and_finite [hPre_positive_and_finite : Cert.Pre_positive_and_finite.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_positive_and_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3))) = (fun _ => 1#1)

def quiescent_Lse [hLse : Cert.Lse.Facts] : Prop :=
  ∀ (m : (ℓ : Loc Cert.Lse.nD Cert.Lse.τ Cert.Lse.sig) → Buf (Elt Bits) ℓ) (g : Dev Cert.Lse.nD → PrngReg), Pre_Lse m →
    θ_run (Cert.Lse.defs (F := Bits)) (onTc (τ := Cert.Lse.τ) (Cert.Lse.main (F := Bits))) ⟨m, fun _ => 0, g⟩ (fun r => (∀ c : Dev Cert.Lse.nD,
      r.2.mem ((c.tc : Thread Cert.Lse.nD Cert.Lse.τ).loc Cert.Lse.main_arg0) = m ((c.tc : Thread Cert.Lse.nD Cert.Lse.τ).loc Cert.Lse.main_arg0)
      ∧ r.2.mem ((c.tc : Thread Cert.Lse.nD Cert.Lse.τ).loc Cert.Lse.main_arg1) = m ((c.tc : Thread Cert.Lse.nD Cert.Lse.τ).loc Cert.Lse.main_arg1))
      ∧ r.2.sem = fun _ => 0)

def quiescent_LseIdeal [hLseIdeal : Cert.LseIdeal.Facts] : Prop :=
  ∀ (m : (ℓ : Loc Cert.LseIdeal.nD Cert.LseIdeal.τ Cert.LseIdeal.sig) → Buf (Elt Ideal) ℓ) (g : Dev Cert.LseIdeal.nD → PrngReg), Pre_LseIdeal m →
    θ_run (Cert.LseIdeal.defs (F := Ideal)) (onTc (τ := Cert.LseIdeal.τ) (Cert.LseIdeal.main (F := Ideal))) ⟨m, fun _ => 0, g⟩ (fun r => (∀ c : Dev Cert.LseIdeal.nD,
      r.2.mem ((c.tc : Thread Cert.LseIdeal.nD Cert.LseIdeal.τ).loc Cert.LseIdeal.main_arg0) = m ((c.tc : Thread Cert.LseIdeal.nD Cert.LseIdeal.τ).loc Cert.LseIdeal.main_arg0)
      ∧ r.2.mem ((c.tc : Thread Cert.LseIdeal.nD Cert.LseIdeal.τ).loc Cert.LseIdeal.main_arg1) = m ((c.tc : Thread Cert.LseIdeal.nD Cert.LseIdeal.τ).loc Cert.LseIdeal.main_arg1))
      ∧ r.2.sem = fun _ => 0)

def quiescent_LseRefIdeal [hLseRefIdeal : Cert.LseRefIdeal.Facts] : Prop :=
  ∀ (m : (ℓ : Loc Cert.LseRefIdeal.nD Cert.LseRefIdeal.τ Cert.LseRefIdeal.sig) → Buf (Elt Ideal) ℓ) (g : Dev Cert.LseRefIdeal.nD → PrngReg), Pre_LseRefIdeal m →
    θ_run (Cert.LseRefIdeal.defs (F := Ideal)) (onTc (τ := Cert.LseRefIdeal.τ) (Cert.LseRefIdeal.main (F := Ideal))) ⟨m, fun _ => 0, g⟩ (fun r => (∀ c : Dev Cert.LseRefIdeal.nD,
      r.2.mem ((c.tc : Thread Cert.LseRefIdeal.nD Cert.LseRefIdeal.τ).loc Cert.LseRefIdeal.main_arg0) = m ((c.tc : Thread Cert.LseRefIdeal.nD Cert.LseRefIdeal.τ).loc Cert.LseRefIdeal.main_arg0)
      ∧ r.2.mem ((c.tc : Thread Cert.LseRefIdeal.nD Cert.LseRefIdeal.τ).loc Cert.LseRefIdeal.main_arg1) = m ((c.tc : Thread Cert.LseRefIdeal.nD Cert.LseRefIdeal.τ).loc Cert.LseRefIdeal.main_arg1))
      ∧ r.2.sem = fun _ => 0)

def quiescent_States [hStates : Cert.States.Facts] [hPre_tokens_in_range : Cert.Pre_tokens_in_range.Facts] : Prop :=
  ∀ (m : (ℓ : Loc Cert.States.nD Cert.States.τ Cert.States.sig) → Buf (Elt Bits) ℓ) (g : Dev Cert.States.nD → PrngReg), Pre_States m →
    θ_run (Cert.States.defs (F := Bits)) (onTc (τ := Cert.States.τ) (Cert.States.main (F := Bits))) ⟨m, fun _ => 0, g⟩ (fun r => (∀ c : Dev Cert.States.nD,
      r.2.mem ((c.tc : Thread Cert.States.nD Cert.States.τ).loc Cert.States.main_arg0) = m ((c.tc : Thread Cert.States.nD Cert.States.τ).loc Cert.States.main_arg0)
      ∧ r.2.mem ((c.tc : Thread Cert.States.nD Cert.States.τ).loc Cert.States.main_arg1) = m ((c.tc : Thread Cert.States.nD Cert.States.τ).loc Cert.States.main_arg1))
      ∧ r.2.sem = fun _ => 0)

def quiescent_StatesIdeal [hStatesIdeal : Cert.StatesIdeal.Facts] [hPre_tokens_in_range : Cert.Pre_tokens_in_range.Facts] : Prop :=
  ∀ (m : (ℓ : Loc Cert.StatesIdeal.nD Cert.StatesIdeal.τ Cert.StatesIdeal.sig) → Buf (Elt Ideal) ℓ) (g : Dev Cert.StatesIdeal.nD → PrngReg), Pre_StatesIdeal m →
    θ_run (Cert.StatesIdeal.defs (F := Ideal)) (onTc (τ := Cert.StatesIdeal.τ) (Cert.StatesIdeal.main (F := Ideal))) ⟨m, fun _ => 0, g⟩ (fun r => (∀ c : Dev Cert.StatesIdeal.nD,
      r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
      ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1))
      ∧ r.2.sem = fun _ => 0)

def quiescent_StatesIdeal_pre_in_range_and_finite [hStatesIdeal : Cert.StatesIdeal.Facts] [hPre_in_range_and_finite : Cert.Pre_in_range_and_finite.Facts] : Prop :=
  ∀ (m : (ℓ : Loc Cert.StatesIdeal.nD Cert.StatesIdeal.τ Cert.StatesIdeal.sig) → Buf (Elt Ideal) ℓ) (g : Dev Cert.StatesIdeal.nD → PrngReg), Pre_StatesIdeal_in_range_and_finite m →
    θ_run (Cert.StatesIdeal.defs (F := Ideal)) (onTc (τ := Cert.StatesIdeal.τ) (Cert.StatesIdeal.main (F := Ideal))) ⟨m, fun _ => 0, g⟩ (fun r => (∀ c : Dev Cert.StatesIdeal.nD,
      r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
      ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1))
      ∧ r.2.sem = fun _ => 0)

def quiescent_StatesRefIdeal [hStatesRefIdeal : Cert.StatesRefIdeal.Facts] : Prop :=
  ∀ (m : (ℓ : Loc Cert.StatesRefIdeal.nD Cert.StatesRefIdeal.τ Cert.StatesRefIdeal.sig) → Buf (Elt Ideal) ℓ) (g : Dev Cert.StatesRefIdeal.nD → PrngReg), Pre_StatesRefIdeal m →
    θ_run (Cert.StatesRefIdeal.defs (F := Ideal)) (onTc (τ := Cert.StatesRefIdeal.τ) (Cert.StatesRefIdeal.main (F := Ideal))) ⟨m, fun _ => 0, g⟩ (fun r => (∀ c : Dev Cert.StatesRefIdeal.nD,
      r.2.mem ((c.tc : Thread Cert.StatesRefIdeal.nD Cert.StatesRefIdeal.τ).loc Cert.StatesRefIdeal.main_arg0) = m ((c.tc : Thread Cert.StatesRefIdeal.nD Cert.StatesRefIdeal.τ).loc Cert.StatesRefIdeal.main_arg0)
      ∧ r.2.mem ((c.tc : Thread Cert.StatesRefIdeal.nD Cert.StatesRefIdeal.τ).loc Cert.StatesRefIdeal.main_arg1) = m ((c.tc : Thread Cert.StatesRefIdeal.nD Cert.StatesRefIdeal.τ).loc Cert.StatesRefIdeal.main_arg1))
      ∧ r.2.sem = fun _ => 0)

def quiescent_StatesRefIdeal_pre_in_range_and_finite [hStatesRefIdeal : Cert.StatesRefIdeal.Facts] [hPre_in_range_and_finite : Cert.Pre_in_range_and_finite.Facts] : Prop :=
  ∀ (m : (ℓ : Loc Cert.StatesRefIdeal.nD Cert.StatesRefIdeal.τ Cert.StatesRefIdeal.sig) → Buf (Elt Ideal) ℓ) (g : Dev Cert.StatesRefIdeal.nD → PrngReg), Pre_StatesRefIdeal_in_range_and_finite m →
    θ_run (Cert.StatesRefIdeal.defs (F := Ideal)) (onTc (τ := Cert.StatesRefIdeal.τ) (Cert.StatesRefIdeal.main (F := Ideal))) ⟨m, fun _ => 0, g⟩ (fun r => (∀ c : Dev Cert.StatesRefIdeal.nD,
      r.2.mem ((c.tc : Thread Cert.StatesRefIdeal.nD Cert.StatesRefIdeal.τ).loc Cert.StatesRefIdeal.main_arg0) = m ((c.tc : Thread Cert.StatesRefIdeal.nD Cert.StatesRefIdeal.τ).loc Cert.StatesRefIdeal.main_arg0)
      ∧ r.2.mem ((c.tc : Thread Cert.StatesRefIdeal.nD Cert.StatesRefIdeal.τ).loc Cert.StatesRefIdeal.main_arg1) = m ((c.tc : Thread Cert.StatesRefIdeal.nD Cert.StatesRefIdeal.τ).loc Cert.StatesRefIdeal.main_arg1))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3))
      ∧ r.2.sem = fun _ => 0)

def quiescent_ScanIdeal_pre_positive_and_finite [hScanIdeal : Cert.ScanIdeal.Facts] [hPre_positive_and_finite : Cert.Pre_positive_and_finite.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_positive_and_finite m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3))
      ∧ r.2.sem = fun _ => 0)

def quiescent_ScanRefIdeal_pre_positive_and_finite [hScanRefIdeal : Cert.ScanRefIdeal.Facts] [hPre_positive_and_finite : Cert.Pre_positive_and_finite.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_positive_and_finite m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3))
      ∧ r.2.sem = fun _ => 0)

def preserves_Lse_LseIdeal : Prop :=
  True

def algebraic_LseIdeal_LseRefIdeal [hLseIdeal : Cert.LseIdeal.Facts] [hLseRefIdeal : Cert.LseRefIdeal.Facts] : Prop :=
  ∀ (m : (ℓ : Loc Cert.LseIdeal.nD Cert.LseIdeal.τ Cert.LseIdeal.sig) → Buf (Elt Ideal) ℓ) (g : Dev Cert.LseIdeal.nD → PrngReg)
    (m' : (ℓ : Loc Cert.LseRefIdeal.nD Cert.LseRefIdeal.τ Cert.LseRefIdeal.sig) → Buf (Elt Ideal) ℓ) (g' : Dev Cert.LseRefIdeal.nD → PrngReg), Pre_LseIdeal m →
    (∀ c : Dev Cert.LseIdeal.nD,
      m' ((c.tc : Thread Cert.LseRefIdeal.nD Cert.LseRefIdeal.τ).loc Cert.LseRefIdeal.main_arg0) = m ((c.tc : Thread Cert.LseIdeal.nD Cert.LseIdeal.τ).loc Cert.LseIdeal.main_arg0)
      ∧ m' ((c.tc : Thread Cert.LseRefIdeal.nD Cert.LseRefIdeal.τ).loc Cert.LseRefIdeal.main_arg1) = m ((c.tc : Thread Cert.LseIdeal.nD Cert.LseIdeal.τ).loc Cert.LseIdeal.main_arg1)) →
    ∃ (v0 : (c : Dev Cert.LseIdeal.nD) → Buf (Elt Ideal) ((c.tc : Thread Cert.LseIdeal.nD Cert.LseIdeal.τ).loc Cert.LseIdeal.main_v0)),
      θ_run (Cert.LseIdeal.defs (F := Ideal)) (onTc (τ := Cert.LseIdeal.τ) (Cert.LseIdeal.main (F := Ideal))) ⟨m, fun _ => 0, g⟩ (fun r => ∀ c : Dev Cert.LseIdeal.nD,
          r.2.mem ((c.tc : Thread Cert.LseIdeal.nD Cert.LseIdeal.τ).loc Cert.LseIdeal.main_v0) = v0 c
          ∧ r.2.mem ((c.tc : Thread Cert.LseIdeal.nD Cert.LseIdeal.τ).loc Cert.LseIdeal.main_arg0) = m ((c.tc : Thread Cert.LseIdeal.nD Cert.LseIdeal.τ).loc Cert.LseIdeal.main_arg0)
          ∧ r.2.mem ((c.tc : Thread Cert.LseIdeal.nD Cert.LseIdeal.τ).loc Cert.LseIdeal.main_arg1) = m ((c.tc : Thread Cert.LseIdeal.nD Cert.LseIdeal.τ).loc Cert.LseIdeal.main_arg1))
      ∧ θ_run (Cert.LseRefIdeal.defs (F := Ideal)) (onTc (τ := Cert.LseRefIdeal.τ) (Cert.LseRefIdeal.main (F := Ideal))) ⟨m', fun _ => 0, g'⟩ (fun r => ∀ c : Dev Cert.LseRefIdeal.nD,
          r.2.mem ((c.tc : Thread Cert.LseRefIdeal.nD Cert.LseRefIdeal.τ).loc Cert.LseRefIdeal.main_v9) = v0 c
          ∧ r.2.mem ((c.tc : Thread Cert.LseRefIdeal.nD Cert.LseRefIdeal.τ).loc Cert.LseRefIdeal.main_arg0) = m' ((c.tc : Thread Cert.LseRefIdeal.nD Cert.LseRefIdeal.τ).loc Cert.LseRefIdeal.main_arg0)
          ∧ r.2.mem ((c.tc : Thread Cert.LseRefIdeal.nD Cert.LseRefIdeal.τ).loc Cert.LseRefIdeal.main_arg1) = m' ((c.tc : Thread Cert.LseRefIdeal.nD Cert.LseRefIdeal.τ).loc Cert.LseRefIdeal.main_arg1))

def preserves_States_StatesIdeal : Prop :=
  True

def algebraic_StatesIdeal_StatesRefIdeal_pre_in_range_and_finite [hStatesIdeal : Cert.StatesIdeal.Facts] [hStatesRefIdeal : Cert.StatesRefIdeal.Facts] [hPre_in_range_and_finite : Cert.Pre_in_range_and_finite.Facts] : Prop :=
  ∀ (m : (ℓ : Loc Cert.StatesIdeal.nD Cert.StatesIdeal.τ Cert.StatesIdeal.sig) → Buf (Elt Ideal) ℓ) (g : Dev Cert.StatesIdeal.nD → PrngReg)
    (m' : (ℓ : Loc Cert.StatesRefIdeal.nD Cert.StatesRefIdeal.τ Cert.StatesRefIdeal.sig) → Buf (Elt Ideal) ℓ) (g' : Dev Cert.StatesRefIdeal.nD → PrngReg), Pre_StatesIdeal_in_range_and_finite m →
    (∀ c : Dev Cert.StatesIdeal.nD,
      m' ((c.tc : Thread Cert.StatesRefIdeal.nD Cert.StatesRefIdeal.τ).loc Cert.StatesRefIdeal.main_arg0) = m ((c.tc : Thread Cert.StatesIdeal.nD Cert.StatesIdeal.τ).loc Cert.StatesIdeal.main_arg0)
      ∧ m' ((c.tc : Thread Cert.StatesRefIdeal.nD Cert.StatesRefIdeal.τ).loc Cert.StatesRefIdeal.main_arg1) = m ((c.tc : Thread Cert.StatesIdeal.nD Cert.StatesIdeal.τ).loc Cert.StatesIdeal.main_arg1)) →
    ∃ (v0 : (c : Dev Cert.StatesIdeal.nD) → Buf (Elt Ideal) ((c.tc : Thread Cert.StatesIdeal.nD Cert.StatesIdeal.τ).loc Cert.StatesIdeal.main_v2)),
      θ_run (Cert.StatesIdeal.defs (F := Ideal)) (onTc (τ := Cert.StatesIdeal.τ) (Cert.StatesIdeal.main (F := Ideal))) ⟨m, fun _ => 0, g⟩ (fun r => ∀ c : Dev Cert.StatesIdeal.nD,
          r.2.mem ((c.tc : Thread Cert.StatesIdeal.nD Cert.StatesIdeal.τ).loc Cert.StatesIdeal.main_v2) = v0 c
          ∧ r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
          ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1))
      ∧ θ_run (Cert.StatesRefIdeal.defs (F := Ideal)) (onTc (τ := Cert.StatesRefIdeal.τ) (Cert.StatesRefIdeal.main (F := Ideal))) ⟨m', fun _ => 0, g'⟩ (fun r => ∀ c : Dev Cert.StatesRefIdeal.nD,
          r.2.mem ((c.tc : Thread Cert.StatesRefIdeal.nD Cert.StatesRefIdeal.τ).loc Cert.StatesRefIdeal.main_v20) = v0 c
          ∧ r.2.mem ((c.tc : Thread Cert.StatesRefIdeal.nD Cert.StatesRefIdeal.τ).loc Cert.StatesRefIdeal.main_arg0) = m' ((c.tc : Thread Cert.StatesRefIdeal.nD Cert.StatesRefIdeal.τ).loc Cert.StatesRefIdeal.main_arg0)
          ∧ r.2.mem ((c.tc : Thread Cert.StatesRefIdeal.nD Cert.StatesRefIdeal.τ).loc Cert.StatesRefIdeal.main_arg1) = m' ((c.tc : Thread Cert.StatesRefIdeal.nD Cert.StatesRefIdeal.τ).loc Cert.StatesRefIdeal.main_arg1))

def preserves_Scan_ScanIdeal : Prop :=
  True

def algebraic_ScanIdeal_ScanRefIdeal_pre_positive_and_finite [hScanIdeal : Cert.ScanIdeal.Facts] [hScanRefIdeal : Cert.ScanRefIdeal.Facts] [hPre_positive_and_finite : Cert.Pre_positive_and_finite.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_positive_and_finite m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)) →
    ∃ (v0 : (c : Dev Cert.ScanIdeal.nD) → Buf (Elt Ideal) ((c.tc : Thread Cert.ScanIdeal.nD Cert.ScanIdeal.τ).loc Cert.ScanIdeal.main_v87)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v87) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v33) = v0 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3))

def Claim : Prop :=
  ∃ (hLse : Cert.Lse.Facts) (hLseIdeal : Cert.LseIdeal.Facts) (hLseRefIdeal : Cert.LseRefIdeal.Facts) (hStates : Cert.States.Facts) (hStatesIdeal : Cert.StatesIdeal.Facts) (hStatesRefIdeal : Cert.StatesRefIdeal.Facts) (hScan : Cert.Scan.Facts) (hScanIdeal : Cert.ScanIdeal.Facts) (hScanRefIdeal : Cert.ScanRefIdeal.Facts) (hPre_tokens_in_range : Cert.Pre_tokens_in_range.Facts) (hPre_in_range_and_finite : Cert.Pre_in_range_and_finite.Facts) (hPre_positive_and_finite : Cert.Pre_positive_and_finite.Facts),
    quiescent_Lse (hLse := hLse)
    ∧ quiescent_LseIdeal (hLseIdeal := hLseIdeal)
    ∧ quiescent_LseRefIdeal (hLseRefIdeal := hLseRefIdeal)
    ∧ quiescent_States (hStates := hStates) (hPre_tokens_in_range := hPre_tokens_in_range)
    ∧ quiescent_StatesIdeal (hStatesIdeal := hStatesIdeal) (hPre_tokens_in_range := hPre_tokens_in_range)
    ∧ quiescent_StatesIdeal_pre_in_range_and_finite (hStatesIdeal := hStatesIdeal) (hPre_in_range_and_finite := hPre_in_range_and_finite)
    ∧ quiescent_StatesRefIdeal (hStatesRefIdeal := hStatesRefIdeal)
    ∧ quiescent_StatesRefIdeal_pre_in_range_and_finite (hStatesRefIdeal := hStatesRefIdeal) (hPre_in_range_and_finite := hPre_in_range_and_finite)
    ∧ quiescent_Scan (hScan := hScan)
    ∧ quiescent_ScanIdeal (hScanIdeal := hScanIdeal)
    ∧ quiescent_ScanIdeal_pre_positive_and_finite (hScanIdeal := hScanIdeal) (hPre_positive_and_finite := hPre_positive_and_finite)
    ∧ quiescent_ScanRefIdeal (hScanRefIdeal := hScanRefIdeal)
    ∧ quiescent_ScanRefIdeal_pre_positive_and_finite (hScanRefIdeal := hScanRefIdeal) (hPre_positive_and_finite := hPre_positive_and_finite)
    ∧ preserves_Lse_LseIdeal
    ∧ algebraic_LseIdeal_LseRefIdeal (hLseIdeal := hLseIdeal) (hLseRefIdeal := hLseRefIdeal)
    ∧ preserves_States_StatesIdeal
    ∧ algebraic_StatesIdeal_StatesRefIdeal_pre_in_range_and_finite (hStatesIdeal := hStatesIdeal) (hStatesRefIdeal := hStatesRefIdeal) (hPre_in_range_and_finite := hPre_in_range_and_finite)
    ∧ preserves_Scan_ScanIdeal
    ∧ algebraic_ScanIdeal_ScanRefIdeal_pre_positive_and_finite (hScanIdeal := hScanIdeal) (hScanRefIdeal := hScanRefIdeal) (hPre_positive_and_finite := hPre_positive_and_finite)
-- ==== Pre_in_range_and_finite.lean ====
abbrev S32x2048 : Shape := ⟨2, ![32, 2048]⟩
abbrev S32000x256 : Shape := ⟨2, ![32000, 256]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S32000x256 : S_.BroadcastsInDim S32000x256 (![] : Fin 0 → Fin S32000x256.rank)
  reducesTo_S32000x256_S_d0_1 : S32000x256.ReducesTo [0, 1] S_

variable [Facts]

def fn {F : FTy → Type} [FloatOps F] (main_arg0 : IVec S32x2048 32) (main_arg1 : FVec F S32000x256 .f32) : IVec S_ 1 :=
  let main_c : IVec S_ 32 := constantI S_ 32 0#32
  let main_v0 : IVec S32x2048 32 := broadcastInDim S32x2048 ![] bcast_S_S32x2048 main_c
  let main_v1 : IVec S32x2048 1 := cmpi .sge main_arg0 main_v0
  let main_c_0 : IVec S_ 32 := constantI S_ 32 32000#32
  let main_v2 : IVec S32x2048 32 := broadcastInDim S32x2048 ![] bcast_S_S32x2048 main_c_0
  let main_v3 : IVec S32x2048 1 := cmpi .slt main_arg0 main_v2
  let main_v4 : IVec S32x2048 1 := andi main_v1 main_v3
  let main_c_1 : IVec S_ 1 := constantI S_ 1 1#1
  let main_v5 : IVec S_ 1 := (fun x v => Host.reduce IntOp.andi x v reducesTo_S32x2048_S_d0_1 h_S_) main_v4 main_c_1
  let main_v6 : FVec F S32000x256 .f32 := Host.absf main_arg1
  let main_cst : FVec F S_ .f32 := constant S_ .f32 0x7F800000#32
  let main_v7 : FVec F S32000x256 .f32 := broadcastInDim S32000x256 ![] bcast_S_S32000x256 main_cst
  let main_v8 : IVec S32000x256 1 := cmpf .olt main_v6 main_v7
  let main_c_2 : IVec S_ 1 := constantI S_ 1 1#1
  let main_v9 : IVec S_ 1 := (fun x v => Host.reduce IntOp.andi x v reducesTo_S32000x256_S_d0_1 h_S_) main_v8 main_c_2
  let main_v10 : IVec S_ 1 := andi main_v5 main_v9
  main_v10
-- ==== Pre_positive_and_finite.lean ====
abbrev S32x2048x32 : Shape := ⟨3, ![32, 2048, 32]⟩
abbrev S32x1x1 : Shape := ⟨3, ![32, 1, 1]⟩
abbrev S1x16x32 : Shape := ⟨3, ![1, 16, 32]⟩
abbrev S1x16x32x32 : Shape := ⟨4, ![1, 16, 32, 32]⟩
abbrev S_ : Shape := ⟨0, ![]⟩

class Facts : Prop where
  bcast_S_S32x2048x32 : S_.BroadcastsInDim S32x2048x32 (![] : Fin 0 → Fin S32x2048x32.rank)
  reducesTo_S32x2048x32_S_d0_1_2 : S32x2048x32.ReducesTo [0, 1, 2] S_
  h_S_ : 0 < S_.numel
  bcast_S_S1x16x32 : S_.BroadcastsInDim S1x16x32 (![] : Fin 0 → Fin S1x16x32.rank)
  reducesTo_S1x16x32_S_d0_1_2 : S1x16x32.ReducesTo [0, 1, 2] S_
  bcast_S_S1x16x32x32 : S_.BroadcastsInDim S1x16x32x32 (![] : Fin 0 → Fin S1x16x32x32.rank)
  reducesTo_S1x16x32x32_S_d0_1_2_3 : S1x16x32x32.ReducesTo [0, 1, 2, 3] S_

variable [Facts]

def fn {F : FTy → Type} [FloatOps F] (main_arg0 : FVec F S32x2048x32 .f32) (main_arg1 : FVec F S32x1x1 .f32) (main_arg2 : FVec F S1x16x32 .f32) (main_arg3 : FVec F S1x16x32x32 .f32) : IVec S_ 1 :=
  let main_cst : FVec F S_ .f32 := constant S_ .f32 0x00000000#32
  let main_v0 : FVec F S32x2048x32 .f32 := broadcastInDim S32x2048x32 ![] bcast_S_S32x2048x32 main_cst
  let main_v1 : IVec S32x2048x32 1 := cmpf .ogt main_arg0 main_v0
  let main_cst_0 : FVec F S_ .f32 := constant S_ .f32 0x7F800000#32
  let main_v2 : FVec F S32x2048x32 .f32 := broadcastInDim S32x2048x32 ![] bcast_S_S32x2048x32 main_cst_0
  let main_v3 : IVec S32x2048x32 1 := cmpf .olt main_arg0 main_v2
  let main_v4 : IVec S32x2048x32 1 := andi main_v1 main_v3
  let main_c : IVec S_ 1 := constantI S_ 1 1#1
  let main_v5 : IVec S_ 1 := (fun x v => Host.reduce IntOp.andi x v reducesTo_S32x2048x32_S_d0_1_2 h_S_) main_v4 main_c
  let main_v6 : FVec F S1x16x32 .f32 := Host.absf main_arg2
  let main_cst_1 : FVec F S_ .f32 := constant S_ .f32 0x7F800000#32
  let main_v7 : FVec F S1x16x32 .f32 := broadcastInDim S1x16x32 ![] bcast_S_S1x16x32 main_cst_1
  let main_v8 : IVec S1x16x32 1 := cmpf .olt main_v6 main_v7
  let main_c_2 : IVec S_ 1 := constantI S_ 1 1#1
  let main_v9 : IVec S_ 1 := (fun x v => Host.reduce IntOp.andi x v reducesTo_S1x16x32_S_d0_1_2 h_S_) main_v8 main_c_2
  let main_v10 : IVec S_ 1 := andi main_v5 main_v9
  let main_v11 : FVec F S1x16x32x32 .f32 := Host.absf main_arg3
  let main_cst_3 : FVec F S_ .f32 := constant S_ .f32 0x7F800000#32
  let main_v12 : FVec F S1x16x32x32 .f32 := broadcastInDim S1x16x32x32 ![] bcast_S_S1x16x32x32 main_cst_3
  let main_v13 : IVec S1x16x32x32 1 := cmpf .olt main_v11 main_v12
  let main_c_4 : IVec S_ 1 := constantI S_ 1 1#1
  let main_v14 : IVec S_ 1 := (fun x v => Host.reduce IntOp.andi x v reducesTo_S1x16x32x32_S_d0_1_2_3 h_S_) main_v13 main_c_4
  let main_v15 : IVec S_ 1 := andi main_v10 main_v14
  main_v15
-- ==== Pre_tokens_in_range.lean ====
abbrev S32x2048 : Shape := ⟨2, ![32, 2048]⟩
abbrev S32000x256 : Shape := ⟨2, ![32000, 256]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel

variable [Facts]

def fn {F : FTy → Type} [FloatOps F] (main_arg0 : IVec S32x2048 32) (main_arg1 : FVec F S32000x256 .f32) : IVec S_ 1 :=
  let main_c : IVec S_ 32 := constantI S_ 32 0#32
  let main_v0 : IVec S32x2048 32 := broadcastInDim S32x2048 ![] bcast_S_S32x2048 main_c
  let main_v1 : IVec S32x2048 1 := cmpi .sge main_arg0 main_v0
  let main_c_0 : IVec S_ 32 := constantI S_ 32 32000#32
  let main_v2 : IVec S32x2048 32 := broadcastInDim S32x2048 ![] bcast_S_S32x2048 main_c_0
  let main_v3 : IVec S32x2048 1 := cmpi .slt main_arg0 main_v2
  let main_v4 : IVec S32x2048 1 := andi main_v1 main_v3
  let main_c_1 : IVec S_ 1 := constantI S_ 1 1#1
  let main_v5 : IVec S_ 1 := (fun x v => Host.reduce IntOp.andi x v reducesTo_S32x2048_S_d0_1 h_S_) main_v4 main_c_1
  main_v5
-- ==== Lse.lean ====
abbrev S1024x256 : Shape := ⟨2, ![1024, 256]⟩
abbrev S32000x256 : Shape := ⟨2, ![32000, 256]⟩
abbrev S1024x1 : Shape := ⟨2, ![1024, 1]⟩
abbrev S512x256 : Shape := ⟨2, ![512, 256]⟩
abbrev S3200x256 : Shape := ⟨2, ![3200, 256]⟩
abbrev S512x1 : Shape := ⟨2, ![512, 1]⟩
abbrev S512x3200 : Shape := ⟨2, ![512, 3200]⟩
abbrev S512 : Shape := ⟨1, ![512]⟩

abbrev nBuf : Space → Nat
  | .hbm => 3
  | .vmem => 9
  | .smem => 0
  | _ => 0

abbrev bufTy : (tb : Table) → Fin (tcTables nBuf tb) → BufTy
  | .hbm, ⟨0, _⟩ => ⟨S1024x256, .f32⟩
  | .hbm, ⟨1, _⟩ => ⟨S32000x256, .f32⟩
  | .hbm, ⟨2, _⟩ => ⟨S1024x1, .f32⟩
  | .local _ .vmem, ⟨0, _⟩ => ⟨S512x256, .f32⟩
  | .local _ .vmem, ⟨1, _⟩ => ⟨S512x256, .f32⟩
  | .local _ .vmem, ⟨2, _⟩ => ⟨S3200x256, .f32⟩
  | .local _ .vmem, ⟨3, _⟩ => ⟨S3200x256, .f32⟩
  | .local _ .vmem, ⟨4, _⟩ => ⟨S512x1, .f32⟩
  | .local _ .vmem, ⟨5, _⟩ => ⟨S512x1, .f32⟩
  | .local _ .vmem, ⟨6, _⟩ => ⟨S512x3200, .f32⟩
  | .local _ .vmem, ⟨7, _⟩ => ⟨S512x1, .f32⟩
  | .local _ .vmem, ⟨8, _⟩ => ⟨S512x1, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v30 : BitVec 1 := Scalar.cmpi .eq arg1 c9_i32
  let v31 : BitVec 32 := Scalar.extui v30
  let c0_i32_18 : BitVec 32 := 0#32
  let v32 : BitVec 1 := Scalar.cmpi .ne v31 c0_i32_18
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3200x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== LseRefIdeal.lean ====
abbrev S1024x256 : Shape := ⟨2, ![1024, 256]⟩
abbrev S32000x256 : Shape := ⟨2, ![32000, 256]⟩
abbrev S1024x32000 : Shape := ⟨2, ![1024, 32000]⟩
abbrev S_ : Shape := ⟨0, ![]⟩
abbrev S1024 : Shape := ⟨1, ![1024]⟩
abbrev S1024x1 : Shape := ⟨2, ![1024, 1]⟩

abbrev nBuf : Space → Nat
  | .hbm => 14
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S32000x256, .f32⟩
  | .hbm, ⟨2, _⟩ => ⟨S1024x32000, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1024x32000, .f32⟩
  | .hbm, ⟨7, _⟩ => ⟨S1024x32000, .f32⟩
  | .hbm, ⟨8, _⟩ => ⟨S1024x32000, .f32⟩
  | .hbm, ⟨9, _⟩ => ⟨S_, .f32⟩
  | .hbm, ⟨10, _⟩ => ⟨S1024, .f32⟩
  | .hbm, ⟨11, _⟩ => ⟨S1024x1, .f32⟩
  | .hbm, ⟨12, _⟩ => ⟨S1024x1, .f32⟩
  | .hbm, ⟨13, _⟩ => ⟨S1024x1, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== States.lean ====
abbrev S32x2048 : Shape := ⟨2, ![32, 2048]⟩
abbrev S32000x256 : Shape := ⟨2, ![32000, 256]⟩
abbrev S32x1x2048 : Shape := ⟨3, ![32, 1, 2048]⟩
abbrev S64000x128 : Shape := ⟨2, ![64000, 128]⟩
abbrev S1024x256 : Shape := ⟨2, ![1024, 256]⟩
abbrev S1x1x2048 : Shape := ⟨3, ![1, 1, 2048]⟩
abbrev S32x256 : Shape := ⟨2, ![32, 256]⟩
abbrev S2048x128 : Shape := ⟨2, ![2048, 128]⟩
abbrev S1x1x1 : Shape := ⟨3, ![1, 1, 1]⟩
abbrev S2x128 : Shape := ⟨2, ![2, 128]⟩
abbrev S1x128 : Shape := ⟨2, ![1, 128]⟩
abbrev S8x128 : Shape := ⟨2, ![8, 128]⟩
abbrev S2048x32 : Shape := ⟨2, ![2048, 32]⟩
abbrev S32 : Shape := ⟨1, ![32]⟩
abbrev S1x32 : Shape := ⟨2, ![1, 32]⟩
abbrev S2048x256 : Shape := ⟨2, ![2048, 256]⟩

abbrev nBuf : Space → Nat
  | .hbm => 5
  | .vmem => 5
  | .smem => 2
  | _ => 0

abbrev bufTy : (tb : Table) → Fin (tcTables nBuf tb) → BufTy
  | .hbm, ⟨0, _⟩ => ⟨S32x2048, .i32⟩
  | .hbm, ⟨1, _⟩ => ⟨S32000x256, .f32⟩
  | .hbm, ⟨2, _⟩ => ⟨S32x1x2048, .i32⟩
  | .hbm, ⟨3, _⟩ => ⟨S64000x128, .f32⟩
  | .hbm, ⟨4, _⟩ => ⟨S1024x256, .f32⟩
  | .local _ .vmem, ⟨0, _⟩ => ⟨S64000x128, .f32⟩
  | .local _ .vmem, ⟨1, _⟩ => ⟨S32x256, .f32⟩
  | .local _ .vmem, ⟨2, _⟩ => ⟨S32x256, .f32⟩
  | .local _ .vmem, ⟨3, _⟩ => ⟨S2048x128, .f32⟩
  | .local _ .vmem, ⟨4, _⟩ => ⟨S2048x128, .f32⟩
  | .local _ .smem, ⟨0, _⟩ => ⟨S1x1x2048, .i32⟩
  | .local _ .smem, ⟨1, _⟩ => ⟨S1x1x2048, .i32⟩
  | _, _ => ⟨S32x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_off1 (k0_t1 : Fin k0_t1_loop.trips) : Fin 3 → Nat :=
  let c0_13 : Index := 0#32
  let c0_14 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c0_i32_11 : BitVec 32 := 0#32
  let v19 : BitVec 32 := Scalar.addi v18 c0_i32_11
  let c0_i32_12 : BitVec 32 := 0#32
  let v20 : BitVec 32 := Scalar.addi v19 c0_i32_12
  let v21 : Index := Scalar.indexCast v20
  ![0, 0, v21.toNat]
def k0_mult1 (v22 : BitVec 32) : BitVec 32 :=
  let c2_i32 : BitVec 32 := 2#32
  let v23 : BitVec 32 := Scalar.muli v22 c2_i32
  v23

def k0_off2 (v22 : BitVec 32) : Fin 2 → Nat :=
  let c2_i32 : BitVec 32 := 2#32
  let v23 : BitVec 32 := Scalar.muli v22 c2_i32
  let v24 : BitVec 32 := v23
  let v25 : Index := Scalar.indexCast v24
  let c0_15 : Index := 0#32
  ![v25.toNat, 0]

def k0_chk1 (v22 : BitVec 32) : Prop :=
  (2 ∣ (k0_mult1 v22).toNat) ∧
  (∀ a, (k0_off2 v22) a + S2x128.size a ≤ S64000x128.size a)
theorem k0_mult1_dvd : ∀ (v22 : BitVec 32) (k0_hw1 : k0_chk1 v22), 2 ∣ (k0_mult1 v22).toNat := fun v22 k0_hw1 => k0_hw1.1
theorem k0_off2_inb : ∀ (v22 : BitVec 32) (k0_hw1 : k0_chk1 v22), ∀ a, (k0_off2 v22) a + S2x128.size a ≤ S64000x128.size a := fun v22 k0_hw1 => k0_hw1.2

def k0_off3 (k0_t1 : Fin k0_t1_loop.trips) : Fin 3 → Nat :=
  let c0_18 : Index := 0#32
  let c0_19 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c0_i32_16 : BitVec 32 := 0#32
  let v28 : BitVec 32 := Scalar.addi v18 c0_i32_16
  let c1_i32_17 : BitVec 32 := 1#32
  let v29 : BitVec 32 := Scalar.addi v28 c1_i32_17
  let v30 : Index := Scalar.indexCast v29
  ![0, 0, v30.toNat]
def k0_mult2 (v31 : BitVec 32) : BitVec 32 :=
  let c2_i32_20 : BitVec 32 := 2#32
  let v32 : BitVec 32 := Scalar.muli v31 c2_i32_20
  v32

def k0_off4 (v31 : BitVec 32) : Fin 2 → Nat :=
  let c2_i32_20 : BitVec 32 := 2#32
  let v32 : BitVec 32 := Scalar.muli v31 c2_i32_20
  let v33 : BitVec 32 := v32
  let v34 : Index := Scalar.indexCast v33
  let c0_21 : Index := 0#32
  ![v34.toNat, 0]

def k0_chk2 (v31 : BitVec 32) : Prop :=
  (2 ∣ (k0_mult2 v31).toNat) ∧
  (∀ a, (k0_off4 v31) a + S2x128.size a ≤ S64000x128.size a)
theorem k0_mult2_dvd : ∀ (v31 : BitVec 32) (k0_hw2 : k0_chk2 v31), 2 ∣ (k0_mult2 v31).toNat := fun v31 k0_hw2 => k0_hw2.1
theorem k0_off4_inb : ∀ (v31 : BitVec 32) (k0_hw2 : k0_chk2 v31), ∀ a, (k0_off4 v31) a + S2x128.size a ≤ S64000x128.size a := fun v31 k0_hw2 => k0_hw2.2

def k0_off5 (k0_t1 : Fin k0_t1_loop.trips) : Fin 3 → Nat :=
  let c0_24 : Index := 0#32
  let c0_25 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c0_i32_22 : BitVec 32 := 0#32
  let v37 : BitVec 32 := Scalar.addi v18 c0_i32_22
  let c2_i32_23 : BitVec 32 := 2#32
  let v38 : BitVec 32 := Scalar.addi v37 c2_i32_23
  let v39 : Index := Scalar.indexCast v38
  ![0, 0, v39.toNat]
def k0_mult3 (v40 : BitVec 32) : BitVec 32 :=
  let c2_i32_26 : BitVec 32 := 2#32
  let v41 : BitVec 32 := Scalar.muli v40 c2_i32_26
  v41

def k0_off6 (v40 : BitVec 32) : Fin 2 → Nat :=
  let c2_i32_26 : BitVec 32 := 2#32
  let v41 : BitVec 32 := Scalar.muli v40 c2_i32_26
  let v42 : BitVec 32 := v41
  let v43 : Index := Scalar.indexCast v42
  let c0_27 : Index := 0#32
  ![v43.toNat, 0]

def k0_chk3 (v40 : BitVec 32) : Prop :=
  (2 ∣ (k0_mult3 v40).toNat) ∧
  (∀ a, (k0_off6 v40) a + S2x128.size a ≤ S64000x128.size a)
theorem k0_mult3_dvd : ∀ (v40 : BitVec 32) (k0_hw3 : k0_chk3 v40), 2 ∣ (k0_mult3 v40).toNat := fun v40 k0_hw3 => k0_hw3.1
theorem k0_off6_inb : ∀ (v40 : BitVec 32) (k0_hw3 : k0_chk3 v40), ∀ a, (k0_off6 v40) a + S2x128.size a ≤ S64000x128.size a := fun v40 k0_hw3 => k0_hw3.2

def k0_off7 (k0_t1 : Fin k0_t1_loop.trips) : Fin 3 → Nat :=
  let c0_29 : Index := 0#32
  let c0_30 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c0_i32_28 : BitVec 32 := 0#32
  let v46 : BitVec 32 := Scalar.addi v18 c0_i32_28
  let c3_i32 : BitVec 32 := 3#32
  let v47 : BitVec 32 := Scalar.addi v46 c3_i32
  let v48 : Index := Scalar.indexCast v47
  ![0, 0, v48.toNat]
def k0_mult4 (v49 : BitVec 32) : BitVec 32 :=
  let c2_i32_31 : BitVec 32 := 2#32
  let v50 : BitVec 32 := Scalar.muli v49 c2_i32_31
  v50

def k0_off8 (v49 : BitVec 32) : Fin 2 → Nat :=
  let c2_i32_31 : BitVec 32 := 2#32
  let v50 : BitVec 32 := Scalar.muli v49 c2_i32_31
  let v51 : BitVec 32 := v50
  let v52 : Index := Scalar.indexCast v51
  let c0_32 : Index := 0#32
  ![v52.toNat, 0]

def k0_chk4 (v49 : BitVec 32) : Prop :=
  (2 ∣ (k0_mult4 v49).toNat) ∧
  (∀ a, (k0_off8 v49) a + S2x128.size a ≤ S64000x128.size a)
theorem k0_mult4_dvd : ∀ (v49 : BitVec 32) (k0_hw4 : k0_chk4 v49), 2 ∣ (k0_mult4 v49).toNat := fun v49 k0_hw4 => k0_hw4.1
theorem k0_off8_inb : ∀ (v49 : BitVec 32) (k0_hw4 : k0_chk4 v49), ∀ a, (k0_off8 v49) a + S2x128.size a ≤ S64000x128.size a := fun v49 k0_hw4 => k0_hw4.2

def k0_off9 (k0_t1 : Fin k0_t1_loop.trips) : Fin 3 → Nat :=
  let c0_34 : Index := 0#32
  let c0_35 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c0_i32_33 : BitVec 32 := 0#32
  let v55 : BitVec 32 := Scalar.addi v18 c0_i32_33
  let c4_i32 : BitVec 32 := 4#32
  let v56 : BitVec 32 := Scalar.addi v55 c4_i32
  let v57 : Index := Scalar.indexCast v56
  ![0, 0, v57.toNat]
def k0_mult5 (v58 : BitVec 32) : BitVec 32 :=
  let c2_i32_36 : BitVec 32 := 2#32
  let v59 : BitVec 32 := Scalar.muli v58 c2_i32_36
  v59

def k0_off10 (v58 : BitVec 32) : Fin 2 → Nat :=
  let c2_i32_36 : BitVec 32 := 2#32
  let v59 : BitVec 32 := Scalar.muli v58 c2_i32_36
  let v60 : BitVec 32 := v59
  let v61 : Index := Scalar.indexCast v60
  let c0_37 : Index := 0#32
  ![v61.toNat, 0]

def k0_chk5 (v58 : BitVec 32) : Prop :=
  (2 ∣ (k0_mult5 v58).toNat) ∧
  (∀ a, (k0_off10 v58) a + S2x128.size a ≤ S64000x128.size a)
theorem k0_mult5_dvd : ∀ (v58 : BitVec 32) (k0_hw5 : k0_chk5 v58), 2 ∣ (k0_mult5 v58).toNat := fun v58 k0_hw5 => k0_hw5.1
theorem k0_off10_inb : ∀ (v58 : BitVec 32) (k0_hw5 : k0_chk5 v58), ∀ a, (k0_off10 v58) a + S2x128.size a ≤ S64000x128.size a := fun v58 k0_hw5 => k0_hw5.2

def k0_off11 (k0_t1 : Fin k0_t1_loop.trips) : Fin 3 → Nat :=
  let c0_39 : Index := 0#32
  let c0_40 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c0_i32_38 : BitVec 32 := 0#32
  let v64 : BitVec 32 := Scalar.addi v18 c0_i32_38
  let c5_i32 : BitVec 32 := 5#32
  let v65 : BitVec 32 := Scalar.addi v64 c5_i32
  let v66 : Index := Scalar.indexCast v65
  ![0, 0, v66.toNat]
def k0_mult6 (v67 : BitVec 32) : BitVec 32 :=
  let c2_i32_41 : BitVec 32 := 2#32
  let v68 : BitVec 32 := Scalar.muli v67 c2_i32_41
  v68

def k0_off12 (v67 : BitVec 32) : Fin 2 → Nat :=
  let c2_i32_41 : BitVec 32 := 2#32
  let v68 : BitVec 32 := Scalar.muli v67 c2_i32_41
  let v69 : BitVec 32 := v68
  let v70 : Index := Scalar.indexCast v69
  let c0_42 : Index := 0#32
  ![v70.toNat, 0]

def k0_chk6 (v67 : BitVec 32) : Prop :=
  (2 ∣ (k0_mult6 v67).toNat) ∧
  (∀ a, (k0_off12 v67) a + S2x128.size a ≤ S64000x128.size a)
theorem k0_mult6_dvd : ∀ (v67 : BitVec 32) (k0_hw6 : k0_chk6 v67), 2 ∣ (k0_mult6 v67).toNat := fun v67 k0_hw6 => k0_hw6.1
theorem k0_off12_inb : ∀ (v67 : BitVec 32) (k0_hw6 : k0_chk6 v67), ∀ a, (k0_off12 v67) a + S2x128.size a ≤ S64000x128.size a := fun v67 k0_hw6 => k0_hw6.2

def k0_off13 (k0_t1 : Fin k0_t1_loop.trips) : Fin 3 → Nat :=
  let c0_44 : Index := 0#32
  let c0_45 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c0_i32_43 : BitVec 32 := 0#32
  let v73 : BitVec 32 := Scalar.addi v18 c0_i32_43
  let c6_i32 : BitVec 32 := 6#32
  let v74 : BitVec 32 := Scalar.addi v73 c6_i32
  let v75 : Index := Scalar.indexCast v74
  ![0, 0, v75.toNat]
def k0_mult7 (v76 : BitVec 32) : BitVec 32 :=
  let c2_i32_46 : BitVec 32 := 2#32
  let v77 : BitVec 32 := Scalar.muli v76 c2_i32_46
  v77

def k0_off14 (v76 : BitVec 32) : Fin 2 → Nat :=
  let c2_i32_46 : BitVec 32 := 2#32
  let v77 : BitVec 32 := Scalar.muli v76 c2_i32_46
  let v78 : BitVec 32 := v77
  let v79 : Index := Scalar.indexCast v78
  let c0_47 : Index := 0#32
  ![v79.toNat, 0]

def k0_chk7 (v76 : BitVec 32) : Prop :=
  (2 ∣ (k0_mult7 v76).toNat) ∧
  (∀ a, (k0_off14 v76) a + S2x128.size a ≤ S64000x128.size a)
theorem k0_mult7_dvd : ∀ (v76 : BitVec 32) (k0_hw7 : k0_chk7 v76), 2 ∣ (k0_mult7 v76).toNat := fun v76 k0_hw7 => k0_hw7.1
theorem k0_off14_inb : ∀ (v76 : BitVec 32) (k0_hw7 : k0_chk7 v76), ∀ a, (k0_off14 v76) a + S2x128.size a ≤ S64000x128.size a := fun v76 k0_hw7 => k0_hw7.2

def k0_off15 (k0_t1 : Fin k0_t1_loop.trips) : Fin 3 → Nat :=
  let c0_49 : Index := 0#32
  let c0_50 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c0_i32_48 : BitVec 32 := 0#32
  let v82 : BitVec 32 := Scalar.addi v18 c0_i32_48
  let c7_i32 : BitVec 32 := 7#32
  let v83 : BitVec 32 := Scalar.addi v82 c7_i32
  let v84 : Index := Scalar.indexCast v83
  ![0, 0, v84.toNat]
def k0_mult8 (v85 : BitVec 32) : BitVec 32 :=
  let c2_i32_51 : BitVec 32 := 2#32
  let v86 : BitVec 32 := Scalar.muli v85 c2_i32_51
  v86

def k0_off16 (v85 : BitVec 32) : Fin 2 → Nat :=
  let c2_i32_51 : BitVec 32 := 2#32
  let v86 : BitVec 32 := Scalar.muli v85 c2_i32_51
  let v87 : BitVec 32 := v86
  let v88 : Index := Scalar.indexCast v87
  let c0_52 : Index := 0#32
  ![v88.toNat, 0]

def k0_chk8 (v85 : BitVec 32) : Prop :=
  (2 ∣ (k0_mult8 v85).toNat) ∧
  (∀ a, (k0_off16 v85) a + S2x128.size a ≤ S64000x128.size a)
theorem k0_mult8_dvd : ∀ (v85 : BitVec 32) (k0_hw8 : k0_chk8 v85), 2 ∣ (k0_mult8 v85).toNat := fun v85 k0_hw8 => k0_hw8.1
theorem k0_off16_inb : ∀ (v85 : BitVec 32) (k0_hw8 : k0_chk8 v85), ∀ a, (k0_off16 v85) a + S2x128.size a ≤ S64000x128.size a := fun v85 k0_hw8 => k0_hw8.2

def k0_mult9 (k0_t1 : Fin k0_t1_loop.trips) : BitVec 32 :=
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c0_i32_53 : BitVec 32 := 0#32
  let v109 : BitVec 32 := Scalar.addi v18 c0_i32_53
  v109
def k0_off17 (k0_t1 : Fin k0_t1_loop.trips) : Fin 2 → Nat :=
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c0_i32_53 : BitVec 32 := 0#32
  let v109 : BitVec 32 := Scalar.addi v18 c0_i32_53
  let v110 : BitVec 32 := v109
  let v111 : Index := Scalar.indexCast v110
  let c0_54 : Index := 0#32
  ![v111.toNat, 0]
def k0_off18 (k0_t1 : Fin k0_t1_loop.trips) : Fin 3 → Nat :=
  let c0_57 : Index := 0#32
  let c0_58 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c8_i32 : BitVec 32 := 8#32
  let v119 : BitVec 32 := Scalar.addi v18 c8_i32
  let c0_i32_56 : BitVec 32 := 0#32
  let v120 : BitVec 32 := Scalar.addi v119 c0_i32_56
  let v121 : Index := Scalar.indexCast v120
  ![0, 0, v121.toNat]
def k0_mult10 (v122 : BitVec 32) : BitVec 32 :=
  let c2_i32_59 : BitVec 32 := 2#32
  let v123 : BitVec 32 := Scalar.muli v122 c2_i32_59
  v123

def k0_off19 (v122 : BitVec 32) : Fin 2 → Nat :=
  let c2_i32_59 : BitVec 32 := 2#32
  let v123 : BitVec 32 := Scalar.muli v122 c2_i32_59
  let v124 : BitVec 32 := v123
  let v125 : Index := Scalar.indexCast v124
  let c0_60 : Index := 0#32
  ![v125.toNat, 0]

def k0_chk9 (v122 : BitVec 32) : Prop :=
  (2 ∣ (k0_mult10 v122).toNat) ∧
  (∀ a, (k0_off19 v122) a + S2x128.size a ≤ S64000x128.size a)
theorem k0_mult10_dvd : ∀ (v122 : BitVec 32) (k0_hw9 : k0_chk9 v122), 2 ∣ (k0_mult10 v122).toNat := fun v122 k0_hw9 => k0_hw9.1
theorem k0_off19_inb : ∀ (v122 : BitVec 32) (k0_hw9 : k0_chk9 v122), ∀ a, (k0_off19 v122) a + S2x128.size a ≤ S64000x128.size a := fun v122 k0_hw9 => k0_hw9.2

def k0_off20 (k0_t1 : Fin k0_t1_loop.trips) : Fin 3 → Nat :=
  let c0_63 : Index := 0#32
  let c0_64 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c8_i32_61 : BitVec 32 := 8#32
  let v128 : BitVec 32 := Scalar.addi v18 c8_i32_61
  let c1_i32_62 : BitVec 32 := 1#32
  let v129 : BitVec 32 := Scalar.addi v128 c1_i32_62
  let v130 : Index := Scalar.indexCast v129
  ![0, 0, v130.toNat]
def k0_mult11 (v131 : BitVec 32) : BitVec 32 :=
  let c2_i32_65 : BitVec 32 := 2#32
  let v132 : BitVec 32 := Scalar.muli v131 c2_i32_65
  v132

def k0_off21 (v131 : BitVec 32) : Fin 2 → Nat :=
  let c2_i32_65 : BitVec 32 := 2#32
  let v132 : BitVec 32 := Scalar.muli v131 c2_i32_65
  let v133 : BitVec 32 := v132
  let v134 : Index := Scalar.indexCast v133
  let c0_66 : Index := 0#32
  ![v134.toNat, 0]

def k0_chk10 (v131 : BitVec 32) : Prop :=
  (2 ∣ (k0_mult11 v131).toNat) ∧
  (∀ a, (k0_off21 v131) a + S2x128.size a ≤ S64000x128.size a)
theorem k0_mult11_dvd : ∀ (v131 : BitVec 32) (k0_hw10 : k0_chk10 v131), 2 ∣ (k0_mult11 v131).toNat := fun v131 k0_hw10 => k0_hw10.1
theorem k0_off21_inb : ∀ (v131 : BitVec 32) (k0_hw10 : k0_chk10 v131), ∀ a, (k0_off21 v131) a + S2x128.size a ≤ S64000x128.size a := fun v131 k0_hw10 => k0_hw10.2

def k0_off22 (k0_t1 : Fin k0_t1_loop.trips) : Fin 3 → Nat :=
  let c0_69 : Index := 0#32
  let c0_70 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c8_i32_67 : BitVec 32 := 8#32
  let v137 : BitVec 32 := Scalar.addi v18 c8_i32_67
  let c2_i32_68 : BitVec 32 := 2#32
  let v138 : BitVec 32 := Scalar.addi v137 c2_i32_68
  let v139 : Index := Scalar.indexCast v138
  ![0, 0, v139.toNat]
def k0_mult12 (v140 : BitVec 32) : BitVec 32 :=
  let c2_i32_71 : BitVec 32 := 2#32
  let v141 : BitVec 32 := Scalar.muli v140 c2_i32_71
  v141

def k0_off23 (v140 : BitVec 32) : Fin 2 → Nat :=
  let c2_i32_71 : BitVec 32 := 2#32
  let v141 : BitVec 32 := Scalar.muli v140 c2_i32_71
  let v142 : BitVec 32 := v141
  let v143 : Index := Scalar.indexCast v142
  let c0_72 : Index := 0#32
  ![v143.toNat, 0]

def k0_chk11 (v140 : BitVec 32) : Prop :=
  (2 ∣ (k0_mult12 v140).toNat) ∧
  (∀ a, (k0_off23 v140) a + S2x128.size a ≤ S64000x128.size a)
theorem k0_mult12_dvd : ∀ (v140 : BitVec 32) (k0_hw11 : k0_chk11 v140), 2 ∣ (k0_mult12 v140).toNat := fun v140 k0_hw11 => k0_hw11.1
theorem k0_off23_inb : ∀ (v140 : BitVec 32) (k0_hw11 : k0_chk11 v140), ∀ a, (k0_off23 v140) a + S2x128.size a ≤ S64000x128.size a := fun v140 k0_hw11 => k0_hw11.2

def k0_off24 (k0_t1 : Fin k0_t1_loop.trips) : Fin 3 → Nat :=
  let c0_75 : Index := 0#32
  let c0_76 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c8_i32_73 : BitVec 32 := 8#32
  let v146 : BitVec 32 := Scalar.addi v18 c8_i32_73
  let c3_i32_74 : BitVec 32 := 3#32
  let v147 : BitVec 32 := Scalar.addi v146 c3_i32_74
  let v148 : Index := Scalar.indexCast v147
  ![0, 0, v148.toNat]
def k0_mult13 (v149 : BitVec 32) : BitVec 32 :=
  let c2_i32_77 : BitVec 32 := 2#32
  let v150 : BitVec 32 := Scalar.muli v149 c2_i32_77
  v150

def k0_off25 (v149 : BitVec 32) : Fin 2 → Nat :=
  let c2_i32_77 : BitVec 32 := 2#32
  let v150 : BitVec 32 := Scalar.muli v149 c2_i32_77
  let v151 : BitVec 32 := v150
  let v152 : Index := Scalar.indexCast v151
  let c0_78 : Index := 0#32
  ![v152.toNat, 0]

def k0_chk12 (v149 : BitVec 32) : Prop :=
  (2 ∣ (k0_mult13 v149).toNat) ∧
  (∀ a, (k0_off25 v149) a + S2x128.size a ≤ S64000x128.size a)
theorem k0_mult13_dvd : ∀ (v149 : BitVec 32) (k0_hw12 : k0_chk12 v149), 2 ∣ (k0_mult13 v149).toNat := fun v149 k0_hw12 => k0_hw12.1
theorem k0_off25_inb : ∀ (v149 : BitVec 32) (k0_hw12 : k0_chk12 v149), ∀ a, (k0_off25 v149) a + S2x128.size a ≤ S64000x128.size a := fun v149 k0_hw12 => k0_hw12.2

def k0_off26 (k0_t1 : Fin k0_t1_loop.trips) : Fin 3 → Nat :=
  let c0_81 : Index := 0#32
  let c0_82 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c8_i32_79 : BitVec 32 := 8#32
  let v155 : BitVec 32 := Scalar.addi v18 c8_i32_79
  let c4_i32_80 : BitVec 32 := 4#32
  let v156 : BitVec 32 := Scalar.addi v155 c4_i32_80
  let v157 : Index := Scalar.indexCast v156
  ![0, 0, v157.toNat]
def k0_mult14 (v158 : BitVec 32) : BitVec 32 :=
  let c2_i32_83 : BitVec 32 := 2#32
  let v159 : BitVec 32 := Scalar.muli v158 c2_i32_83
  v159

def k0_off27 (v158 : BitVec 32) : Fin 2 → Nat :=
  let c2_i32_83 : BitVec 32 := 2#32
  let v159 : BitVec 32 := Scalar.muli v158 c2_i32_83
  let v160 : BitVec 32 := v159
  let v161 : Index := Scalar.indexCast v160
  let c0_84 : Index := 0#32
  ![v161.toNat, 0]

def k0_chk13 (v158 : BitVec 32) : Prop :=
  (2 ∣ (k0_mult14 v158).toNat) ∧
  (∀ a, (k0_off27 v158) a + S2x128.size a ≤ S64000x128.size a)
theorem k0_mult14_dvd : ∀ (v158 : BitVec 32) (k0_hw13 : k0_chk13 v158), 2 ∣ (k0_mult14 v158).toNat := fun v158 k0_hw13 => k0_hw13.1
theorem k0_off27_inb : ∀ (v158 : BitVec 32) (k0_hw13 : k0_chk13 v158), ∀ a, (k0_off27 v158) a + S2x128.size a ≤ S64000x128.size a := fun v158 k0_hw13 => k0_hw13.2

def k0_off28 (k0_t1 : Fin k0_t1_loop.trips) : Fin 3 → Nat :=
  let c0_87 : Index := 0#32
  let c0_88 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c8_i32_85 : BitVec 32 := 8#32
  let v164 : BitVec 32 := Scalar.addi v18 c8_i32_85
  let c5_i32_86 : BitVec 32 := 5#32
  let v165 : BitVec 32 := Scalar.addi v164 c5_i32_86
  let v166 : Index := Scalar.indexCast v165
  ![0, 0, v166.toNat]
def k0_mult15 (v167 : BitVec 32) : BitVec 32 :=
  let c2_i32_89 : BitVec 32 := 2#32
  let v168 : BitVec 32 := Scalar.muli v167 c2_i32_89
  v168

def k0_off29 (v167 : BitVec 32) : Fin 2 → Nat :=
  let c2_i32_89 : BitVec 32 := 2#32
  let v168 : BitVec 32 := Scalar.muli v167 c2_i32_89
  let v169 : BitVec 32 := v168
  let v170 : Index := Scalar.indexCast v169
  let c0_90 : Index := 0#32
  ![v170.toNat, 0]

def k0_chk14 (v167 : BitVec 32) : Prop :=
  (2 ∣ (k0_mult15 v167).toNat) ∧
  (∀ a, (k0_off29 v167) a + S2x128.size a ≤ S64000x128.size a)
theorem k0_mult15_dvd : ∀ (v167 : BitVec 32) (k0_hw14 : k0_chk14 v167), 2 ∣ (k0_mult15 v167).toNat := fun v167 k0_hw14 => k0_hw14.1
theorem k0_off29_inb : ∀ (v167 : BitVec 32) (k0_hw14 : k0_chk14 v167), ∀ a, (k0_off29 v167) a + S2x128.size a ≤ S64000x128.size a := fun v167 k0_hw14 => k0_hw14.2

def k0_off30 (k0_t1 : Fin k0_t1_loop.trips) : Fin 3 → Nat :=
  let c0_93 : Index := 0#32
  let c0_94 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c8_i32_91 : BitVec 32 := 8#32
  let v173 : BitVec 32 := Scalar.addi v18 c8_i32_91
  let c6_i32_92 : BitVec 32 := 6#32
  let v174 : BitVec 32 := Scalar.addi v173 c6_i32_92
  let v175 : Index := Scalar.indexCast v174
  ![0, 0, v175.toNat]
def k0_mult16 (v176 : BitVec 32) : BitVec 32 :=
  let c2_i32_95 : BitVec 32 := 2#32
  let v177 : BitVec 32 := Scalar.muli v176 c2_i32_95
  v177

def k0_off31 (v176 : BitVec 32) : Fin 2 → Nat :=
  let c2_i32_95 : BitVec 32 := 2#32
  let v177 : BitVec 32 := Scalar.muli v176 c2_i32_95
  let v178 : BitVec 32 := v177
  let v179 : Index := Scalar.indexCast v178
  let c0_96 : Index := 0#32
  ![v179.toNat, 0]

def k0_chk15 (v176 : BitVec 32) : Prop :=
  (2 ∣ (k0_mult16 v176).toNat) ∧
  (∀ a, (k0_off31 v176) a + S2x128.size a ≤ S64000x128.size a)
theorem k0_mult16_dvd : ∀ (v176 : BitVec 32) (k0_hw15 : k0_chk15 v176), 2 ∣ (k0_mult16 v176).toNat := fun v176 k0_hw15 => k0_hw15.1
theorem k0_off31_inb : ∀ (v176 : BitVec 32) (k0_hw15 : k0_chk15 v176), ∀ a, (k0_off31 v176) a + S2x128.size a ≤ S64000x128.size a := fun v176 k0_hw15 => k0_hw15.2

def k0_off32 (k0_t1 : Fin k0_t1_loop.trips) : Fin 3 → Nat :=
  let c0_99 : Index := 0#32
  let c0_100 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c8_i32_97 : BitVec 32 := 8#32
  let v182 : BitVec 32 := Scalar.addi v18 c8_i32_97
  let c7_i32_98 : BitVec 32 := 7#32
  let v183 : BitVec 32 := Scalar.addi v182 c7_i32_98
  let v184 : Index := Scalar.indexCast v183
  ![0, 0, v184.toNat]
def k0_mult17 (v185 : BitVec 32) : BitVec 32 :=
  let c2_i32_101 : BitVec 32 := 2#32
  let v186 : BitVec 32 := Scalar.muli v185 c2_i32_101
  v186

def k0_off33 (v185 : BitVec 32) : Fin 2 → Nat :=
  let c2_i32_101 : BitVec 32 := 2#32
  let v186 : BitVec 32 := Scalar.muli v185 c2_i32_101
  let v187 : BitVec 32 := v186
  let v188 : Index := Scalar.indexCast v187
  let c0_102 : Index := 0#32
  ![v188.toNat, 0]

def k0_chk16 (v185 : BitVec 32) : Prop :=
  (2 ∣ (k0_mult17 v185).toNat) ∧
  (∀ a, (k0_off33 v185) a + S2x128.size a ≤ S64000x128.size a)
theorem k0_mult17_dvd : ∀ (v185 : BitVec 32) (k0_hw16 : k0_chk16 v185), 2 ∣ (k0_mult17 v185).toNat := fun v185 k0_hw16 => k0_hw16.1
theorem k0_off33_inb : ∀ (v185 : BitVec 32) (k0_hw16 : k0_chk16 v185), ∀ a, (k0_off33 v185) a + S2x128.size a ≤ S64000x128.size a := fun v185 k0_hw16 => k0_hw16.2

def k0_mult18 (k0_t1 : Fin k0_t1_loop.trips) : BitVec 32 :=
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c8_i32_103 : BitVec 32 := 8#32
  let v209 : BitVec 32 := Scalar.addi v18 c8_i32_103
  v209
def k0_off34 (k0_t1 : Fin k0_t1_loop.trips) : Fin 2 → Nat :=
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c8_i32_103 : BitVec 32 := 8#32
  let v209 : BitVec 32 := Scalar.addi v18 c8_i32_103
  let v210 : BitVec 32 := v209
  let v211 : Index := Scalar.indexCast v210
  let c0_104 : Index := 0#32
  ![v211.toNat, 0]
def k0_off35 (k0_t1 : Fin k0_t1_loop.trips) : Fin 3 → Nat :=
  let c0_107 : Index := 0#32
  let c0_108 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c16_i32 : BitVec 32 := 16#32
  let v219 : BitVec 32 := Scalar.addi v18 c16_i32
  let c0_i32_106 : BitVec 32 := 0#32
  let v220 : BitVec 32 := Scalar.addi v219 c0_i32_106
  let v221 : Index := Scalar.indexCast v220
  ![0, 0, v221.toNat]
def k0_mult19 (v222 : BitVec 32) : BitVec 32 :=
  let c2_i32_109 : BitVec 32 := 2#32
  let v223 : BitVec 32 := Scalar.muli v222 c2_i32_109
  v223

def k0_off36 (v222 : BitVec 32) : Fin 2 → Nat :=
  let c2_i32_109 : BitVec 32 := 2#32
  let v223 : BitVec 32 := Scalar.muli v222 c2_i32_109
  let v224 : BitVec 32 := v223
  let v225 : Index := Scalar.indexCast v224
  let c0_110 : Index := 0#32
  ![v225.toNat, 0]

def k0_chk17 (v222 : BitVec 32) : Prop :=
  (2 ∣ (k0_mult19 v222).toNat) ∧
  (∀ a, (k0_off36 v222) a + S2x128.size a ≤ S64000x128.size a)
theorem k0_mult19_dvd : ∀ (v222 : BitVec 32) (k0_hw17 : k0_chk17 v222), 2 ∣ (k0_mult19 v222).toNat := fun v222 k0_hw17 => k0_hw17.1
theorem k0_off36_inb : ∀ (v222 : BitVec 32) (k0_hw17 : k0_chk17 v222), ∀ a, (k0_off36 v222) a + S2x128.size a ≤ S64000x128.size a := fun v222 k0_hw17 => k0_hw17.2

def k0_off37 (k0_t1 : Fin k0_t1_loop.trips) : Fin 3 → Nat :=
  let c0_113 : Index := 0#32
  let c0_114 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c16_i32_111 : BitVec 32 := 16#32
  let v228 : BitVec 32 := Scalar.addi v18 c16_i32_111
  let c1_i32_112 : BitVec 32 := 1#32
  let v229 : BitVec 32 := Scalar.addi v228 c1_i32_112
  let v230 : Index := Scalar.indexCast v229
  ![0, 0, v230.toNat]
def k0_mult20 (v231 : BitVec 32) : BitVec 32 :=
  let c2_i32_115 : BitVec 32 := 2#32
  let v232 : BitVec 32 := Scalar.muli v231 c2_i32_115
  v232

def k0_off38 (v231 : BitVec 32) : Fin 2 → Nat :=
  let c2_i32_115 : BitVec 32 := 2#32
  let v232 : BitVec 32 := Scalar.muli v231 c2_i32_115
  let v233 : BitVec 32 := v232
  let v234 : Index := Scalar.indexCast v233
  let c0_116 : Index := 0#32
  ![v234.toNat, 0]

def k0_chk18 (v231 : BitVec 32) : Prop :=
  (2 ∣ (k0_mult20 v231).toNat) ∧
  (∀ a, (k0_off38 v231) a + S2x128.size a ≤ S64000x128.size a)
theorem k0_mult20_dvd : ∀ (v231 : BitVec 32) (k0_hw18 : k0_chk18 v231), 2 ∣ (k0_mult20 v231).toNat := fun v231 k0_hw18 => k0_hw18.1
theorem k0_off38_inb : ∀ (v231 : BitVec 32) (k0_hw18 : k0_chk18 v231), ∀ a, (k0_off38 v231) a + S2x128.size a ≤ S64000x128.size a := fun v231 k0_hw18 => k0_hw18.2

def k0_off39 (k0_t1 : Fin k0_t1_loop.trips) : Fin 3 → Nat :=
  let c0_119 : Index := 0#32
  let c0_120 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c16_i32_117 : BitVec 32 := 16#32
  let v237 : BitVec 32 := Scalar.addi v18 c16_i32_117
  let c2_i32_118 : BitVec 32 := 2#32
  let v238 : BitVec 32 := Scalar.addi v237 c2_i32_118
  let v239 : Index := Scalar.indexCast v238
  ![0, 0, v239.toNat]
def k0_mult21 (v240 : BitVec 32) : BitVec 32 :=
  let c2_i32_121 : BitVec 32 := 2#32
  let v241 : BitVec 32 := Scalar.muli v240 c2_i32_121
  v241

def k0_off40 (v240 : BitVec 32) : Fin 2 → Nat :=
  let c2_i32_121 : BitVec 32 := 2#32
  let v241 : BitVec 32 := Scalar.muli v240 c2_i32_121
  let v242 : BitVec 32 := v241
  let v243 : Index := Scalar.indexCast v242
  let c0_122 : Index := 0#32
  ![v243.toNat, 0]

def k0_chk19 (v240 : BitVec 32) : Prop :=
  (2 ∣ (k0_mult21 v240).toNat) ∧
  (∀ a, (k0_off40 v240) a + S2x128.size a ≤ S64000x128.size a)
theorem k0_mult21_dvd : ∀ (v240 : BitVec 32) (k0_hw19 : k0_chk19 v240), 2 ∣ (k0_mult21 v240).toNat := fun v240 k0_hw19 => k0_hw19.1
theorem k0_off40_inb : ∀ (v240 : BitVec 32) (k0_hw19 : k0_chk19 v240), ∀ a, (k0_off40 v240) a + S2x128.size a ≤ S64000x128.size a := fun v240 k0_hw19 => k0_hw19.2

def k0_off41 (k0_t1 : Fin k0_t1_loop.trips) : Fin 3 → Nat :=
  let c0_125 : Index := 0#32
  let c0_126 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c16_i32_123 : BitVec 32 := 16#32
  let v246 : BitVec 32 := Scalar.addi v18 c16_i32_123
  let c3_i32_124 : BitVec 32 := 3#32
  let v247 : BitVec 32 := Scalar.addi v246 c3_i32_124
  let v248 : Index := Scalar.indexCast v247
  ![0, 0, v248.toNat]
def k0_mult22 (v249 : BitVec 32) : BitVec 32 :=
  let c2_i32_127 : BitVec 32 := 2#32
  let v250 : BitVec 32 := Scalar.muli v249 c2_i32_127
  v250

def k0_off42 (v249 : BitVec 32) : Fin 2 → Nat :=
  let c2_i32_127 : BitVec 32 := 2#32
  let v250 : BitVec 32 := Scalar.muli v249 c2_i32_127
  let v251 : BitVec 32 := v250
  let v252 : Index := Scalar.indexCast v251
  let c0_128 : Index := 0#32
  ![v252.toNat, 0]

def k0_chk20 (v249 : BitVec 32) : Prop :=
  (2 ∣ (k0_mult22 v249).toNat) ∧
  (∀ a, (k0_off42 v249) a + S2x128.size a ≤ S64000x128.size a)
theorem k0_mult22_dvd : ∀ (v249 : BitVec 32) (k0_hw20 : k0_chk20 v249), 2 ∣ (k0_mult22 v249).toNat := fun v249 k0_hw20 => k0_hw20.1
theorem k0_off42_inb : ∀ (v249 : BitVec 32) (k0_hw20 : k0_chk20 v249), ∀ a, (k0_off42 v249) a + S2x128.size a ≤ S64000x128.size a := fun v249 k0_hw20 => k0_hw20.2

def k0_off43 (k0_t1 : Fin k0_t1_loop.trips) : Fin 3 → Nat :=
  let c0_131 : Index := 0#32
  let c0_132 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c16_i32_129 : BitVec 32 := 16#32
  let v255 : BitVec 32 := Scalar.addi v18 c16_i32_129
  let c4_i32_130 : BitVec 32 := 4#32
  let v256 : BitVec 32 := Scalar.addi v255 c4_i32_130
  let v257 : Index := Scalar.indexCast v256
  ![0, 0, v257.toNat]
def k0_mult23 (v258 : BitVec 32) : BitVec 32 :=
  let c2_i32_133 : BitVec 32 := 2#32
  let v259 : BitVec 32 := Scalar.muli v258 c2_i32_133
  v259

def k0_off44 (v258 : BitVec 32) : Fin 2 → Nat :=
  let c2_i32_133 : BitVec 32 := 2#32
  let v259 : BitVec 32 := Scalar.muli v258 c2_i32_133
  let v260 : BitVec 32 := v259
  let v261 : Index := Scalar.indexCast v260
  let c0_134 : Index := 0#32
  ![v261.toNat, 0]

def k0_chk21 (v258 : BitVec 32) : Prop :=
  (2 ∣ (k0_mult23 v258).toNat) ∧
  (∀ a, (k0_off44 v258) a + S2x128.size a ≤ S64000x128.size a)
theorem k0_mult23_dvd : ∀ (v258 : BitVec 32) (k0_hw21 : k0_chk21 v258), 2 ∣ (k0_mult23 v258).toNat := fun v258 k0_hw21 => k0_hw21.1
theorem k0_off44_inb : ∀ (v258 : BitVec 32) (k0_hw21 : k0_chk21 v258), ∀ a, (k0_off44 v258) a + S2x128.size a ≤ S64000x128.size a := fun v258 k0_hw21 => k0_hw21.2

def k0_off45 (k0_t1 : Fin k0_t1_loop.trips) : Fin 3 → Nat :=
  let c0_137 : Index := 0#32
  let c0_138 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c16_i32_135 : BitVec 32 := 16#32
  let v264 : BitVec 32 := Scalar.addi v18 c16_i32_135
  let c5_i32_136 : BitVec 32 := 5#32
  let v265 : BitVec 32 := Scalar.addi v264 c5_i32_136
  let v266 : Index := Scalar.indexCast v265
  ![0, 0, v266.toNat]
def k0_mult24 (v267 : BitVec 32) : BitVec 32 :=
  let c2_i32_139 : BitVec 32 := 2#32
  let v268 : BitVec 32 := Scalar.muli v267 c2_i32_139
  v268

def k0_off46 (v267 : BitVec 32) : Fin 2 → Nat :=
  let c2_i32_139 : BitVec 32 := 2#32
  let v268 : BitVec 32 := Scalar.muli v267 c2_i32_139
  let v269 : BitVec 32 := v268
  let v270 : Index := Scalar.indexCast v269
  let c0_140 : Index := 0#32
  ![v270.toNat, 0]

def k0_chk22 (v267 : BitVec 32) : Prop :=
  (2 ∣ (k0_mult24 v267).toNat) ∧
  (∀ a, (k0_off46 v267) a + S2x128.size a ≤ S64000x128.size a)
theorem k0_mult24_dvd : ∀ (v267 : BitVec 32) (k0_hw22 : k0_chk22 v267), 2 ∣ (k0_mult24 v267).toNat := fun v267 k0_hw22 => k0_hw22.1
theorem k0_off46_inb : ∀ (v267 : BitVec 32) (k0_hw22 : k0_chk22 v267), ∀ a, (k0_off46 v267) a + S2x128.size a ≤ S64000x128.size a := fun v267 k0_hw22 => k0_hw22.2

def k0_off47 (k0_t1 : Fin k0_t1_loop.trips) : Fin 3 → Nat :=
  let c0_143 : Index := 0#32
  let c0_144 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c16_i32_141 : BitVec 32 := 16#32
  let v273 : BitVec 32 := Scalar.addi v18 c16_i32_141
  let c6_i32_142 : BitVec 32 := 6#32
  let v274 : BitVec 32 := Scalar.addi v273 c6_i32_142
  let v275 : Index := Scalar.indexCast v274
  ![0, 0, v275.toNat]
def k0_mult25 (v276 : BitVec 32) : BitVec 32 :=
  let c2_i32_145 : BitVec 32 := 2#32
  let v277 : BitVec 32 := Scalar.muli v276 c2_i32_145
  v277

def k0_off48 (v276 : BitVec 32) : Fin 2 → Nat :=
  let c2_i32_145 : BitVec 32 := 2#32
  let v277 : BitVec 32 := Scalar.muli v276 c2_i32_145
  let v278 : BitVec 32 := v277
  let v279 : Index := Scalar.indexCast v278
  let c0_146 : Index := 0#32
  ![v279.toNat, 0]

def k0_chk23 (v276 : BitVec 32) : Prop :=
  (2 ∣ (k0_mult25 v276).toNat) ∧
  (∀ a, (k0_off48 v276) a + S2x128.size a ≤ S64000x128.size a)
theorem k0_mult25_dvd : ∀ (v276 : BitVec 32) (k0_hw23 : k0_chk23 v276), 2 ∣ (k0_mult25 v276).toNat := fun v276 k0_hw23 => k0_hw23.1
theorem k0_off48_inb : ∀ (v276 : BitVec 32) (k0_hw23 : k0_chk23 v276), ∀ a, (k0_off48 v276) a + S2x128.size a ≤ S64000x128.size a := fun v276 k0_hw23 => k0_hw23.2

def k0_off49 (k0_t1 : Fin k0_t1_loop.trips) : Fin 3 → Nat :=
  let c0_149 : Index := 0#32
  let c0_150 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c16_i32_147 : BitVec 32 := 16#32
  let v282 : BitVec 32 := Scalar.addi v18 c16_i32_147
  let c7_i32_148 : BitVec 32 := 7#32
  let v283 : BitVec 32 := Scalar.addi v282 c7_i32_148
  let v284 : Index := Scalar.indexCast v283
  ![0, 0, v284.toNat]
def k0_mult26 (v285 : BitVec 32) : BitVec 32 :=
  let c2_i32_151 : BitVec 32 := 2#32
  let v286 : BitVec 32 := Scalar.muli v285 c2_i32_151
  v286

def k0_off50 (v285 : BitVec 32) : Fin 2 → Nat :=
  let c2_i32_151 : BitVec 32 := 2#32
  let v286 : BitVec 32 := Scalar.muli v285 c2_i32_151
  let v287 : BitVec 32 := v286
  let v288 : Index := Scalar.indexCast v287
  let c0_152 : Index := 0#32
  ![v288.toNat, 0]

def k0_chk24 (v285 : BitVec 32) : Prop :=
  (2 ∣ (k0_mult26 v285).toNat) ∧
  (∀ a, (k0_off50 v285) a + S2x128.size a ≤ S64000x128.size a)
theorem k0_mult26_dvd : ∀ (v285 : BitVec 32) (k0_hw24 : k0_chk24 v285), 2 ∣ (k0_mult26 v285).toNat := fun v285 k0_hw24 => k0_hw24.1
theorem k0_off50_inb : ∀ (v285 : BitVec 32) (k0_hw24 : k0_chk24 v285), ∀ a, (k0_off50 v285) a + S2x128.size a ≤ S64000x128.size a := fun v285 k0_hw24 => k0_hw24.2

def k0_mult27 (k0_t1 : Fin k0_t1_loop.trips) : BitVec 32 :=
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c16_i32_153 : BitVec 32 := 16#32
  let v309 : BitVec 32 := Scalar.addi v18 c16_i32_153
  v309
def k0_off51 (k0_t1 : Fin k0_t1_loop.trips) : Fin 2 → Nat :=
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c16_i32_153 : BitVec 32 := 16#32
  let v309 : BitVec 32 := Scalar.addi v18 c16_i32_153
  let v310 : BitVec 32 := v309
  let v311 : Index := Scalar.indexCast v310
  let c0_154 : Index := 0#32
  ![v311.toNat, 0]
def k0_off52 (k0_t1 : Fin k0_t1_loop.trips) : Fin 3 → Nat :=
  let c0_157 : Index := 0#32
  let c0_158 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c24_i32 : BitVec 32 := 24#32
  let v319 : BitVec 32 := Scalar.addi v18 c24_i32
  let c0_i32_156 : BitVec 32 := 0#32
  let v320 : BitVec 32 := Scalar.addi v319 c0_i32_156
  let v321 : Index := Scalar.indexCast v320
  ![0, 0, v321.toNat]
def k0_mult28 (v322 : BitVec 32) : BitVec 32 :=
  let c2_i32_159 : BitVec 32 := 2#32
  let v323 : BitVec 32 := Scalar.muli v322 c2_i32_159
  v323

def k0_off53 (v322 : BitVec 32) : Fin 2 → Nat :=
  let c2_i32_159 : BitVec 32 := 2#32
  let v323 : BitVec 32 := Scalar.muli v322 c2_i32_159
  let v324 : BitVec 32 := v323
  let v325 : Index := Scalar.indexCast v324
  let c0_160 : Index := 0#32
  ![v325.toNat, 0]

def k0_chk25 (v322 : BitVec 32) : Prop :=
  (2 ∣ (k0_mult28 v322).toNat) ∧
  (∀ a, (k0_off53 v322) a + S2x128.size a ≤ S64000x128.size a)
theorem k0_mult28_dvd : ∀ (v322 : BitVec 32) (k0_hw25 : k0_chk25 v322), 2 ∣ (k0_mult28 v322).toNat := fun v322 k0_hw25 => k0_hw25.1
theorem k0_off53_inb : ∀ (v322 : BitVec 32) (k0_hw25 : k0_chk25 v322), ∀ a, (k0_off53 v322) a + S2x128.size a ≤ S64000x128.size a := fun v322 k0_hw25 => k0_hw25.2

def k0_off54 (k0_t1 : Fin k0_t1_loop.trips) : Fin 3 → Nat :=
  let c0_163 : Index := 0#32
  let c0_164 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c24_i32_161 : BitVec 32 := 24#32
  let v328 : BitVec 32 := Scalar.addi v18 c24_i32_161
  let c1_i32_162 : BitVec 32 := 1#32
  let v329 : BitVec 32 := Scalar.addi v328 c1_i32_162
  let v330 : Index := Scalar.indexCast v329
  ![0, 0, v330.toNat]
def k0_mult29 (v331 : BitVec 32) : BitVec 32 :=
  let c2_i32_165 : BitVec 32 := 2#32
  let v332 : BitVec 32 := Scalar.muli v331 c2_i32_165
  v332

def k0_off55 (v331 : BitVec 32) : Fin 2 → Nat :=
  let c2_i32_165 : BitVec 32 := 2#32
  let v332 : BitVec 32 := Scalar.muli v331 c2_i32_165
  let v333 : BitVec 32 := v332
  let v334 : Index := Scalar.indexCast v333
  let c0_166 : Index := 0#32
  ![v334.toNat, 0]

def k0_chk26 (v331 : BitVec 32) : Prop :=
  (2 ∣ (k0_mult29 v331).toNat) ∧
  (∀ a, (k0_off55 v331) a + S2x128.size a ≤ S64000x128.size a)
theorem k0_mult29_dvd : ∀ (v331 : BitVec 32) (k0_hw26 : k0_chk26 v331), 2 ∣ (k0_mult29 v331).toNat := fun v331 k0_hw26 => k0_hw26.1
theorem k0_off55_inb : ∀ (v331 : BitVec 32) (k0_hw26 : k0_chk26 v331), ∀ a, (k0_off55 v331) a + S2x128.size a ≤ S64000x128.size a := fun v331 k0_hw26 => k0_hw26.2

def k0_off56 (k0_t1 : Fin k0_t1_loop.trips) : Fin 3 → Nat :=
  let c0_169 : Index := 0#32
  let c0_170 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c24_i32_167 : BitVec 32 := 24#32
  let v337 : BitVec 32 := Scalar.addi v18 c24_i32_167
  let c2_i32_168 : BitVec 32 := 2#32
  let v338 : BitVec 32 := Scalar.addi v337 c2_i32_168
  let v339 : Index := Scalar.indexCast v338
  ![0, 0, v339.toNat]
def k0_mult30 (v340 : BitVec 32) : BitVec 32 :=
  let c2_i32_171 : BitVec 32 := 2#32
  let v341 : BitVec 32 := Scalar.muli v340 c2_i32_171
  v341

def k0_off57 (v340 : BitVec 32) : Fin 2 → Nat :=
  let c2_i32_171 : BitVec 32 := 2#32
  let v341 : BitVec 32 := Scalar.muli v340 c2_i32_171
  let v342 : BitVec 32 := v341
  let v343 : Index := Scalar.indexCast v342
  let c0_172 : Index := 0#32
  ![v343.toNat, 0]

def k0_chk27 (v340 : BitVec 32) : Prop :=
  (2 ∣ (k0_mult30 v340).toNat) ∧
  (∀ a, (k0_off57 v340) a + S2x128.size a ≤ S64000x128.size a)
theorem k0_mult30_dvd : ∀ (v340 : BitVec 32) (k0_hw27 : k0_chk27 v340), 2 ∣ (k0_mult30 v340).toNat := fun v340 k0_hw27 => k0_hw27.1
theorem k0_off57_inb : ∀ (v340 : BitVec 32) (k0_hw27 : k0_chk27 v340), ∀ a, (k0_off57 v340) a + S2x128.size a ≤ S64000x128.size a := fun v340 k0_hw27 => k0_hw27.2

def k0_off58 (k0_t1 : Fin k0_t1_loop.trips) : Fin 3 → Nat :=
  let c0_175 : Index := 0#32
  let c0_176 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c24_i32_173 : BitVec 32 := 24#32
  let v346 : BitVec 32 := Scalar.addi v18 c24_i32_173
  let c3_i32_174 : BitVec 32 := 3#32
  let v347 : BitVec 32 := Scalar.addi v346 c3_i32_174
  let v348 : Index := Scalar.indexCast v347
  ![0, 0, v348.toNat]
def k0_mult31 (v349 : BitVec 32) : BitVec 32 :=
  let c2_i32_177 : BitVec 32 := 2#32
  let v350 : BitVec 32 := Scalar.muli v349 c2_i32_177
  v350

def k0_off59 (v349 : BitVec 32) : Fin 2 → Nat :=
  let c2_i32_177 : BitVec 32 := 2#32
  let v350 : BitVec 32 := Scalar.muli v349 c2_i32_177
  let v351 : BitVec 32 := v350
  let v352 : Index := Scalar.indexCast v351
  let c0_178 : Index := 0#32
  ![v352.toNat, 0]

def k0_chk28 (v349 : BitVec 32) : Prop :=
  (2 ∣ (k0_mult31 v349).toNat) ∧
  (∀ a, (k0_off59 v349) a + S2x128.size a ≤ S64000x128.size a)
theorem k0_mult31_dvd : ∀ (v349 : BitVec 32) (k0_hw28 : k0_chk28 v349), 2 ∣ (k0_mult31 v349).toNat := fun v349 k0_hw28 => k0_hw28.1
theorem k0_off59_inb : ∀ (v349 : BitVec 32) (k0_hw28 : k0_chk28 v349), ∀ a, (k0_off59 v349) a + S2x128.size a ≤ S64000x128.size a := fun v349 k0_hw28 => k0_hw28.2

def k0_off60 (k0_t1 : Fin k0_t1_loop.trips) : Fin 3 → Nat :=
  let c0_181 : Index := 0#32
  let c0_182 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c24_i32_179 : BitVec 32 := 24#32
  let v355 : BitVec 32 := Scalar.addi v18 c24_i32_179
  let c4_i32_180 : BitVec 32 := 4#32
  let v356 : BitVec 32 := Scalar.addi v355 c4_i32_180
  let v357 : Index := Scalar.indexCast v356
  ![0, 0, v357.toNat]
def k0_mult32 (v358 : BitVec 32) : BitVec 32 :=
  let c2_i32_183 : BitVec 32 := 2#32
  let v359 : BitVec 32 := Scalar.muli v358 c2_i32_183
  v359

def k0_off61 (v358 : BitVec 32) : Fin 2 → Nat :=
  let c2_i32_183 : BitVec 32 := 2#32
  let v359 : BitVec 32 := Scalar.muli v358 c2_i32_183
  let v360 : BitVec 32 := v359
  let v361 : Index := Scalar.indexCast v360
  let c0_184 : Index := 0#32
  ![v361.toNat, 0]

def k0_chk29 (v358 : BitVec 32) : Prop :=
  (2 ∣ (k0_mult32 v358).toNat) ∧
  (∀ a, (k0_off61 v358) a + S2x128.size a ≤ S64000x128.size a)
theorem k0_mult32_dvd : ∀ (v358 : BitVec 32) (k0_hw29 : k0_chk29 v358), 2 ∣ (k0_mult32 v358).toNat := fun v358 k0_hw29 => k0_hw29.1
theorem k0_off61_inb : ∀ (v358 : BitVec 32) (k0_hw29 : k0_chk29 v358), ∀ a, (k0_off61 v358) a + S2x128.size a ≤ S64000x128.size a := fun v358 k0_hw29 => k0_hw29.2

def k0_off62 (k0_t1 : Fin k0_t1_loop.trips) : Fin 3 → Nat :=
  let c0_187 : Index := 0#32
  let c0_188 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c24_i32_185 : BitVec 32 := 24#32
  let v364 : BitVec 32 := Scalar.addi v18 c24_i32_185
  let c5_i32_186 : BitVec 32 := 5#32
  let v365 : BitVec 32 := Scalar.addi v364 c5_i32_186
  let v366 : Index := Scalar.indexCast v365
  ![0, 0, v366.toNat]
def k0_mult33 (v367 : BitVec 32) : BitVec 32 :=
  let c2_i32_189 : BitVec 32 := 2#32
  let v368 : BitVec 32 := Scalar.muli v367 c2_i32_189
  v368

def k0_off63 (v367 : BitVec 32) : Fin 2 → Nat :=
  let c2_i32_189 : BitVec 32 := 2#32
  let v368 : BitVec 32 := Scalar.muli v367 c2_i32_189
  let v369 : BitVec 32 := v368
  let v370 : Index := Scalar.indexCast v369
  let c0_190 : Index := 0#32
  ![v370.toNat, 0]

def k0_chk30 (v367 : BitVec 32) : Prop :=
  (2 ∣ (k0_mult33 v367).toNat) ∧
  (∀ a, (k0_off63 v367) a + S2x128.size a ≤ S64000x128.size a)
theorem k0_mult33_dvd : ∀ (v367 : BitVec 32) (k0_hw30 : k0_chk30 v367), 2 ∣ (k0_mult33 v367).toNat := fun v367 k0_hw30 => k0_hw30.1
theorem k0_off63_inb : ∀ (v367 : BitVec 32) (k0_hw30 : k0_chk30 v367), ∀ a, (k0_off63 v367) a + S2x128.size a ≤ S64000x128.size a := fun v367 k0_hw30 => k0_hw30.2

def k0_off64 (k0_t1 : Fin k0_t1_loop.trips) : Fin 3 → Nat :=
  let c0_193 : Index := 0#32
  let c0_194 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c24_i32_191 : BitVec 32 := 24#32
  let v373 : BitVec 32 := Scalar.addi v18 c24_i32_191
  let c6_i32_192 : BitVec 32 := 6#32
  let v374 : BitVec 32 := Scalar.addi v373 c6_i32_192
  let v375 : Index := Scalar.indexCast v374
  ![0, 0, v375.toNat]
def k0_mult34 (v376 : BitVec 32) : BitVec 32 :=
  let c2_i32_195 : BitVec 32 := 2#32
  let v377 : BitVec 32 := Scalar.muli v376 c2_i32_195
  v377

def k0_off65 (v376 : BitVec 32) : Fin 2 → Nat :=
  let c2_i32_195 : BitVec 32 := 2#32
  let v377 : BitVec 32 := Scalar.muli v376 c2_i32_195
  let v378 : BitVec 32 := v377
  let v379 : Index := Scalar.indexCast v378
  let c0_196 : Index := 0#32
  ![v379.toNat, 0]

def k0_chk31 (v376 : BitVec 32) : Prop :=
  (2 ∣ (k0_mult34 v376).toNat) ∧
  (∀ a, (k0_off65 v376) a + S2x128.size a ≤ S64000x128.size a)
theorem k0_mult34_dvd : ∀ (v376 : BitVec 32) (k0_hw31 : k0_chk31 v376), 2 ∣ (k0_mult34 v376).toNat := fun v376 k0_hw31 => k0_hw31.1
theorem k0_off65_inb : ∀ (v376 : BitVec 32) (k0_hw31 : k0_chk31 v376), ∀ a, (k0_off65 v376) a + S2x128.size a ≤ S64000x128.size a := fun v376 k0_hw31 => k0_hw31.2

def k0_off66 (k0_t1 : Fin k0_t1_loop.trips) : Fin 3 → Nat :=
  let c0_199 : Index := 0#32
  let c0_200 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c24_i32_197 : BitVec 32 := 24#32
  let v382 : BitVec 32 := Scalar.addi v18 c24_i32_197
  let c7_i32_198 : BitVec 32 := 7#32
  let v383 : BitVec 32 := Scalar.addi v382 c7_i32_198
  let v384 : Index := Scalar.indexCast v383
  ![0, 0, v384.toNat]
def k0_mult35 (v385 : BitVec 32) : BitVec 32 :=
  let c2_i32_201 : BitVec 32 := 2#32
  let v386 : BitVec 32 := Scalar.muli v385 c2_i32_201
  v386

def k0_off67 (v385 : BitVec 32) : Fin 2 → Nat :=
  let c2_i32_201 : BitVec 32 := 2#32
  let v386 : BitVec 32 := Scalar.muli v385 c2_i32_201
  let v387 : BitVec 32 := v386
  let v388 : Index := Scalar.indexCast v387
  let c0_202 : Index := 0#32
  ![v388.toNat, 0]

def k0_chk32 (v385 : BitVec 32) : Prop :=
  (2 ∣ (k0_mult35 v385).toNat) ∧
  (∀ a, (k0_off67 v385) a + S2x128.size a ≤ S64000x128.size a)
theorem k0_mult35_dvd : ∀ (v385 : BitVec 32) (k0_hw32 : k0_chk32 v385), 2 ∣ (k0_mult35 v385).toNat := fun v385 k0_hw32 => k0_hw32.1
theorem k0_off67_inb : ∀ (v385 : BitVec 32) (k0_hw32 : k0_chk32 v385), ∀ a, (k0_off67 v385) a + S2x128.size a ≤ S64000x128.size a := fun v385 k0_hw32 => k0_hw32.2

def k0_mult36 (k0_t1 : Fin k0_t1_loop.trips) : BitVec 32 :=
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c24_i32_203 : BitVec 32 := 24#32
  let v409 : BitVec 32 := Scalar.addi v18 c24_i32_203
  v409
def k0_off68 (k0_t1 : Fin k0_t1_loop.trips) : Fin 2 → Nat :=
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c24_i32_203 : BitVec 32 := 24#32
  let v409 : BitVec 32 := Scalar.addi v18 c24_i32_203
  let v410 : BitVec 32 := v409
  let v411 : Index := Scalar.indexCast v410
  let c0_204 : Index := 0#32
  ![v411.toNat, 0]
def k0_off69 (k0_t1 : Fin k0_t1_loop.trips) : Fin 3 → Nat :=
  let c0_208 : Index := 0#32
  let c0_209 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c32_i32_206 : BitVec 32 := 32#32
  let v419 : BitVec 32 := Scalar.addi v18 c32_i32_206
  let c0_i32_207 : BitVec 32 := 0#32
  let v420 : BitVec 32 := Scalar.addi v419 c0_i32_207
  let v421 : Index := Scalar.indexCast v420
  ![0, 0, v421.toNat]
def k0_mult37 (v422 : BitVec 32) : BitVec 32 :=
  let c2_i32_210 : BitVec 32 := 2#32
  let v423 : BitVec 32 := Scalar.muli v422 c2_i32_210
  v423

def k0_off70 (v422 : BitVec 32) : Fin 2 → Nat :=
  let c2_i32_210 : BitVec 32 := 2#32
  let v423 : BitVec 32 := Scalar.muli v422 c2_i32_210
  let v424 : BitVec 32 := v423
  let v425 : Index := Scalar.indexCast v424
  let c0_211 : Index := 0#32
  ![v425.toNat, 0]

def k0_chk33 (v422 : BitVec 32) : Prop :=
  (2 ∣ (k0_mult37 v422).toNat) ∧
  (∀ a, (k0_off70 v422) a + S2x128.size a ≤ S64000x128.size a)
theorem k0_mult37_dvd : ∀ (v422 : BitVec 32) (k0_hw33 : k0_chk33 v422), 2 ∣ (k0_mult37 v422).toNat := fun v422 k0_hw33 => k0_hw33.1
theorem k0_off70_inb : ∀ (v422 : BitVec 32) (k0_hw33 : k0_chk33 v422), ∀ a, (k0_off70 v422) a + S2x128.size a ≤ S64000x128.size a := fun v422 k0_hw33 => k0_hw33.2

def k0_off71 (k0_t1 : Fin k0_t1_loop.trips) : Fin 3 → Nat :=
  let c0_214 : Index := 0#32
  let c0_215 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c32_i32_212 : BitVec 32 := 32#32
  let v428 : BitVec 32 := Scalar.addi v18 c32_i32_212
  let c1_i32_213 : BitVec 32 := 1#32
  let v429 : BitVec 32 := Scalar.addi v428 c1_i32_213
  let v430 : Index := Scalar.indexCast v429
  ![0, 0, v430.toNat]
def k0_mult38 (v431 : BitVec 32) : BitVec 32 :=
  let c2_i32_216 : BitVec 32 := 2#32
  let v432 : BitVec 32 := Scalar.muli v431 c2_i32_216
  v432

def k0_off72 (v431 : BitVec 32) : Fin 2 → Nat :=
  let c2_i32_216 : BitVec 32 := 2#32
  let v432 : BitVec 32 := Scalar.muli v431 c2_i32_216
  let v433 : BitVec 32 := v432
  let v434 : Index := Scalar.indexCast v433
  let c0_217 : Index := 0#32
  ![v434.toNat, 0]

def k0_chk34 (v431 : BitVec 32) : Prop :=
  (2 ∣ (k0_mult38 v431).toNat) ∧
  (∀ a, (k0_off72 v431) a + S2x128.size a ≤ S64000x128.size a)
theorem k0_mult38_dvd : ∀ (v431 : BitVec 32) (k0_hw34 : k0_chk34 v431), 2 ∣ (k0_mult38 v431).toNat := fun v431 k0_hw34 => k0_hw34.1
theorem k0_off72_inb : ∀ (v431 : BitVec 32) (k0_hw34 : k0_chk34 v431), ∀ a, (k0_off72 v431) a + S2x128.size a ≤ S64000x128.size a := fun v431 k0_hw34 => k0_hw34.2

def k0_off73 (k0_t1 : Fin k0_t1_loop.trips) : Fin 3 → Nat :=
  let c0_220 : Index := 0#32
  let c0_221 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c32_i32_218 : BitVec 32 := 32#32
  let v437 : BitVec 32 := Scalar.addi v18 c32_i32_218
  let c2_i32_219 : BitVec 32 := 2#32
  let v438 : BitVec 32 := Scalar.addi v437 c2_i32_219
  let v439 : Index := Scalar.indexCast v438
  ![0, 0, v439.toNat]
def k0_mult39 (v440 : BitVec 32) : BitVec 32 :=
  let c2_i32_222 : BitVec 32 := 2#32
  let v441 : BitVec 32 := Scalar.muli v440 c2_i32_222
  v441

def k0_off74 (v440 : BitVec 32) : Fin 2 → Nat :=
  let c2_i32_222 : BitVec 32 := 2#32
  let v441 : BitVec 32 := Scalar.muli v440 c2_i32_222
  let v442 : BitVec 32 := v441
  let v443 : Index := Scalar.indexCast v442
  let c0_223 : Index := 0#32
  ![v443.toNat, 0]

def k0_chk35 (v440 : BitVec 32) : Prop :=
  (2 ∣ (k0_mult39 v440).toNat) ∧
  (∀ a, (k0_off74 v440) a + S2x128.size a ≤ S64000x128.size a)
theorem k0_mult39_dvd : ∀ (v440 : BitVec 32) (k0_hw35 : k0_chk35 v440), 2 ∣ (k0_mult39 v440).toNat := fun v440 k0_hw35 => k0_hw35.1
theorem k0_off74_inb : ∀ (v440 : BitVec 32) (k0_hw35 : k0_chk35 v440), ∀ a, (k0_off74 v440) a + S2x128.size a ≤ S64000x128.size a := fun v440 k0_hw35 => k0_hw35.2

def k0_off75 (k0_t1 : Fin k0_t1_loop.trips) : Fin 3 → Nat :=
  let c0_226 : Index := 0#32
  let c0_227 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c32_i32_224 : BitVec 32 := 32#32
  let v446 : BitVec 32 := Scalar.addi v18 c32_i32_224
  let c3_i32_225 : BitVec 32 := 3#32
  let v447 : BitVec 32 := Scalar.addi v446 c3_i32_225
  let v448 : Index := Scalar.indexCast v447
  ![0, 0, v448.toNat]
def k0_mult40 (v449 : BitVec 32) : BitVec 32 :=
  let c2_i32_228 : BitVec 32 := 2#32
  let v450 : BitVec 32 := Scalar.muli v449 c2_i32_228
  v450

def k0_off76 (v449 : BitVec 32) : Fin 2 → Nat :=
  let c2_i32_228 : BitVec 32 := 2#32
  let v450 : BitVec 32 := Scalar.muli v449 c2_i32_228
  let v451 : BitVec 32 := v450
  let v452 : Index := Scalar.indexCast v451
  let c0_229 : Index := 0#32
  ![v452.toNat, 0]

def k0_chk36 (v449 : BitVec 32) : Prop :=
  (2 ∣ (k0_mult40 v449).toNat) ∧
  (∀ a, (k0_off76 v449) a + S2x128.size a ≤ S64000x128.size a)
theorem k0_mult40_dvd : ∀ (v449 : BitVec 32) (k0_hw36 : k0_chk36 v449), 2 ∣ (k0_mult40 v449).toNat := fun v449 k0_hw36 => k0_hw36.1
theorem k0_off76_inb : ∀ (v449 : BitVec 32) (k0_hw36 : k0_chk36 v449), ∀ a, (k0_off76 v449) a + S2x128.size a ≤ S64000x128.size a := fun v449 k0_hw36 => k0_hw36.2

def k0_off77 (k0_t1 : Fin k0_t1_loop.trips) : Fin 3 → Nat :=
  let c0_232 : Index := 0#32
  let c0_233 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c32_i32_230 : BitVec 32 := 32#32
  let v455 : BitVec 32 := Scalar.addi v18 c32_i32_230
  let c4_i32_231 : BitVec 32 := 4#32
  let v456 : BitVec 32 := Scalar.addi v455 c4_i32_231
  let v457 : Index := Scalar.indexCast v456
  ![0, 0, v457.toNat]
def k0_mult41 (v458 : BitVec 32) : BitVec 32 :=
  let c2_i32_234 : BitVec 32 := 2#32
  let v459 : BitVec 32 := Scalar.muli v458 c2_i32_234
  v459

def k0_off78 (v458 : BitVec 32) : Fin 2 → Nat :=
  let c2_i32_234 : BitVec 32 := 2#32
  let v459 : BitVec 32 := Scalar.muli v458 c2_i32_234
  let v460 : BitVec 32 := v459
  let v461 : Index := Scalar.indexCast v460
  let c0_235 : Index := 0#32
  ![v461.toNat, 0]

def k0_chk37 (v458 : BitVec 32) : Prop :=
  (2 ∣ (k0_mult41 v458).toNat) ∧
  (∀ a, (k0_off78 v458) a + S2x128.size a ≤ S64000x128.size a)
theorem k0_mult41_dvd : ∀ (v458 : BitVec 32) (k0_hw37 : k0_chk37 v458), 2 ∣ (k0_mult41 v458).toNat := fun v458 k0_hw37 => k0_hw37.1
theorem k0_off78_inb : ∀ (v458 : BitVec 32) (k0_hw37 : k0_chk37 v458), ∀ a, (k0_off78 v458) a + S2x128.size a ≤ S64000x128.size a := fun v458 k0_hw37 => k0_hw37.2

def k0_off79 (k0_t1 : Fin k0_t1_loop.trips) : Fin 3 → Nat :=
  let c0_238 : Index := 0#32
  let c0_239 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c32_i32_236 : BitVec 32 := 32#32
  let v464 : BitVec 32 := Scalar.addi v18 c32_i32_236
  let c5_i32_237 : BitVec 32 := 5#32
  let v465 : BitVec 32 := Scalar.addi v464 c5_i32_237
  let v466 : Index := Scalar.indexCast v465
  ![0, 0, v466.toNat]
def k0_mult42 (v467 : BitVec 32) : BitVec 32 :=
  let c2_i32_240 : BitVec 32 := 2#32
  let v468 : BitVec 32 := Scalar.muli v467 c2_i32_240
  v468

def k0_off80 (v467 : BitVec 32) : Fin 2 → Nat :=
  let c2_i32_240 : BitVec 32 := 2#32
  let v468 : BitVec 32 := Scalar.muli v467 c2_i32_240
  let v469 : BitVec 32 := v468
  let v470 : Index := Scalar.indexCast v469
  let c0_241 : Index := 0#32
  ![v470.toNat, 0]

def k0_chk38 (v467 : BitVec 32) : Prop :=
  (2 ∣ (k0_mult42 v467).toNat) ∧
  (∀ a, (k0_off80 v467) a + S2x128.size a ≤ S64000x128.size a)
theorem k0_mult42_dvd : ∀ (v467 : BitVec 32) (k0_hw38 : k0_chk38 v467), 2 ∣ (k0_mult42 v467).toNat := fun v467 k0_hw38 => k0_hw38.1
theorem k0_off80_inb : ∀ (v467 : BitVec 32) (k0_hw38 : k0_chk38 v467), ∀ a, (k0_off80 v467) a + S2x128.size a ≤ S64000x128.size a := fun v467 k0_hw38 => k0_hw38.2

def k0_off81 (k0_t1 : Fin k0_t1_loop.trips) : Fin 3 → Nat :=
  let c0_244 : Index := 0#32
  let c0_245 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c32_i32_242 : BitVec 32 := 32#32
  let v473 : BitVec 32 := Scalar.addi v18 c32_i32_242
  let c6_i32_243 : BitVec 32 := 6#32
  let v474 : BitVec 32 := Scalar.addi v473 c6_i32_243
  let v475 : Index := Scalar.indexCast v474
  ![0, 0, v475.toNat]
def k0_mult43 (v476 : BitVec 32) : BitVec 32 :=
  let c2_i32_246 : BitVec 32 := 2#32
  let v477 : BitVec 32 := Scalar.muli v476 c2_i32_246
  v477

def k0_off82 (v476 : BitVec 32) : Fin 2 → Nat :=
  let c2_i32_246 : BitVec 32 := 2#32
  let v477 : BitVec 32 := Scalar.muli v476 c2_i32_246
  let v478 : BitVec 32 := v477
  let v479 : Index := Scalar.indexCast v478
  let c0_247 : Index := 0#32
  ![v479.toNat, 0]

def k0_chk39 (v476 : BitVec 32) : Prop :=
  (2 ∣ (k0_mult43 v476).toNat) ∧
  (∀ a, (k0_off82 v476) a + S2x128.size a ≤ S64000x128.size a)
theorem k0_mult43_dvd : ∀ (v476 : BitVec 32) (k0_hw39 : k0_chk39 v476), 2 ∣ (k0_mult43 v476).toNat := fun v476 k0_hw39 => k0_hw39.1
theorem k0_off82_inb : ∀ (v476 : BitVec 32) (k0_hw39 : k0_chk39 v476), ∀ a, (k0_off82 v476) a + S2x128.size a ≤ S64000x128.size a := fun v476 k0_hw39 => k0_hw39.2

def k0_off83 (k0_t1 : Fin k0_t1_loop.trips) : Fin 3 → Nat :=
  let c0_250 : Index := 0#32
  let c0_251 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c32_i32_248 : BitVec 32 := 32#32
  let v482 : BitVec 32 := Scalar.addi v18 c32_i32_248
  let c7_i32_249 : BitVec 32 := 7#32
  let v483 : BitVec 32 := Scalar.addi v482 c7_i32_249
  let v484 : Index := Scalar.indexCast v483
  ![0, 0, v484.toNat]
def k0_mult44 (v485 : BitVec 32) : BitVec 32 :=
  let c2_i32_252 : BitVec 32 := 2#32
  let v486 : BitVec 32 := Scalar.muli v485 c2_i32_252
  v486

def k0_off84 (v485 : BitVec 32) : Fin 2 → Nat :=
  let c2_i32_252 : BitVec 32 := 2#32
  let v486 : BitVec 32 := Scalar.muli v485 c2_i32_252
  let v487 : BitVec 32 := v486
  let v488 : Index := Scalar.indexCast v487
  let c0_253 : Index := 0#32
  ![v488.toNat, 0]

def k0_chk40 (v485 : BitVec 32) : Prop :=
  (2 ∣ (k0_mult44 v485).toNat) ∧
  (∀ a, (k0_off84 v485) a + S2x128.size a ≤ S64000x128.size a)
theorem k0_mult44_dvd : ∀ (v485 : BitVec 32) (k0_hw40 : k0_chk40 v485), 2 ∣ (k0_mult44 v485).toNat := fun v485 k0_hw40 => k0_hw40.1
theorem k0_off84_inb : ∀ (v485 : BitVec 32) (k0_hw40 : k0_chk40 v485), ∀ a, (k0_off84 v485) a + S2x128.size a ≤ S64000x128.size a := fun v485 k0_hw40 => k0_hw40.2

def k0_mult45 (k0_t1 : Fin k0_t1_loop.trips) : BitVec 32 :=
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c32_i32_254 : BitVec 32 := 32#32
  let v509 : BitVec 32 := Scalar.addi v18 c32_i32_254
  v509
def k0_off85 (k0_t1 : Fin k0_t1_loop.trips) : Fin 2 → Nat :=
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c32_i32_254 : BitVec 32 := 32#32
  let v509 : BitVec 32 := Scalar.addi v18 c32_i32_254
  let v510 : BitVec 32 := v509
  let v511 : Index := Scalar.indexCast v510
  let c0_255 : Index := 0#32
  ![v511.toNat, 0]
def k0_off86 (k0_t1 : Fin k0_t1_loop.trips) : Fin 3 → Nat :=
  let c0_258 : Index := 0#32
  let c0_259 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c40_i32 : BitVec 32 := 40#32
  let v519 : BitVec 32 := Scalar.addi v18 c40_i32
  let c0_i32_257 : BitVec 32 := 0#32
  let v520 : BitVec 32 := Scalar.addi v519 c0_i32_257
  let v521 : Index := Scalar.indexCast v520
  ![0, 0, v521.toNat]
def k0_mult46 (v522 : BitVec 32) : BitVec 32 :=
  let c2_i32_260 : BitVec 32 := 2#32
  let v523 : BitVec 32 := Scalar.muli v522 c2_i32_260
  v523

def k0_off87 (v522 : BitVec 32) : Fin 2 → Nat :=
  let c2_i32_260 : BitVec 32 := 2#32
  let v523 : BitVec 32 := Scalar.muli v522 c2_i32_260
  let v524 : BitVec 32 := v523
  let v525 : Index := Scalar.indexCast v524
  let c0_261 : Index := 0#32
  ![v525.toNat, 0]

def k0_chk41 (v522 : BitVec 32) : Prop :=
  (2 ∣ (k0_mult46 v522).toNat) ∧
  (∀ a, (k0_off87 v522) a + S2x128.size a ≤ S64000x128.size a)
theorem k0_mult46_dvd : ∀ (v522 : BitVec 32) (k0_hw41 : k0_chk41 v522), 2 ∣ (k0_mult46 v522).toNat := fun v522 k0_hw41 => k0_hw41.1
theorem k0_off87_inb : ∀ (v522 : BitVec 32) (k0_hw41 : k0_chk41 v522), ∀ a, (k0_off87 v522) a + S2x128.size a ≤ S64000x128.size a := fun v522 k0_hw41 => k0_hw41.2

def k0_off88 (k0_t1 : Fin k0_t1_loop.trips) : Fin 3 → Nat :=
  let c0_264 : Index := 0#32
  let c0_265 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c40_i32_262 : BitVec 32 := 40#32
  let v528 : BitVec 32 := Scalar.addi v18 c40_i32_262
  let c1_i32_263 : BitVec 32 := 1#32
  let v529 : BitVec 32 := Scalar.addi v528 c1_i32_263
  let v530 : Index := Scalar.indexCast v529
  ![0, 0, v530.toNat]
def k0_mult47 (v531 : BitVec 32) : BitVec 32 :=
  let c2_i32_266 : BitVec 32 := 2#32
  let v532 : BitVec 32 := Scalar.muli v531 c2_i32_266
  v532

def k0_off89 (v531 : BitVec 32) : Fin 2 → Nat :=
  let c2_i32_266 : BitVec 32 := 2#32
  let v532 : BitVec 32 := Scalar.muli v531 c2_i32_266
  let v533 : BitVec 32 := v532
  let v534 : Index := Scalar.indexCast v533
  let c0_267 : Index := 0#32
  ![v534.toNat, 0]

def k0_chk42 (v531 : BitVec 32) : Prop :=
  (2 ∣ (k0_mult47 v531).toNat) ∧
  (∀ a, (k0_off89 v531) a + S2x128.size a ≤ S64000x128.size a)
theorem k0_mult47_dvd : ∀ (v531 : BitVec 32) (k0_hw42 : k0_chk42 v531), 2 ∣ (k0_mult47 v531).toNat := fun v531 k0_hw42 => k0_hw42.1
theorem k0_off89_inb : ∀ (v531 : BitVec 32) (k0_hw42 : k0_chk42 v531), ∀ a, (k0_off89 v531) a + S2x128.size a ≤ S64000x128.size a := fun v531 k0_hw42 => k0_hw42.2

def k0_off90 (k0_t1 : Fin k0_t1_loop.trips) : Fin 3 → Nat :=
  let c0_270 : Index := 0#32
  let c0_271 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c40_i32_268 : BitVec 32 := 40#32
  let v537 : BitVec 32 := Scalar.addi v18 c40_i32_268
  let c2_i32_269 : BitVec 32 := 2#32
  let v538 : BitVec 32 := Scalar.addi v537 c2_i32_269
  let v539 : Index := Scalar.indexCast v538
  ![0, 0, v539.toNat]
def k0_mult48 (v540 : BitVec 32) : BitVec 32 :=
  let c2_i32_272 : BitVec 32 := 2#32
  let v541 : BitVec 32 := Scalar.muli v540 c2_i32_272
  v541

def k0_off91 (v540 : BitVec 32) : Fin 2 → Nat :=
  let c2_i32_272 : BitVec 32 := 2#32
  let v541 : BitVec 32 := Scalar.muli v540 c2_i32_272
  let v542 : BitVec 32 := v541
  let v543 : Index := Scalar.indexCast v542
  let c0_273 : Index := 0#32
  ![v543.toNat, 0]

def k0_chk43 (v540 : BitVec 32) : Prop :=
  (2 ∣ (k0_mult48 v540).toNat) ∧
  (∀ a, (k0_off91 v540) a + S2x128.size a ≤ S64000x128.size a)
theorem k0_mult48_dvd : ∀ (v540 : BitVec 32) (k0_hw43 : k0_chk43 v540), 2 ∣ (k0_mult48 v540).toNat := fun v540 k0_hw43 => k0_hw43.1
theorem k0_off91_inb : ∀ (v540 : BitVec 32) (k0_hw43 : k0_chk43 v540), ∀ a, (k0_off91 v540) a + S2x128.size a ≤ S64000x128.size a := fun v540 k0_hw43 => k0_hw43.2

def k0_off92 (k0_t1 : Fin k0_t1_loop.trips) : Fin 3 → Nat :=
  let c0_276 : Index := 0#32
  let c0_277 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c40_i32_274 : BitVec 32 := 40#32
  let v546 : BitVec 32 := Scalar.addi v18 c40_i32_274
  let c3_i32_275 : BitVec 32 := 3#32
  let v547 : BitVec 32 := Scalar.addi v546 c3_i32_275
  let v548 : Index := Scalar.indexCast v547
  ![0, 0, v548.toNat]
def k0_mult49 (v549 : BitVec 32) : BitVec 32 :=
  let c2_i32_278 : BitVec 32 := 2#32
  let v550 : BitVec 32 := Scalar.muli v549 c2_i32_278
  v550

def k0_off93 (v549 : BitVec 32) : Fin 2 → Nat :=
  let c2_i32_278 : BitVec 32 := 2#32
  let v550 : BitVec 32 := Scalar.muli v549 c2_i32_278
  let v551 : BitVec 32 := v550
  let v552 : Index := Scalar.indexCast v551
  let c0_279 : Index := 0#32
  ![v552.toNat, 0]

def k0_chk44 (v549 : BitVec 32) : Prop :=
  (2 ∣ (k0_mult49 v549).toNat) ∧
  (∀ a, (k0_off93 v549) a + S2x128.size a ≤ S64000x128.size a)
theorem k0_mult49_dvd : ∀ (v549 : BitVec 32) (k0_hw44 : k0_chk44 v549), 2 ∣ (k0_mult49 v549).toNat := fun v549 k0_hw44 => k0_hw44.1
theorem k0_off93_inb : ∀ (v549 : BitVec 32) (k0_hw44 : k0_chk44 v549), ∀ a, (k0_off93 v549) a + S2x128.size a ≤ S64000x128.size a := fun v549 k0_hw44 => k0_hw44.2

def k0_off94 (k0_t1 : Fin k0_t1_loop.trips) : Fin 3 → Nat :=
  let c0_282 : Index := 0#32
  let c0_283 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c40_i32_280 : BitVec 32 := 40#32
  let v555 : BitVec 32 := Scalar.addi v18 c40_i32_280
  let c4_i32_281 : BitVec 32 := 4#32
  let v556 : BitVec 32 := Scalar.addi v555 c4_i32_281
  let v557 : Index := Scalar.indexCast v556
  ![0, 0, v557.toNat]
def k0_mult50 (v558 : BitVec 32) : BitVec 32 :=
  let c2_i32_284 : BitVec 32 := 2#32
  let v559 : BitVec 32 := Scalar.muli v558 c2_i32_284
  v559

def k0_off95 (v558 : BitVec 32) : Fin 2 → Nat :=
  let c2_i32_284 : BitVec 32 := 2#32
  let v559 : BitVec 32 := Scalar.muli v558 c2_i32_284
  let v560 : BitVec 32 := v559
  let v561 : Index := Scalar.indexCast v560
  let c0_285 : Index := 0#32
  ![v561.toNat, 0]

def k0_chk45 (v558 : BitVec 32) : Prop :=
  (2 ∣ (k0_mult50 v558).toNat) ∧
  (∀ a, (k0_off95 v558) a + S2x128.size a ≤ S64000x128.size a)
theorem k0_mult50_dvd : ∀ (v558 : BitVec 32) (k0_hw45 : k0_chk45 v558), 2 ∣ (k0_mult50 v558).toNat := fun v558 k0_hw45 => k0_hw45.1
theorem k0_off95_inb : ∀ (v558 : BitVec 32) (k0_hw45 : k0_chk45 v558), ∀ a, (k0_off95 v558) a + S2x128.size a ≤ S64000x128.size a := fun v558 k0_hw45 => k0_hw45.2

def k0_off96 (k0_t1 : Fin k0_t1_loop.trips) : Fin 3 → Nat :=
  let c0_288 : Index := 0#32
  let c0_289 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c40_i32_286 : BitVec 32 := 40#32
  let v564 : BitVec 32 := Scalar.addi v18 c40_i32_286
  let c5_i32_287 : BitVec 32 := 5#32
  let v565 : BitVec 32 := Scalar.addi v564 c5_i32_287
  let v566 : Index := Scalar.indexCast v565
  ![0, 0, v566.toNat]
def k0_mult51 (v567 : BitVec 32) : BitVec 32 :=
  let c2_i32_290 : BitVec 32 := 2#32
  let v568 : BitVec 32 := Scalar.muli v567 c2_i32_290
  v568

def k0_off97 (v567 : BitVec 32) : Fin 2 → Nat :=
  let c2_i32_290 : BitVec 32 := 2#32
  let v568 : BitVec 32 := Scalar.muli v567 c2_i32_290
  let v569 : BitVec 32 := v568
  let v570 : Index := Scalar.indexCast v569
  let c0_291 : Index := 0#32
  ![v570.toNat, 0]

def k0_chk46 (v567 : BitVec 32) : Prop :=
  (2 ∣ (k0_mult51 v567).toNat) ∧
  (∀ a, (k0_off97 v567) a + S2x128.size a ≤ S64000x128.size a)
theorem k0_mult51_dvd : ∀ (v567 : BitVec 32) (k0_hw46 : k0_chk46 v567), 2 ∣ (k0_mult51 v567).toNat := fun v567 k0_hw46 => k0_hw46.1
theorem k0_off97_inb : ∀ (v567 : BitVec 32) (k0_hw46 : k0_chk46 v567), ∀ a, (k0_off97 v567) a + S2x128.size a ≤ S64000x128.size a := fun v567 k0_hw46 => k0_hw46.2

def k0_off98 (k0_t1 : Fin k0_t1_loop.trips) : Fin 3 → Nat :=
  let c0_294 : Index := 0#32
  let c0_295 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c40_i32_292 : BitVec 32 := 40#32
  let v573 : BitVec 32 := Scalar.addi v18 c40_i32_292
  let c6_i32_293 : BitVec 32 := 6#32
  let v574 : BitVec 32 := Scalar.addi v573 c6_i32_293
  let v575 : Index := Scalar.indexCast v574
  ![0, 0, v575.toNat]
def k0_mult52 (v576 : BitVec 32) : BitVec 32 :=
  let c2_i32_296 : BitVec 32 := 2#32
  let v577 : BitVec 32 := Scalar.muli v576 c2_i32_296
  v577

def k0_off99 (v576 : BitVec 32) : Fin 2 → Nat :=
  let c2_i32_296 : BitVec 32 := 2#32
  let v577 : BitVec 32 := Scalar.muli v576 c2_i32_296
  let v578 : BitVec 32 := v577
  let v579 : Index := Scalar.indexCast v578
  let c0_297 : Index := 0#32
  ![v579.toNat, 0]

def k0_chk47 (v576 : BitVec 32) : Prop :=
  (2 ∣ (k0_mult52 v576).toNat) ∧
  (∀ a, (k0_off99 v576) a + S2x128.size a ≤ S64000x128.size a)
theorem k0_mult52_dvd : ∀ (v576 : BitVec 32) (k0_hw47 : k0_chk47 v576), 2 ∣ (k0_mult52 v576).toNat := fun v576 k0_hw47 => k0_hw47.1
theorem k0_off99_inb : ∀ (v576 : BitVec 32) (k0_hw47 : k0_chk47 v576), ∀ a, (k0_off99 v576) a + S2x128.size a ≤ S64000x128.size a := fun v576 k0_hw47 => k0_hw47.2

def k0_off100 (k0_t1 : Fin k0_t1_loop.trips) : Fin 3 → Nat :=
  let c0_300 : Index := 0#32
  let c0_301 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c40_i32_298 : BitVec 32 := 40#32
  let v582 : BitVec 32 := Scalar.addi v18 c40_i32_298
  let c7_i32_299 : BitVec 32 := 7#32
  let v583 : BitVec 32 := Scalar.addi v582 c7_i32_299
  let v584 : Index := Scalar.indexCast v583
  ![0, 0, v584.toNat]
def k0_mult53 (v585 : BitVec 32) : BitVec 32 :=
  let c2_i32_302 : BitVec 32 := 2#32
  let v586 : BitVec 32 := Scalar.muli v585 c2_i32_302
  v586

def k0_off101 (v585 : BitVec 32) : Fin 2 → Nat :=
  let c2_i32_302 : BitVec 32 := 2#32
  let v586 : BitVec 32 := Scalar.muli v585 c2_i32_302
  let v587 : BitVec 32 := v586
  let v588 : Index := Scalar.indexCast v587
  let c0_303 : Index := 0#32
  ![v588.toNat, 0]

def k0_chk48 (v585 : BitVec 32) : Prop :=
  (2 ∣ (k0_mult53 v585).toNat) ∧
  (∀ a, (k0_off101 v585) a + S2x128.size a ≤ S64000x128.size a)
theorem k0_mult53_dvd : ∀ (v585 : BitVec 32) (k0_hw48 : k0_chk48 v585), 2 ∣ (k0_mult53 v585).toNat := fun v585 k0_hw48 => k0_hw48.1
theorem k0_off101_inb : ∀ (v585 : BitVec 32) (k0_hw48 : k0_chk48 v585), ∀ a, (k0_off101 v585) a + S2x128.size a ≤ S64000x128.size a := fun v585 k0_hw48 => k0_hw48.2

def k0_mult54 (k0_t1 : Fin k0_t1_loop.trips) : BitVec 32 :=
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c40_i32_304 : BitVec 32 := 40#32
  let v609 : BitVec 32 := Scalar.addi v18 c40_i32_304
  v609
def k0_off102 (k0_t1 : Fin k0_t1_loop.trips) : Fin 2 → Nat :=
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c40_i32_304 : BitVec 32 := 40#32
  let v609 : BitVec 32 := Scalar.addi v18 c40_i32_304
  let v610 : BitVec 32 := v609
  let v611 : Index := Scalar.indexCast v610
  let c0_305 : Index := 0#32
  ![v611.toNat, 0]
def k0_off103 (k0_t1 : Fin k0_t1_loop.trips) : Fin 3 → Nat :=
  let c0_308 : Index := 0#32
  let c0_309 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c48_i32 : BitVec 32 := 48#32
  let v619 : BitVec 32 := Scalar.addi v18 c48_i32
  let c0_i32_307 : BitVec 32 := 0#32
  let v620 : BitVec 32 := Scalar.addi v619 c0_i32_307
  let v621 : Index := Scalar.indexCast v620
  ![0, 0, v621.toNat]
def k0_mult55 (v622 : BitVec 32) : BitVec 32 :=
  let c2_i32_310 : BitVec 32 := 2#32
  let v623 : BitVec 32 := Scalar.muli v622 c2_i32_310
  v623

def k0_off104 (v622 : BitVec 32) : Fin 2 → Nat :=
  let c2_i32_310 : BitVec 32 := 2#32
  let v623 : BitVec 32 := Scalar.muli v622 c2_i32_310
  let v624 : BitVec 32 := v623
  let v625 : Index := Scalar.indexCast v624
  let c0_311 : Index := 0#32
  ![v625.toNat, 0]

def k0_chk49 (v622 : BitVec 32) : Prop :=
  (2 ∣ (k0_mult55 v622).toNat) ∧
  (∀ a, (k0_off104 v622) a + S2x128.size a ≤ S64000x128.size a)
theorem k0_mult55_dvd : ∀ (v622 : BitVec 32) (k0_hw49 : k0_chk49 v622), 2 ∣ (k0_mult55 v622).toNat := fun v622 k0_hw49 => k0_hw49.1
theorem k0_off104_inb : ∀ (v622 : BitVec 32) (k0_hw49 : k0_chk49 v622), ∀ a, (k0_off104 v622) a + S2x128.size a ≤ S64000x128.size a := fun v622 k0_hw49 => k0_hw49.2

def k0_off105 (k0_t1 : Fin k0_t1_loop.trips) : Fin 3 → Nat :=
  let c0_314 : Index := 0#32
  let c0_315 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c48_i32_312 : BitVec 32 := 48#32
  let v628 : BitVec 32 := Scalar.addi v18 c48_i32_312
  let c1_i32_313 : BitVec 32 := 1#32
  let v629 : BitVec 32 := Scalar.addi v628 c1_i32_313
  let v630 : Index := Scalar.indexCast v629
  ![0, 0, v630.toNat]
def k0_mult56 (v631 : BitVec 32) : BitVec 32 :=
  let c2_i32_316 : BitVec 32 := 2#32
  let v632 : BitVec 32 := Scalar.muli v631 c2_i32_316
  v632

def k0_off106 (v631 : BitVec 32) : Fin 2 → Nat :=
  let c2_i32_316 : BitVec 32 := 2#32
  let v632 : BitVec 32 := Scalar.muli v631 c2_i32_316
  let v633 : BitVec 32 := v632
  let v634 : Index := Scalar.indexCast v633
  let c0_317 : Index := 0#32
  ![v634.toNat, 0]

def k0_chk50 (v631 : BitVec 32) : Prop :=
  (2 ∣ (k0_mult56 v631).toNat) ∧
  (∀ a, (k0_off106 v631) a + S2x128.size a ≤ S64000x128.size a)
theorem k0_mult56_dvd : ∀ (v631 : BitVec 32) (k0_hw50 : k0_chk50 v631), 2 ∣ (k0_mult56 v631).toNat := fun v631 k0_hw50 => k0_hw50.1
theorem k0_off106_inb : ∀ (v631 : BitVec 32) (k0_hw50 : k0_chk50 v631), ∀ a, (k0_off106 v631) a + S2x128.size a ≤ S64000x128.size a := fun v631 k0_hw50 => k0_hw50.2

def k0_off107 (k0_t1 : Fin k0_t1_loop.trips) : Fin 3 → Nat :=
  let c0_320 : Index := 0#32
  let c0_321 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c48_i32_318 : BitVec 32 := 48#32
  let v637 : BitVec 32 := Scalar.addi v18 c48_i32_318
  let c2_i32_319 : BitVec 32 := 2#32
  let v638 : BitVec 32 := Scalar.addi v637 c2_i32_319
  let v639 : Index := Scalar.indexCast v638
  ![0, 0, v639.toNat]
def k0_mult57 (v640 : BitVec 32) : BitVec 32 :=
  let c2_i32_322 : BitVec 32 := 2#32
  let v641 : BitVec 32 := Scalar.muli v640 c2_i32_322
  v641

def k0_off108 (v640 : BitVec 32) : Fin 2 → Nat :=
  let c2_i32_322 : BitVec 32 := 2#32
  let v641 : BitVec 32 := Scalar.muli v640 c2_i32_322
  let v642 : BitVec 32 := v641
  let v643 : Index := Scalar.indexCast v642
  let c0_323 : Index := 0#32
  ![v643.toNat, 0]

def k0_chk51 (v640 : BitVec 32) : Prop :=
  (2 ∣ (k0_mult57 v640).toNat) ∧
  (∀ a, (k0_off108 v640) a + S2x128.size a ≤ S64000x128.size a)
theorem k0_mult57_dvd : ∀ (v640 : BitVec 32) (k0_hw51 : k0_chk51 v640), 2 ∣ (k0_mult57 v640).toNat := fun v640 k0_hw51 => k0_hw51.1
theorem k0_off108_inb : ∀ (v640 : BitVec 32) (k0_hw51 : k0_chk51 v640), ∀ a, (k0_off108 v640) a + S2x128.size a ≤ S64000x128.size a := fun v640 k0_hw51 => k0_hw51.2

def k0_off109 (k0_t1 : Fin k0_t1_loop.trips) : Fin 3 → Nat :=
  let c0_326 : Index := 0#32
  let c0_327 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c48_i32_324 : BitVec 32 := 48#32
  let v646 : BitVec 32 := Scalar.addi v18 c48_i32_324
  let c3_i32_325 : BitVec 32 := 3#32
  let v647 : BitVec 32 := Scalar.addi v646 c3_i32_325
  let v648 : Index := Scalar.indexCast v647
  ![0, 0, v648.toNat]
def k0_mult58 (v649 : BitVec 32) : BitVec 32 :=
  let c2_i32_328 : BitVec 32 := 2#32
  let v650 : BitVec 32 := Scalar.muli v649 c2_i32_328
  v650

def k0_off110 (v649 : BitVec 32) : Fin 2 → Nat :=
  let c2_i32_328 : BitVec 32 := 2#32
  let v650 : BitVec 32 := Scalar.muli v649 c2_i32_328
  let v651 : BitVec 32 := v650
  let v652 : Index := Scalar.indexCast v651
  let c0_329 : Index := 0#32
  ![v652.toNat, 0]

def k0_chk52 (v649 : BitVec 32) : Prop :=
  (2 ∣ (k0_mult58 v649).toNat) ∧
  (∀ a, (k0_off110 v649) a + S2x128.size a ≤ S64000x128.size a)
theorem k0_mult58_dvd : ∀ (v649 : BitVec 32) (k0_hw52 : k0_chk52 v649), 2 ∣ (k0_mult58 v649).toNat := fun v649 k0_hw52 => k0_hw52.1
theorem k0_off110_inb : ∀ (v649 : BitVec 32) (k0_hw52 : k0_chk52 v649), ∀ a, (k0_off110 v649) a + S2x128.size a ≤ S64000x128.size a := fun v649 k0_hw52 => k0_hw52.2

def k0_off111 (k0_t1 : Fin k0_t1_loop.trips) : Fin 3 → Nat :=
  let c0_332 : Index := 0#32
  let c0_333 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c48_i32_330 : BitVec 32 := 48#32
  let v655 : BitVec 32 := Scalar.addi v18 c48_i32_330
  let c4_i32_331 : BitVec 32 := 4#32
  let v656 : BitVec 32 := Scalar.addi v655 c4_i32_331
  let v657 : Index := Scalar.indexCast v656
  ![0, 0, v657.toNat]
def k0_mult59 (v658 : BitVec 32) : BitVec 32 :=
  let c2_i32_334 : BitVec 32 := 2#32
  let v659 : BitVec 32 := Scalar.muli v658 c2_i32_334
  v659

def k0_off112 (v658 : BitVec 32) : Fin 2 → Nat :=
  let c2_i32_334 : BitVec 32 := 2#32
  let v659 : BitVec 32 := Scalar.muli v658 c2_i32_334
  let v660 : BitVec 32 := v659
  let v661 : Index := Scalar.indexCast v660
  let c0_335 : Index := 0#32
  ![v661.toNat, 0]

def k0_chk53 (v658 : BitVec 32) : Prop :=
  (2 ∣ (k0_mult59 v658).toNat) ∧
  (∀ a, (k0_off112 v658) a + S2x128.size a ≤ S64000x128.size a)
theorem k0_mult59_dvd : ∀ (v658 : BitVec 32) (k0_hw53 : k0_chk53 v658), 2 ∣ (k0_mult59 v658).toNat := fun v658 k0_hw53 => k0_hw53.1
theorem k0_off112_inb : ∀ (v658 : BitVec 32) (k0_hw53 : k0_chk53 v658), ∀ a, (k0_off112 v658) a + S2x128.size a ≤ S64000x128.size a := fun v658 k0_hw53 => k0_hw53.2

def k0_off113 (k0_t1 : Fin k0_t1_loop.trips) : Fin 3 → Nat :=
  let c0_338 : Index := 0#32
  let c0_339 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c48_i32_336 : BitVec 32 := 48#32
  let v664 : BitVec 32 := Scalar.addi v18 c48_i32_336
  let c5_i32_337 : BitVec 32 := 5#32
  let v665 : BitVec 32 := Scalar.addi v664 c5_i32_337
  let v666 : Index := Scalar.indexCast v665
  ![0, 0, v666.toNat]
def k0_mult60 (v667 : BitVec 32) : BitVec 32 :=
  let c2_i32_340 : BitVec 32 := 2#32
  let v668 : BitVec 32 := Scalar.muli v667 c2_i32_340
  v668

def k0_off114 (v667 : BitVec 32) : Fin 2 → Nat :=
  let c2_i32_340 : BitVec 32 := 2#32
  let v668 : BitVec 32 := Scalar.muli v667 c2_i32_340
  let v669 : BitVec 32 := v668
  let v670 : Index := Scalar.indexCast v669
  let c0_341 : Index := 0#32
  ![v670.toNat, 0]

def k0_chk54 (v667 : BitVec 32) : Prop :=
  (2 ∣ (k0_mult60 v667).toNat) ∧
  (∀ a, (k0_off114 v667) a + S2x128.size a ≤ S64000x128.size a)
theorem k0_mult60_dvd : ∀ (v667 : BitVec 32) (k0_hw54 : k0_chk54 v667), 2 ∣ (k0_mult60 v667).toNat := fun v667 k0_hw54 => k0_hw54.1
theorem k0_off114_inb : ∀ (v667 : BitVec 32) (k0_hw54 : k0_chk54 v667), ∀ a, (k0_off114 v667) a + S2x128.size a ≤ S64000x128.size a := fun v667 k0_hw54 => k0_hw54.2

def k0_off115 (k0_t1 : Fin k0_t1_loop.trips) : Fin 3 → Nat :=
  let c0_344 : Index := 0#32
  let c0_345 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c48_i32_342 : BitVec 32 := 48#32
  let v673 : BitVec 32 := Scalar.addi v18 c48_i32_342
  let c6_i32_343 : BitVec 32 := 6#32
  let v674 : BitVec 32 := Scalar.addi v673 c6_i32_343
  let v675 : Index := Scalar.indexCast v674
  ![0, 0, v675.toNat]
def k0_mult61 (v676 : BitVec 32) : BitVec 32 :=
  let c2_i32_346 : BitVec 32 := 2#32
  let v677 : BitVec 32 := Scalar.muli v676 c2_i32_346
  v677

def k0_off116 (v676 : BitVec 32) : Fin 2 → Nat :=
  let c2_i32_346 : BitVec 32 := 2#32
  let v677 : BitVec 32 := Scalar.muli v676 c2_i32_346
  let v678 : BitVec 32 := v677
  let v679 : Index := Scalar.indexCast v678
  let c0_347 : Index := 0#32
  ![v679.toNat, 0]

def k0_chk55 (v676 : BitVec 32) : Prop :=
  (2 ∣ (k0_mult61 v676).toNat) ∧
  (∀ a, (k0_off116 v676) a + S2x128.size a ≤ S64000x128.size a)
theorem k0_mult61_dvd : ∀ (v676 : BitVec 32) (k0_hw55 : k0_chk55 v676), 2 ∣ (k0_mult61 v676).toNat := fun v676 k0_hw55 => k0_hw55.1
theorem k0_off116_inb : ∀ (v676 : BitVec 32) (k0_hw55 : k0_chk55 v676), ∀ a, (k0_off116 v676) a + S2x128.size a ≤ S64000x128.size a := fun v676 k0_hw55 => k0_hw55.2

def k0_off117 (k0_t1 : Fin k0_t1_loop.trips) : Fin 3 → Nat :=
  let c0_350 : Index := 0#32
  let c0_351 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c48_i32_348 : BitVec 32 := 48#32
  let v682 : BitVec 32 := Scalar.addi v18 c48_i32_348
  let c7_i32_349 : BitVec 32 := 7#32
  let v683 : BitVec 32 := Scalar.addi v682 c7_i32_349
  let v684 : Index := Scalar.indexCast v683
  ![0, 0, v684.toNat]
def k0_mult62 (v685 : BitVec 32) : BitVec 32 :=
  let c2_i32_352 : BitVec 32 := 2#32
  let v686 : BitVec 32 := Scalar.muli v685 c2_i32_352
  v686

def k0_off118 (v685 : BitVec 32) : Fin 2 → Nat :=
  let c2_i32_352 : BitVec 32 := 2#32
  let v686 : BitVec 32 := Scalar.muli v685 c2_i32_352
  let v687 : BitVec 32 := v686
  let v688 : Index := Scalar.indexCast v687
  let c0_353 : Index := 0#32
  ![v688.toNat, 0]

def k0_chk56 (v685 : BitVec 32) : Prop :=
  (2 ∣ (k0_mult62 v685).toNat) ∧
  (∀ a, (k0_off118 v685) a + S2x128.size a ≤ S64000x128.size a)
theorem k0_mult62_dvd : ∀ (v685 : BitVec 32) (k0_hw56 : k0_chk56 v685), 2 ∣ (k0_mult62 v685).toNat := fun v685 k0_hw56 => k0_hw56.1
theorem k0_off118_inb : ∀ (v685 : BitVec 32) (k0_hw56 : k0_chk56 v685), ∀ a, (k0_off118 v685) a + S2x128.size a ≤ S64000x128.size a := fun v685 k0_hw56 => k0_hw56.2

def k0_mult63 (k0_t1 : Fin k0_t1_loop.trips) : BitVec 32 :=
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c48_i32_354 : BitVec 32 := 48#32
  let v709 : BitVec 32 := Scalar.addi v18 c48_i32_354
  v709
def k0_off119 (k0_t1 : Fin k0_t1_loop.trips) : Fin 2 → Nat :=
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c48_i32_354 : BitVec 32 := 48#32
  let v709 : BitVec 32 := Scalar.addi v18 c48_i32_354
  let v710 : BitVec 32 := v709
  let v711 : Index := Scalar.indexCast v710
  let c0_355 : Index := 0#32
  ![v711.toNat, 0]
def k0_off120 (k0_t1 : Fin k0_t1_loop.trips) : Fin 3 → Nat :=
  let c0_358 : Index := 0#32
  let c0_359 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c56_i32 : BitVec 32 := 56#32
  let v719 : BitVec 32 := Scalar.addi v18 c56_i32
  let c0_i32_357 : BitVec 32 := 0#32
  let v720 : BitVec 32 := Scalar.addi v719 c0_i32_357
  let v721 : Index := Scalar.indexCast v720
  ![0, 0, v721.toNat]
def k0_mult64 (v722 : BitVec 32) : BitVec 32 :=
  let c2_i32_360 : BitVec 32 := 2#32
  let v723 : BitVec 32 := Scalar.muli v722 c2_i32_360
  v723

def k0_off121 (v722 : BitVec 32) : Fin 2 → Nat :=
  let c2_i32_360 : BitVec 32 := 2#32
  let v723 : BitVec 32 := Scalar.muli v722 c2_i32_360
  let v724 : BitVec 32 := v723
  let v725 : Index := Scalar.indexCast v724
  let c0_361 : Index := 0#32
  ![v725.toNat, 0]

def k0_chk57 (v722 : BitVec 32) : Prop :=
  (2 ∣ (k0_mult64 v722).toNat) ∧
  (∀ a, (k0_off121 v722) a + S2x128.size a ≤ S64000x128.size a)
theorem k0_mult64_dvd : ∀ (v722 : BitVec 32) (k0_hw57 : k0_chk57 v722), 2 ∣ (k0_mult64 v722).toNat := fun v722 k0_hw57 => k0_hw57.1
theorem k0_off121_inb : ∀ (v722 : BitVec 32) (k0_hw57 : k0_chk57 v722), ∀ a, (k0_off121 v722) a + S2x128.size a ≤ S64000x128.size a := fun v722 k0_hw57 => k0_hw57.2

def k0_off122 (k0_t1 : Fin k0_t1_loop.trips) : Fin 3 → Nat :=
  let c0_364 : Index := 0#32
  let c0_365 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c56_i32_362 : BitVec 32 := 56#32
  let v728 : BitVec 32 := Scalar.addi v18 c56_i32_362
  let c1_i32_363 : BitVec 32 := 1#32
  let v729 : BitVec 32 := Scalar.addi v728 c1_i32_363
  let v730 : Index := Scalar.indexCast v729
  ![0, 0, v730.toNat]
def k0_mult65 (v731 : BitVec 32) : BitVec 32 :=
  let c2_i32_366 : BitVec 32 := 2#32
  let v732 : BitVec 32 := Scalar.muli v731 c2_i32_366
  v732

def k0_off123 (v731 : BitVec 32) : Fin 2 → Nat :=
  let c2_i32_366 : BitVec 32 := 2#32
  let v732 : BitVec 32 := Scalar.muli v731 c2_i32_366
  let v733 : BitVec 32 := v732
  let v734 : Index := Scalar.indexCast v733
  let c0_367 : Index := 0#32
  ![v734.toNat, 0]

def k0_chk58 (v731 : BitVec 32) : Prop :=
  (2 ∣ (k0_mult65 v731).toNat) ∧
  (∀ a, (k0_off123 v731) a + S2x128.size a ≤ S64000x128.size a)
theorem k0_mult65_dvd : ∀ (v731 : BitVec 32) (k0_hw58 : k0_chk58 v731), 2 ∣ (k0_mult65 v731).toNat := fun v731 k0_hw58 => k0_hw58.1
theorem k0_off123_inb : ∀ (v731 : BitVec 32) (k0_hw58 : k0_chk58 v731), ∀ a, (k0_off123 v731) a + S2x128.size a ≤ S64000x128.size a := fun v731 k0_hw58 => k0_hw58.2

def k0_off124 (k0_t1 : Fin k0_t1_loop.trips) : Fin 3 → Nat :=
  let c0_370 : Index := 0#32
  let c0_371 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c56_i32_368 : BitVec 32 := 56#32
  let v737 : BitVec 32 := Scalar.addi v18 c56_i32_368
  let c2_i32_369 : BitVec 32 := 2#32
  let v738 : BitVec 32 := Scalar.addi v737 c2_i32_369
  let v739 : Index := Scalar.indexCast v738
  ![0, 0, v739.toNat]
def k0_mult66 (v740 : BitVec 32) : BitVec 32 :=
  let c2_i32_372 : BitVec 32 := 2#32
  let v741 : BitVec 32 := Scalar.muli v740 c2_i32_372
  v741

def k0_off125 (v740 : BitVec 32) : Fin 2 → Nat :=
  let c2_i32_372 : BitVec 32 := 2#32
  let v741 : BitVec 32 := Scalar.muli v740 c2_i32_372
  let v742 : BitVec 32 := v741
  let v743 : Index := Scalar.indexCast v742
  let c0_373 : Index := 0#32
  ![v743.toNat, 0]

def k0_chk59 (v740 : BitVec 32) : Prop :=
  (2 ∣ (k0_mult66 v740).toNat) ∧
  (∀ a, (k0_off125 v740) a + S2x128.size a ≤ S64000x128.size a)
theorem k0_mult66_dvd : ∀ (v740 : BitVec 32) (k0_hw59 : k0_chk59 v740), 2 ∣ (k0_mult66 v740).toNat := fun v740 k0_hw59 => k0_hw59.1
theorem k0_off125_inb : ∀ (v740 : BitVec 32) (k0_hw59 : k0_chk59 v740), ∀ a, (k0_off125 v740) a + S2x128.size a ≤ S64000x128.size a := fun v740 k0_hw59 => k0_hw59.2

def k0_off126 (k0_t1 : Fin k0_t1_loop.trips) : Fin 3 → Nat :=
  let c0_376 : Index := 0#32
  let c0_377 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c56_i32_374 : BitVec 32 := 56#32
  let v746 : BitVec 32 := Scalar.addi v18 c56_i32_374
  let c3_i32_375 : BitVec 32 := 3#32
  let v747 : BitVec 32 := Scalar.addi v746 c3_i32_375
  let v748 : Index := Scalar.indexCast v747
  ![0, 0, v748.toNat]
def k0_mult67 (v749 : BitVec 32) : BitVec 32 :=
  let c2_i32_378 : BitVec 32 := 2#32
  let v750 : BitVec 32 := Scalar.muli v749 c2_i32_378
  v750

def k0_off127 (v749 : BitVec 32) : Fin 2 → Nat :=
  let c2_i32_378 : BitVec 32 := 2#32
  let v750 : BitVec 32 := Scalar.muli v749 c2_i32_378
  let v751 : BitVec 32 := v750
  let v752 : Index := Scalar.indexCast v751
  let c0_379 : Index := 0#32
  ![v752.toNat, 0]

def k0_chk60 (v749 : BitVec 32) : Prop :=
  (2 ∣ (k0_mult67 v749).toNat) ∧
  (∀ a, (k0_off127 v749) a + S2x128.size a ≤ S64000x128.size a)
theorem k0_mult67_dvd : ∀ (v749 : BitVec 32) (k0_hw60 : k0_chk60 v749), 2 ∣ (k0_mult67 v749).toNat := fun v749 k0_hw60 => k0_hw60.1
theorem k0_off127_inb : ∀ (v749 : BitVec 32) (k0_hw60 : k0_chk60 v749), ∀ a, (k0_off127 v749) a + S2x128.size a ≤ S64000x128.size a := fun v749 k0_hw60 => k0_hw60.2

def k0_off128 (k0_t1 : Fin k0_t1_loop.trips) : Fin 3 → Nat :=
  let c0_382 : Index := 0#32
  let c0_383 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c56_i32_380 : BitVec 32 := 56#32
  let v755 : BitVec 32 := Scalar.addi v18 c56_i32_380
  let c4_i32_381 : BitVec 32 := 4#32
  let v756 : BitVec 32 := Scalar.addi v755 c4_i32_381
  let v757 : Index := Scalar.indexCast v756
  ![0, 0, v757.toNat]
def k0_mult68 (v758 : BitVec 32) : BitVec 32 :=
  let c2_i32_384 : BitVec 32 := 2#32
  let v759 : BitVec 32 := Scalar.muli v758 c2_i32_384
  v759

def k0_off129 (v758 : BitVec 32) : Fin 2 → Nat :=
  let c2_i32_384 : BitVec 32 := 2#32
  let v759 : BitVec 32 := Scalar.muli v758 c2_i32_384
  let v760 : BitVec 32 := v759
  let v761 : Index := Scalar.indexCast v760
  let c0_385 : Index := 0#32
  ![v761.toNat, 0]

def k0_chk61 (v758 : BitVec 32) : Prop :=
  (2 ∣ (k0_mult68 v758).toNat) ∧
  (∀ a, (k0_off129 v758) a + S2x128.size a ≤ S64000x128.size a)
theorem k0_mult68_dvd : ∀ (v758 : BitVec 32) (k0_hw61 : k0_chk61 v758), 2 ∣ (k0_mult68 v758).toNat := fun v758 k0_hw61 => k0_hw61.1
theorem k0_off129_inb : ∀ (v758 : BitVec 32) (k0_hw61 : k0_chk61 v758), ∀ a, (k0_off129 v758) a + S2x128.size a ≤ S64000x128.size a := fun v758 k0_hw61 => k0_hw61.2

def k0_off130 (k0_t1 : Fin k0_t1_loop.trips) : Fin 3 → Nat :=
  let c0_388 : Index := 0#32
  let c0_389 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c56_i32_386 : BitVec 32 := 56#32
  let v764 : BitVec 32 := Scalar.addi v18 c56_i32_386
  let c5_i32_387 : BitVec 32 := 5#32
  let v765 : BitVec 32 := Scalar.addi v764 c5_i32_387
  let v766 : Index := Scalar.indexCast v765
  ![0, 0, v766.toNat]
def k0_mult69 (v767 : BitVec 32) : BitVec 32 :=
  let c2_i32_390 : BitVec 32 := 2#32
  let v768 : BitVec 32 := Scalar.muli v767 c2_i32_390
  v768

def k0_off131 (v767 : BitVec 32) : Fin 2 → Nat :=
  let c2_i32_390 : BitVec 32 := 2#32
  let v768 : BitVec 32 := Scalar.muli v767 c2_i32_390
  let v769 : BitVec 32 := v768
  let v770 : Index := Scalar.indexCast v769
  let c0_391 : Index := 0#32
  ![v770.toNat, 0]

def k0_chk62 (v767 : BitVec 32) : Prop :=
  (2 ∣ (k0_mult69 v767).toNat) ∧
  (∀ a, (k0_off131 v767) a + S2x128.size a ≤ S64000x128.size a)
theorem k0_mult69_dvd : ∀ (v767 : BitVec 32) (k0_hw62 : k0_chk62 v767), 2 ∣ (k0_mult69 v767).toNat := fun v767 k0_hw62 => k0_hw62.1
theorem k0_off131_inb : ∀ (v767 : BitVec 32) (k0_hw62 : k0_chk62 v767), ∀ a, (k0_off131 v767) a + S2x128.size a ≤ S64000x128.size a := fun v767 k0_hw62 => k0_hw62.2

def k0_off132 (k0_t1 : Fin k0_t1_loop.trips) : Fin 3 → Nat :=
  let c0_394 : Index := 0#32
  let c0_395 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c56_i32_392 : BitVec 32 := 56#32
  let v773 : BitVec 32 := Scalar.addi v18 c56_i32_392
  let c6_i32_393 : BitVec 32 := 6#32
  let v774 : BitVec 32 := Scalar.addi v773 c6_i32_393
  let v775 : Index := Scalar.indexCast v774
  ![0, 0, v775.toNat]
def k0_mult70 (v776 : BitVec 32) : BitVec 32 :=
  let c2_i32_396 : BitVec 32 := 2#32
  let v777 : BitVec 32 := Scalar.muli v776 c2_i32_396
  v777

def k0_off133 (v776 : BitVec 32) : Fin 2 → Nat :=
  let c2_i32_396 : BitVec 32 := 2#32
  let v777 : BitVec 32 := Scalar.muli v776 c2_i32_396
  let v778 : BitVec 32 := v777
  let v779 : Index := Scalar.indexCast v778
  let c0_397 : Index := 0#32
  ![v779.toNat, 0]

def k0_chk63 (v776 : BitVec 32) : Prop :=
  (2 ∣ (k0_mult70 v776).toNat) ∧
  (∀ a, (k0_off133 v776) a + S2x128.size a ≤ S64000x128.size a)
theorem k0_mult70_dvd : ∀ (v776 : BitVec 32) (k0_hw63 : k0_chk63 v776), 2 ∣ (k0_mult70 v776).toNat := fun v776 k0_hw63 => k0_hw63.1
theorem k0_off133_inb : ∀ (v776 : BitVec 32) (k0_hw63 : k0_chk63 v776), ∀ a, (k0_off133 v776) a + S2x128.size a ≤ S64000x128.size a := fun v776 k0_hw63 => k0_hw63.2

def k0_off134 (k0_t1 : Fin k0_t1_loop.trips) : Fin 3 → Nat :=
  let c0_400 : Index := 0#32
  let c0_401 : Index := 0#32
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c56_i32_398 : BitVec 32 := 56#32
  let v782 : BitVec 32 := Scalar.addi v18 c56_i32_398
  let c7_i32_399 : BitVec 32 := 7#32
  let v783 : BitVec 32 := Scalar.addi v782 c7_i32_399
  let v784 : Index := Scalar.indexCast v783
  ![0, 0, v784.toNat]
def k0_mult71 (v785 : BitVec 32) : BitVec 32 :=
  let c2_i32_402 : BitVec 32 := 2#32
  let v786 : BitVec 32 := Scalar.muli v785 c2_i32_402
  v786

def k0_off135 (v785 : BitVec 32) : Fin 2 → Nat :=
  let c2_i32_402 : BitVec 32 := 2#32
  let v786 : BitVec 32 := Scalar.muli v785 c2_i32_402
  let v787 : BitVec 32 := v786
  let v788 : Index := Scalar.indexCast v787
  let c0_403 : Index := 0#32
  ![v788.toNat, 0]

def k0_chk64 (v785 : BitVec 32) : Prop :=
  (2 ∣ (k0_mult71 v785).toNat) ∧
  (∀ a, (k0_off135 v785) a + S2x128.size a ≤ S64000x128.size a)
theorem k0_mult71_dvd : ∀ (v785 : BitVec 32) (k0_hw64 : k0_chk64 v785), 2 ∣ (k0_mult71 v785).toNat := fun v785 k0_hw64 => k0_hw64.1
theorem k0_off135_inb : ∀ (v785 : BitVec 32) (k0_hw64 : k0_chk64 v785), ∀ a, (k0_off135 v785) a + S2x128.size a ≤ S64000x128.size a := fun v785 k0_hw64 => k0_hw64.2

def k0_mult72 (k0_t1 : Fin k0_t1_loop.trips) : BitVec 32 :=
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c56_i32_404 : BitVec 32 := 56#32
  let v809 : BitVec 32 := Scalar.addi v18 c56_i32_404
  v809
def k0_off136 (k0_t1 : Fin k0_t1_loop.trips) : Fin 2 → Nat :=
  let c0_i32 : BitVec 32 := 0#32
  let c1_i32 : BitVec 32 := 1#32
  let arg6 : BitVec 32 := Scf.iv c0_i32 c1_i32 k0_t1
  let c64_i32 : BitVec 32 := 64#32
  let v18 : BitVec 32 := Scalar.muli arg6 c64_i32
  let c56_i32_404 : BitVec 32 := 56#32
  let v809 : BitVec 32 := Scalar.addi v18 c56_i32_404
  let v810 : BitVec 32 := v809
  let v811 : Index := Scalar.indexCast v810
  let c0_405 : Index := 0#32
  ![v811.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== StatesRefIdeal.lean ====
abbrev S32x2048 : Shape := ⟨2, ![32, 2048]⟩
abbrev S32000x256 : Shape := ⟨2, ![32000, 256]⟩
abbrev S_ : Shape := ⟨0, ![]⟩
abbrev S32x2048x1 : Shape := ⟨3, ![32, 2048, 1]⟩
abbrev S32x2048x256 : Shape := ⟨3, ![32, 2048, 256]⟩
abbrev S32x2048x32 : Shape := ⟨3, ![32, 2048, 32]⟩
abbrev S32x32 : Shape := ⟨2, ![32, 32]⟩
abbrev S32x1x32 : Shape := ⟨3, ![32, 1, 32]⟩
abbrev S32x32x256 : Shape := ⟨3, ![32, 32, 256]⟩
abbrev S1024x256 : Shape := ⟨2, ![1024, 256]⟩

abbrev nBuf : Space → Nat
  | .hbm => 28
  | .vmem => 0
  | .smem => 0
  | _ => 0

abbrev bufTy : (tb : Table) → Fin (tcTables nBuf tb) → BufTy
  | .hbm, ⟨0, _⟩ => ⟨S32x2048, .i32⟩
  | .hbm, ⟨1, _⟩ => ⟨S32000x256, .f32⟩
  | .hbm, ⟨2, _⟩ => ⟨S_, .i32⟩
  | .hbm, ⟨3, _⟩ => ⟨S32x2048, .i32⟩
  | .hbm, ⟨4, _⟩ => ⟨S32x2048, .i1⟩
  | .hbm, ⟨5, _⟩ => ⟨S_, .i32⟩
  | .hbm, ⟨6, _⟩ => ⟨S32x2048, .i32⟩
  | .hbm, ⟨7, _⟩ => ⟨S32x2048, .i32⟩
  | .hbm, ⟨8, _⟩ => ⟨S32x2048, .i32⟩
  | .hbm, ⟨9, _⟩ => ⟨S32x2048x1, .i32⟩
  | .hbm, ⟨10, _⟩ => ⟨S32x2048x256, .f32⟩
  | .hbm, ⟨11, _⟩ => ⟨S32x2048x32, .f32⟩
  | .hbm, ⟨12, _⟩ => ⟨S_, .f32⟩
  | .hbm, ⟨13, _⟩ => ⟨S32x32, .f32⟩
  | .hbm, ⟨14, _⟩ => ⟨S_, .f32⟩
  | .hbm, ⟨15, _⟩ => ⟨S32x32, .f32⟩
  | .hbm, ⟨16, _⟩ => ⟨S32x32, .f32⟩
  | .hbm, ⟨17, _⟩ => ⟨S32x1x32, .f32⟩
  | .hbm, ⟨18, _⟩ => ⟨S32x2048x32, .f32⟩
  | .hbm, ⟨19, _⟩ => ⟨S32x2048x32, .f32⟩
  | .hbm, ⟨20, _⟩ => ⟨S32x2048x32, .f32⟩
  | .hbm, ⟨21, _⟩ => ⟨S_, .f32⟩
  | .hbm, ⟨22, _⟩ => ⟨S32x32, .f32⟩
  | .hbm, ⟨23, _⟩ => ⟨S32x1x32, .f32⟩
  | .hbm, ⟨24, _⟩ => ⟨S32x2048x32, .f32⟩
  | .hbm, ⟨25, _⟩ => ⟨S32x2048x32, .f32⟩
  | .hbm, ⟨26, _⟩ => ⟨S32x32x256, .f32⟩
  | .hbm, ⟨27, _⟩ => ⟨S1024x256, .f32⟩
  | _, _ => ⟨S32x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Scan.lean ====
abbrev S32x2048x32 : Shape := ⟨3, ![32, 2048, 32]⟩
abbrev S32x1x1 : Shape := ⟨3, ![32, 1, 1]⟩
abbrev S1x16x32 : Shape := ⟨3, ![1, 16, 32]⟩
abbrev S1x16x32x32 : Shape := ⟨4, ![1, 16, 32, 32]⟩
abbrev S2048x32x32 : Shape := ⟨3, ![2048, 32, 32]⟩
abbrev S16x32x32 : Shape := ⟨3, ![16, 32, 32]⟩
abbrev S32x32 : Shape := ⟨2, ![32, 32]⟩
abbrev S_ : Shape := ⟨0, ![]⟩
abbrev S1x32x32 : Shape := ⟨3, ![1, 32, 32]⟩
abbrev S16x32 : Shape := ⟨2, ![16, 32]⟩
abbrev S16x32x1 : Shape := ⟨3, ![16, 32, 1]⟩
abbrev S32x512 : Shape := ⟨2, ![32, 512]⟩
abbrev S512x512 : Shape := ⟨2, ![512, 512]⟩
abbrev S16x16 : Shape := ⟨2, ![16, 16]⟩
abbrev S16x1x16x1 : Shape := ⟨4, ![16, 1, 16, 1]⟩
abbrev S1x32x1x32 : Shape := ⟨4, ![1, 32, 1, 32]⟩
abbrev S16x32x16x32 : Shape := ⟨4, ![16, 32, 16, 32]⟩
abbrev S1x32x16x32 : Shape := ⟨4, ![1, 32, 16, 32]⟩
abbrev S16 : Shape := ⟨1, ![16]⟩
abbrev S16x1 : Shape := ⟨2, ![16, 1]⟩
abbrev S1x512 : Shape := ⟨2, ![1, 512]⟩
abbrev S32x1 : Shape := ⟨2, ![32, 1]⟩
abbrev S2048x16x32 : Shape := ⟨3, ![2048, 16, 32]⟩
abbrev S16x1x1 : Shape := ⟨3, ![16, 1, 1]⟩
abbrev S16x512 : Shape := ⟨2, ![16, 512]⟩

abbrev nBuf : Space → Nat
  | .hbm => 140
  | .vmem => 10
  | .smem => 0
  | _ => 0

abbrev hbmTy0_0 (i : Nat) : BufTy := match i % 128 with
  | 0 => ⟨S32x2048x32, .f32⟩
  | 1 => ⟨S32x1x1, .f32⟩
  | 2 => ⟨S1x16x32, .f32⟩
  | 3 => ⟨S1x16x32x32, .f32⟩
  | 4 => ⟨S2048x32x32, .f32⟩
  | 5 => ⟨S16x32x32, .f32⟩
  | 6 => ⟨S32x32, .i32⟩
  | 7 => ⟨S32x32, .i32⟩
  | 8 => ⟨S_, .i32⟩
  | 9 => ⟨S32x32, .i32⟩
  | 10 => ⟨S32x32, .i32⟩
  | 11 => ⟨S32x32, .i1⟩
  | 12 => ⟨S32x32, .f32⟩
  | 13 => ⟨S_, .f32⟩
  | 14 => ⟨S32x32, .f32⟩
  | 15 => ⟨S32x32, .f32⟩
  | 16 => ⟨S1x32x32, .f32⟩
  | 17 => ⟨S16x32x32, .f32⟩
  | 18 => ⟨S16x32x32, .f32⟩
  | 19 => ⟨S_, .f32⟩
  | 20 => ⟨S16x32, .f32⟩
  | 21 => ⟨S_, .f32⟩
  | 22 => ⟨S16x32, .f32⟩
  | 23 => ⟨S16x32, .f32⟩
  | 24 => ⟨S16x32x1, .f32⟩
  | 25 => ⟨S16x32x32, .f32⟩
  | 26 => ⟨S16x32x32, .f32⟩
  | 27 => ⟨S16x32x32, .f32⟩
  | 28 => ⟨S_, .f32⟩
  | 29 => ⟨S16x32, .f32⟩
  | 30 => ⟨S16x32x1, .f32⟩
  | 31 => ⟨S16x32x32, .f32⟩
  | 32 => ⟨S16x32x32, .f32⟩
  | 33 => ⟨S1x32x32, .f32⟩
  | 34 => ⟨S32x32, .f32⟩
  | 35 => ⟨S1x32x32, .f32⟩
  | 36 => ⟨S32x32, .f32⟩
  | 37 => ⟨S1x32x32, .f32⟩
  | 38 => ⟨S32x32, .f32⟩
  | 39 => ⟨S1x32x32, .f32⟩
  | 40 => ⟨S32x32, .f32⟩
  | 41 => ⟨S1x32x32, .f32⟩
  | 42 => ⟨S32x32, .f32⟩
  | 43 => ⟨S1x32x32, .f32⟩
  | 44 => ⟨S32x32, .f32⟩
  | 45 => ⟨S1x32x32, .f32⟩
  | 46 => ⟨S32x32, .f32⟩
  | 47 => ⟨S1x32x32, .f32⟩
  | 48 => ⟨S32x32, .f32⟩
  | 49 => ⟨S1x32x32, .f32⟩
  | 50 => ⟨S32x32, .f32⟩
  | 51 => ⟨S1x32x32, .f32⟩
  | 52 => ⟨S32x32, .f32⟩
  | 53 => ⟨S1x32x32, .f32⟩
  | 54 => ⟨S32x32, .f32⟩
  | 55 => ⟨S1x32x32, .f32⟩
  | 56 => ⟨S32x32, .f32⟩
  | 57 => ⟨S1x32x32, .f32⟩
  | 58 => ⟨S32x32, .f32⟩
  | 59 => ⟨S1x32x32, .f32⟩
  | 60 => ⟨S32x32, .f32⟩
  | 61 => ⟨S1x32x32, .f32⟩
  | 62 => ⟨S32x32, .f32⟩
  | 63 => ⟨S1x32x32, .f32⟩
  | 64 => ⟨S32x32, .f32⟩
  | 65 => ⟨S_, .f32⟩
  | 66 => ⟨S32x512, .f32⟩
  | 67 => ⟨S_, .f32⟩
  | 68 => ⟨S32x512, .f32⟩
  | 69 => ⟨S_, .f32⟩
  | 70 => ⟨S32x512, .f32⟩
  | 71 => ⟨S_, .f32⟩
  | 72 => ⟨S32x512, .f32⟩
  | 73 => ⟨S_, .f32⟩
  | 74 => ⟨S32x512, .f32⟩
  | 75 => ⟨S_, .f32⟩
  | 76 => ⟨S32x512, .f32⟩
  | 77 => ⟨S_, .f32⟩
  | 78 => ⟨S32x512, .f32⟩
  | 79 => ⟨S_, .f32⟩
  | 80 => ⟨S32x512, .f32⟩
  | 81 => ⟨S_, .f32⟩
  | 82 => ⟨S32x512, .f32⟩
  | 83 => ⟨S_, .f32⟩
  | 84 => ⟨S32x512, .f32⟩
  | 85 => ⟨S_, .f32⟩
  | 86 => ⟨S32x512, .f32⟩
  | 87 => ⟨S_, .f32⟩
  | 88 => ⟨S32x512, .f32⟩
  | 89 => ⟨S_, .f32⟩
  | 90 => ⟨S32x512, .f32⟩
  | 91 => ⟨S_, .f32⟩
  | 92 => ⟨S32x512, .f32⟩
  | 93 => ⟨S_, .f32⟩
  | 94 => ⟨S32x512, .f32⟩
  | 95 => ⟨S_, .f32⟩
  | 96 => ⟨S32x512, .f32⟩
  | 97 => ⟨S512x512, .f32⟩
  | 98 => ⟨S16x16, .i32⟩
  | 99 => ⟨S16x16, .i32⟩
  | 100 => ⟨S_, .i32⟩
  | 101 => ⟨S16x16, .i32⟩
  | 102 => ⟨S16x16, .i32⟩
  | 103 => ⟨S16x16, .i1⟩
  | 104 => ⟨S16x16, .f32⟩
  | 105 => ⟨S_, .f32⟩
  | 106 => ⟨S32x32, .f32⟩
  | 107 => ⟨S16x1x16x1, .f32⟩
  | 108 => ⟨S1x32x1x32, .f32⟩
  | 109 => ⟨S16x32x16x32, .f32⟩
  | 110 => ⟨S16x32x16x32, .f32⟩
  | 111 => ⟨S16x32x16x32, .f32⟩
  | 112 => ⟨S512x512, .f32⟩
  | 113 => ⟨S32x32, .i32⟩
  | 114 => ⟨S32x32, .i32⟩
  | 115 => ⟨S_, .i32⟩
  | 116 => ⟨S32x32, .i32⟩
  | 117 => ⟨S32x32, .i32⟩
  | 118 => ⟨S32x32, .i1⟩
  | 119 => ⟨S32x32, .f32⟩
  | 120 => ⟨S1x32x1x32, .f32⟩
  | 121 => ⟨S1x32x16x32, .f32⟩
  | 122 => ⟨S32x512, .f32⟩
  | 123 => ⟨S16x32, .f32⟩
  | 124 => ⟨S_, .f32⟩
  | 125 => ⟨S16, .f32⟩
  | 126 => ⟨S_, .f32⟩
  | 127 => ⟨S16, .f32⟩
  | _ => ⟨S32x2048x32, .f32⟩

abbrev hbmTy0_1 (i : Nat) : BufTy := match i % 128 with
  | 0 => ⟨S16, .f32⟩
  | 1 => ⟨S16x1, .f32⟩
  | 2 => ⟨S16x32, .f32⟩
  | 3 => ⟨S16x32, .f32⟩
  | 4 => ⟨S16x32, .f32⟩
  | 5 => ⟨S_, .f32⟩
  | 6 => ⟨S16, .f32⟩
  | 7 => ⟨S16x1, .f32⟩
  | 8 => ⟨S16x32, .f32⟩
  | 9 => ⟨S16x32, .f32⟩
  | 10 => ⟨S1x512, .f32⟩
  | 11 => ⟨S32x1, .f32⟩
  | _ => ⟨S32x2048x32, .f32⟩

abbrev hbmTy (i : Nat) : BufTy := match i / 128 with
  | 0 => hbmTy0_0 i
  | 1 => hbmTy0_1 i
  | _ => ⟨S32x2048x32, .f32⟩

abbrev bufTy : (tb : Table) → Fin (tcTables nBuf tb) → BufTy
  | .hbm, ⟨i, _⟩ => hbmTy i
  | .local _ .vmem, ⟨0, _⟩ => ⟨S2048x16x32, .f32⟩
  | .local _ .vmem, ⟨1, _⟩ => ⟨S2048x16x32, .f32⟩
  | .local _ .vmem, ⟨2, _⟩ => ⟨S512x512, .f32⟩
  | .local _ .vmem, ⟨3, _⟩ => ⟨S512x512, .f32⟩
  | .local _ .vmem, ⟨4, _⟩ => ⟨S32x512, .f32⟩
  | .local _ .vmem, ⟨5, _⟩ => ⟨S1x512, .f32⟩
  | .local _ .vmem, ⟨6, _⟩ => ⟨S16x1x1, .f32⟩
  | .local _ .vmem, ⟨7, _⟩ => ⟨S16x1x1, .f32⟩
  | .local _ .vmem, ⟨8, _⟩ => ⟨S16x1, .f32⟩
  | .local _ .vmem, ⟨9, _⟩ => ⟨S16x1, .f32⟩
  | _, _ => ⟨S32x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_call0_cst : Ref sig .tc := ⟨.hbm, 65, rfl⟩
abbrev main_call0_v16 : Ref sig .tc := ⟨.hbm, 66, rfl⟩
abbrev main_call0_cst_0 : Ref sig .tc := ⟨.hbm, 67, rfl⟩
abbrev main_call0_v17 : Ref sig .tc := ⟨.hbm, 68, rfl⟩
abbrev main_call0_cst_1 : Ref sig .tc := ⟨.hbm, 69, rfl⟩
abbrev main_call0_v18 : Ref sig .tc := ⟨.hbm, 70, rfl⟩
abbrev main_call0_cst_2 : Ref sig .tc := ⟨.hbm, 71, rfl⟩
abbrev main_call0_v19 : Ref sig .tc := ⟨.hbm, 72, rfl⟩
abbrev main_call0_cst_3 : Ref sig .tc := ⟨.hbm, 73, rfl⟩
abbrev main_call0_v20 : Ref sig .tc := ⟨.hbm, 74, rfl⟩
abbrev main_call0_cst_4 : Ref sig .tc := ⟨.hbm, 75, rfl⟩
abbrev main_call0_v21 : Ref sig .tc := ⟨.hbm, 76, rfl⟩
abbrev main_call0_cst_5 : Ref sig .tc := ⟨.hbm, 77, rfl⟩
abbrev main_call0_v22 : Ref sig .tc := ⟨.hbm, 78, rfl⟩
abbrev main_call0_cst_6 : Ref sig .tc := ⟨.hbm, 79, rfl⟩
abbrev main_call0_v23 : Ref sig .tc := ⟨.hbm, 80, rfl⟩
abbrev main_call0_cst_7 : Ref sig .tc := ⟨.hbm, 81, rfl⟩
abbrev main_call0_v24 : Ref sig .tc := ⟨.hbm, 82, rfl⟩
abbrev main_call0_cst_8 : Ref sig .tc := ⟨.hbm, 83, rfl⟩
abbrev main_call0_v25 : Ref sig .tc := ⟨.hbm, 84, rfl⟩
abbrev main_call0_cst_9 : Ref sig .tc := ⟨.hbm, 85, rfl⟩
abbrev main_call0_v26 : Ref sig .tc := ⟨.hbm, 86, rfl⟩
abbrev main_call0_cst_10 : Ref sig .tc := ⟨.hbm, 87, rfl⟩
abbrev main_call0_v27 : Ref sig .tc := ⟨.hbm, 88, rfl⟩
abbrev main_call0_cst_11 : Ref sig .tc := ⟨.hbm, 89, rfl⟩
abbrev main_call0_v28 : Ref sig .tc := ⟨.hbm, 90, rfl⟩
abbrev main_call0_cst_12 : Ref sig .tc := ⟨.hbm, 91, rfl⟩
abbrev main_call0_v29 : Ref sig .tc := ⟨.hbm, 92, rfl⟩
abbrev main_call0_cst_13 : Ref sig .tc := ⟨.hbm, 93, rfl⟩
abbrev main_call0_v30 : Ref sig .tc := ⟨.hbm, 94, rfl⟩
abbrev main_call0_cst_14 : Ref sig .tc := ⟨.hbm, 95, rfl⟩
abbrev main_call0_v31 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_c_3 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_4 : Ref sig .tc := ⟨.hbm, 105, rfl⟩
abbrev main_v63 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_c_5 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_6 : Ref sig .tc := ⟨.hbm, 124, rfl⟩
abbrev main_v75 : Ref sig .tc := ⟨.hbm, 125, rfl⟩
abbrev main_cst_7 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_cst_8 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c256_i32 : BitVec 32 := 256#32
  let v5 : BitVec 32 := Scalar.addi c0_i32 c256_i32
  let c1_i32 : BitVec 32 := 1#32
  ⟨c0_i32, v5, c1_i32⟩
def k0_off1 (k0_t1 : Fin k0_t1_loop.trips) (c0_i32_12 : BitVec 32) : Fin 3 → Nat :=
  let c0_i32 : BitVec 32 := 0#32
  let c1_i32 : BitVec 32 := 1#32
  let arg8 : BitVec 32 := Scf.iv c0_i32 c1_i32 k0_t1
  let c8_i32 : BitVec 32 := 8#32
  let v28 : BitVec 32 := Scalar.muli arg8 c8_i32
  let v29 : BitVec 32 := Scalar.addi v28 c0_i32_12
  let v30 : Index := Scalar.indexCast v29
  let c0_13 : Index := 0#32
  let c0_14 : Index := 0#32
  ![v30.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x16x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ScanRefIdeal.lean ====
abbrev S32x2048x32 : Shape := ⟨3, ![32, 2048, 32]⟩
abbrev S32x1x1 : Shape := ⟨3, ![32, 1, 1]⟩
abbrev S1x16x32 : Shape := ⟨3, ![1, 16, 32]⟩
abbrev S1x16x32x32 : Shape := ⟨4, ![1, 16, 32, 32]⟩
abbrev S2048x32x32 : Shape := ⟨3, ![2048, 32, 32]⟩
abbrev S16x32x32 : Shape := ⟨3, ![16, 32, 32]⟩
abbrev S32x32 : Shape := ⟨2, ![32, 32]⟩
abbrev S_ : Shape := ⟨0, ![]⟩
abbrev S1x32x32 : Shape := ⟨3, ![1, 32, 32]⟩
abbrev S16x32 : Shape := ⟨2, ![16, 32]⟩
abbrev S16x32x1 : Shape := ⟨3, ![16, 32, 1]⟩
abbrev S16 : Shape := ⟨1, ![16]⟩
abbrev S16x1 : Shape := ⟨2, ![16, 1]⟩
abbrev S32x16x32 : Shape := ⟨3, ![32, 16, 32]⟩
abbrev S32x16x32x1 : Shape := ⟨4, ![32, 16, 32, 1]⟩
abbrev S32x16x32x32 : Shape := ⟨4, ![32, 16, 32, 32]⟩
abbrev S32x16x1x32 : Shape := ⟨4, ![32, 16, 1, 32]⟩
abbrev S32x1x32 : Shape := ⟨3, ![32, 1, 32]⟩
abbrev S32 : Shape := ⟨1, ![32]⟩
abbrev S32x1 : Shape := ⟨2, ![32, 1]⟩

abbrev nBuf : Space → Nat
  | .hbm => 126
  | .vmem => 0
  | .smem => 0
  | _ => 0

abbrev bufTy : (tb : Table) → Fin (tcTables nBuf tb) → BufTy
  | .hbm, ⟨0, _⟩ => ⟨S32x2048x32, .f32⟩
  | .hbm, ⟨1, _⟩ => ⟨S32x1x1, .f32⟩
  | .hbm, ⟨2, _⟩ => ⟨S1x16x32, .f32⟩
  | .hbm, ⟨3, _⟩ => ⟨S1x16x32x32, .f32⟩
  | .hbm, ⟨4, _⟩ => ⟨S32x2048x32, .f32⟩
  | .hbm, ⟨5, _⟩ => ⟨S2048x32x32, .f32⟩
  | .hbm, ⟨6, _⟩ => ⟨S16x32x32, .f32⟩
  | .hbm, ⟨7, _⟩ => ⟨S32x32, .i32⟩
  | .hbm, ⟨8, _⟩ => ⟨S32x32, .i32⟩
  | .hbm, ⟨9, _⟩ => ⟨S_, .i32⟩
  | .hbm, ⟨10, _⟩ => ⟨S32x32, .i32⟩
  | .hbm, ⟨11, _⟩ => ⟨S32x32, .i32⟩
  | .hbm, ⟨12, _⟩ => ⟨S32x32, .i1⟩
  | .hbm, ⟨13, _⟩ => ⟨S32x32, .f32⟩
  | .hbm, ⟨14, _⟩ => ⟨S_, .f32⟩
  | .hbm, ⟨15, _⟩ => ⟨S32x32, .f32⟩
  | .hbm, ⟨16, _⟩ => ⟨S32x32, .f32⟩
  | .hbm, ⟨17, _⟩ => ⟨S1x32x32, .f32⟩
  | .hbm, ⟨18, _⟩ => ⟨S16x32x32, .f32⟩
  | .hbm, ⟨19, _⟩ => ⟨S16x32x32, .f32⟩
  | .hbm, ⟨20, _⟩ => ⟨S_, .f32⟩
  | .hbm, ⟨21, _⟩ => ⟨S16x32, .f32⟩
  | .hbm, ⟨22, _⟩ => ⟨S_, .f32⟩
  | .hbm, ⟨23, _⟩ => ⟨S16x32, .f32⟩
  | .hbm, ⟨24, _⟩ => ⟨S16x32, .f32⟩
  | .hbm, ⟨25, _⟩ => ⟨S16x32x1, .f32⟩
  | .hbm, ⟨26, _⟩ => ⟨S16x32x32, .f32⟩
  | .hbm, ⟨27, _⟩ => ⟨S16x32x32, .f32⟩
  | .hbm, ⟨28, _⟩ => ⟨S16x32x32, .f32⟩
  | .hbm, ⟨29, _⟩ => ⟨S_, .f32⟩
  | .hbm, ⟨30, _⟩ => ⟨S16x32, .f32⟩
  | .hbm, ⟨31, _⟩ => ⟨S16x32x1, .f32⟩
  | .hbm, ⟨32, _⟩ => ⟨S16x32x1, .f32⟩
  | .hbm, ⟨33, _⟩ => ⟨S16x32x32, .f32⟩
  | .hbm, ⟨34, _⟩ => ⟨S16x32x32, .f32⟩
  | .hbm, ⟨35, _⟩ => ⟨S16x32, .f32⟩
  | .hbm, ⟨36, _⟩ => ⟨S_, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16x1, .f32⟩
  | .hbm, ⟨42, _⟩ => ⟨S16x32, .f32⟩
  | .hbm, ⟨43, _⟩ => ⟨S16x32, .f32⟩
  | .hbm, ⟨44, _⟩ => ⟨S16x32, .f32⟩
  | .hbm, ⟨45, _⟩ => ⟨S_, .f32⟩
  | .hbm, ⟨46, _⟩ => ⟨S16, .f32⟩
  | .hbm, ⟨47, _⟩ => ⟨S16x1, .f32⟩
  | .hbm, ⟨48, _⟩ => ⟨S16x1, .f32⟩
  | .hbm, ⟨49, _⟩ => ⟨S16x32, .f32⟩
  | .hbm, ⟨50, _⟩ => ⟨S16x32, .f32⟩
  | .hbm, ⟨51, _⟩ => ⟨S32x16x32, .f32⟩
  | .hbm, ⟨52, _⟩ => ⟨S_, .i32⟩
  | .hbm, ⟨53, _⟩ => ⟨S_, .i32⟩
  | .hbm, ⟨54, _⟩ => ⟨S16x32x32, .f32⟩
  | .hbm, ⟨55, _⟩ => ⟨S2048x32x32, .f32⟩
  | .hbm, ⟨56, _⟩ => ⟨S_, .i32⟩
  | .hbm, ⟨57, _⟩ => ⟨S_, .i32⟩
  | .hbm, ⟨58, _⟩ => ⟨S32x16x32, .f32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S1x16x32x32, .f32⟩
  | .hbm, ⟨64, _⟩ => ⟨S32x16x32x1, .f32⟩
  | .hbm, ⟨65, _⟩ => ⟨S32x16x32x32, .f32⟩
  | .hbm, ⟨66, _⟩ => ⟨S32x16x32x32, .f32⟩
  | .hbm, ⟨67, _⟩ => ⟨S32x16x32x32, .f32⟩
  | .hbm, ⟨68, _⟩ => ⟨S_, .f32⟩
  | .hbm, ⟨69, _⟩ => ⟨S32x16x32, .f32⟩
  | .hbm, ⟨70, _⟩ => ⟨S32x16x1x32, .f32⟩
  | .hbm, ⟨71, _⟩ => ⟨S32x16x32x32, .f32⟩
  | .hbm, ⟨72, _⟩ => ⟨S32x16x32x32, .f32⟩
  | .hbm, ⟨73, _⟩ => ⟨S32x16x32x32, .f32⟩
  | .hbm, ⟨74, _⟩ => ⟨S_, .f32⟩
  | .hbm, ⟨75, _⟩ => ⟨S32x16x32, .f32⟩
  | .hbm, ⟨76, _⟩ => ⟨S32x16x32, .f32⟩
  | .hbm, ⟨77, _⟩ => ⟨S32x16x32, .f32⟩
  | .hbm, ⟨78, _⟩ => ⟨S_, .i32⟩
  | .hbm, ⟨79, _⟩ => ⟨S_, .i32⟩
  | .hbm, ⟨80, _⟩ => ⟨S_, .i1⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i1⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S1x32x32, .f32⟩
  | .hbm, ⟨101, _⟩ => ⟨S32x32, .f32⟩
  | .hbm, ⟨102, _⟩ => ⟨S32x1x32, .f32⟩
  | .hbm, ⟨103, _⟩ => ⟨S32x16x32, .f32⟩
  | .hbm, ⟨104, _⟩ => ⟨S32x16x32, .f32⟩
  | .hbm, ⟨105, _⟩ => ⟨S_, .i32⟩
  | .hbm, ⟨106, _⟩ => ⟨S_, .i32⟩
  | .hbm, ⟨107, _⟩ => ⟨S_, .f32⟩
  | .hbm, ⟨108, _⟩ => ⟨S32x16x32, .f32⟩
  | .hbm, ⟨109, _⟩ => ⟨S32x16x32, .f32⟩
  | .hbm, ⟨110, _⟩ => ⟨S_, .f32⟩
  | .hbm, ⟨111, _⟩ => ⟨S32, .f32⟩
  | .hbm, ⟨112, _⟩ => ⟨S32x1x1, .f32⟩
  | .hbm, ⟨113, _⟩ => ⟨S32x16x32, .f32⟩
  | .hbm, ⟨114, _⟩ => ⟨S32x16x32, .f32⟩
  | .hbm, ⟨115, _⟩ => ⟨S32x16x32, .f32⟩
  | .hbm, ⟨116, _⟩ => ⟨S_, .f32⟩
  | .hbm, ⟨117, _⟩ => ⟨S32, .f32⟩
  | .hbm, ⟨118, _⟩ => ⟨S32, .f32⟩
  | .hbm, ⟨119, _⟩ => ⟨S32, .f32⟩
  | .hbm, ⟨120, _⟩ => ⟨S32x1, .f32⟩
  | .hbm, ⟨121, _⟩ => ⟨S32x1, .f32⟩
  | .hbm, ⟨122, _⟩ => ⟨S_, .f32⟩
  | .hbm, ⟨123, _⟩ => ⟨S32x1, .f32⟩
  | .hbm, ⟨124, _⟩ => ⟨S32x1, .f32⟩
  | .hbm, ⟨125, _⟩ => ⟨S32x1, .f32⟩
  | _, _ => ⟨S32x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_call0_cst_0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_cst_1 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_v14 : Ref sig .tc := ⟨.hbm, 34, rfl⟩
abbrev main_v15 : Ref sig .tc := ⟨.hbm, 35, rfl⟩
abbrev main_call1_cst : Ref sig .tc := ⟨.hbm, 36, rfl⟩
abbrev main_call1_v0 : Ref sig .tc := ⟨.hbm, 37, rfl⟩
abbrev main_call1_cst_0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_cst_1 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_v16 : Ref sig .tc := ⟨.hbm, 50, rfl⟩
abbrev main_v17 : Ref sig .tc := ⟨.hbm, 51, rfl⟩
abbrev main_c_0 : Ref sig .tc := ⟨.hbm, 52, rfl⟩
abbrev main_c_1 : Ref sig .tc := ⟨.hbm, 53, rfl⟩
abbrev main_v18_0 : Ref sig .tc := ⟨.hbm, 54, rfl⟩
abbrev main_v18_1 : Ref sig .tc := ⟨.hbm, 55, rfl⟩
abbrev main_v18_2 : Ref sig .tc := ⟨.hbm, 56, rfl⟩
abbrev main_v18_3 : Ref sig .tc := ⟨.hbm, 57, rfl⟩
abbrev main_v18_4 : Ref sig .tc := ⟨.hbm, 58, rfl⟩
abbrev main_while0c_c_10 : Ref sig .tc := ⟨.hbm, 59, rfl⟩
abbrev main_while0c_v34 : Ref sig .tc := ⟨.hbm, 60, rfl⟩
abbrev main_while0b_c_10 : Ref sig .tc := ⟨.hbm, 61, rfl⟩
abbrev main_while0b_v34 : Ref sig .tc := ⟨.hbm, 62, rfl⟩
abbrev main_while0b_v35 : Ref sig .tc := ⟨.hbm, 63, rfl⟩
abbrev main_while0b_v36 : Ref sig .tc := ⟨.hbm, 64, rfl⟩
abbrev main_while0b_v37 : Ref sig .tc := ⟨.hbm, 65, rfl⟩
abbrev main_while0b_v38 : Ref sig .tc := ⟨.hbm, 66, rfl⟩
abbrev main_while0b_v39 : Ref sig .tc := ⟨.hbm, 67, rfl⟩
abbrev main_while0b_cst_11 : Ref sig .tc := ⟨.hbm, 68, rfl⟩
abbrev main_while0b_v40 : Ref sig .tc := ⟨.hbm, 69, rfl⟩
abbrev main_while0b_v41 : Ref sig .tc := ⟨.hbm, 70, rfl⟩
abbrev main_while0b_v42 : Ref sig .tc := ⟨.hbm, 71, rfl⟩
abbrev main_while0b_v43 : Ref sig .tc := ⟨.hbm, 72, rfl⟩
abbrev main_while0b_v44 : Ref sig .tc := ⟨.hbm, 73, rfl⟩
abbrev main_while0b_cst_12 : Ref sig .tc := ⟨.hbm, 74, rfl⟩
abbrev main_while0b_v45 : Ref sig .tc := ⟨.hbm, 75, rfl⟩
abbrev main_while0b_v46 : Ref sig .tc := ⟨.hbm, 76, rfl⟩
abbrev main_while0b_v47 : Ref sig .tc := ⟨.hbm, 77, rfl⟩
abbrev main_while0b_v48 : Ref sig .tc := ⟨.hbm, 78, rfl⟩
abbrev main_while0b_c_13 : Ref sig .tc := ⟨.hbm, 79, rfl⟩
abbrev main_while0b_v49 : Ref sig .tc := ⟨.hbm, 80, rfl⟩
abbrev main_while0b_c_14 : Ref sig .tc := ⟨.hbm, 81, rfl⟩
abbrev main_while0b_v50 : Ref sig .tc := ⟨.hbm, 82, rfl⟩
abbrev main_while0b_v51 : Ref sig .tc := ⟨.hbm, 83, rfl⟩
abbrev main_while0b_c_15 : Ref sig .tc := ⟨.hbm, 84, rfl⟩
abbrev main_while0b_c_16 : Ref sig .tc := ⟨.hbm, 85, rfl⟩
abbrev main_while0b_v52 : Ref sig .tc := ⟨.hbm, 86, rfl⟩
abbrev main_while0b_c_17 : Ref sig .tc := ⟨.hbm, 87, rfl⟩
abbrev main_while0b_c_18 : Ref sig .tc := ⟨.hbm, 88, rfl⟩
abbrev main_while0b_v53 : Ref sig .tc := ⟨.hbm, 89, rfl⟩
abbrev main_while0b_c_19 : Ref sig .tc := ⟨.hbm, 90, rfl⟩
abbrev main_while0b_v54 : Ref sig .tc := ⟨.hbm, 91, rfl⟩
abbrev main_while0b_c_20 : Ref sig .tc := ⟨.hbm, 92, rfl⟩
abbrev main_while0b_c_21 : Ref sig .tc := ⟨.hbm, 93, rfl⟩
abbrev main_while0b_v55 : Ref sig .tc := ⟨.hbm, 94, rfl⟩
abbrev main_while0b_c_22 : Ref sig .tc := ⟨.hbm, 95, rfl⟩
abbrev main_while0b_c_23 : Ref sig .tc := ⟨.hbm, 96, rfl⟩
abbrev main_while0b_v56 : Ref sig .tc := ⟨.hbm, 97, rfl⟩
abbrev main_while0b_c_24 : Ref sig .tc := ⟨.hbm, 98, rfl⟩
abbrev main_while0b_v57 : Ref sig .tc := ⟨.hbm, 99, rfl⟩
abbrev main_while0b_v58 : Ref sig .tc := ⟨.hbm, 100, rfl⟩
abbrev main_while0b_v59 : Ref sig .tc := ⟨.hbm, 101, rfl⟩
abbrev main_while0b_v60 : Ref sig .tc := ⟨.hbm, 102, rfl⟩
abbrev main_while0b_v61 : Ref sig .tc := ⟨.hbm, 103, rfl⟩
abbrev main_while0b_v62 : Ref sig .tc := ⟨.hbm, 104, rfl⟩
abbrev main_while0b_c_25 : Ref sig .tc := ⟨.hbm, 105, rfl⟩
abbrev main_while0b_v63 : Ref sig .tc := ⟨.hbm, 106, rfl⟩
abbrev main_cst_2 : Ref sig .tc := ⟨.hbm, 107, rfl⟩
abbrev main_v19 : Ref sig .tc := ⟨.hbm, 108, rfl⟩
abbrev main_v20 : Ref sig .tc := ⟨.hbm, 109, rfl⟩
abbrev main_cst_3 : Ref sig .tc := ⟨.hbm, 110, rfl⟩
abbrev main_v21 : Ref sig .tc := ⟨.hbm, 111, rfl⟩
abbrev main_v22 : Ref sig .tc := ⟨.hbm, 112, rfl⟩
abbrev main_v23 : Ref sig .tc := ⟨.hbm, 113, rfl⟩
abbrev main_v24 : Ref sig .tc := ⟨.hbm, 114, rfl⟩
abbrev main_v25 : Ref sig .tc := ⟨.hbm, 115, rfl⟩
abbrev main_cst_4 : Ref sig .tc := ⟨.hbm, 116, rfl⟩
abbrev main_v26 : Ref sig .tc := ⟨.hbm, 117, rfl⟩
abbrev main_v27 : Ref sig .tc := ⟨.hbm, 118, rfl⟩
abbrev main_v28 : Ref sig .tc := ⟨.hbm, 119, rfl⟩
abbrev main_v29 : Ref sig .tc := ⟨.hbm, 120, rfl⟩
abbrev main_v30 : Ref sig .tc := ⟨.hbm, 121, rfl⟩
abbrev main_cst_5 : Ref sig .tc := ⟨.hbm, 122, rfl⟩
abbrev main_v31 : Ref sig .tc := ⟨.hbm, 123, rfl⟩
abbrev main_v32 : Ref sig .tc := ⟨.hbm, 124, rfl⟩
abbrev main_v33 : Ref sig .tc := ⟨.hbm, 125, rfl⟩

abbrev nD : Nat := 1
abbrev τ : Topo := Topo.v7x

variable {F : FTy → Type} [FloatOps F]

abbrev main_while0_count : Scf.Loop 32 := ⟨0#32, 2048#32, 1#32⟩
-- ==== Proof.Online.lean ====
/-
  The mathematics of a running log-sum-exp, over the extended reals and free of any program.

  A running log-sum-exp keeps, for the entries seen so far, their maximum `m` (never below a start value `c`) and the
  sum of `exp (l j - m)`. `top` and `mass` are those two numbers for a finite set of entries. `top_step` and `mass_step`
  say how they change when a block of new entries arrives; `lse_eq` says that at the end `m + log s` does not depend on
  the start value: it is the log-sum-exp taken with the entries' own maximum, for finite and for infinite entries alike.
-/
module

public import Idealize.ShloMosaic.PureOps.Ideal

@[expose] public section

noncomputable section

namespace Cert.Online

open Idealize.ShloMosaic

variable {ι : Type}

@[simp] theorem exp_bot : Ideal.exp ⊥ = 0 := rfl
@[simp] theorem exp_coe (r : ℝ) : Ideal.exp (r : EReal) = (Real.exp r : EReal) := rfl

/-- The real exponential of an entry, an entry of `-∞` counting nothing. -/
def weight : EReal → ℝ
  | ⊥ => 0
  | ⊤ => 0
  | (r : ℝ) => Real.exp r

@[simp] theorem weight_bot : weight ⊥ = 0 := rfl
@[simp] theorem weight_coe (r : ℝ) : weight (r : EReal) = Real.exp r := rfl

theorem weight_nonneg (x : EReal) : 0 ≤ weight x := by
  induction x using EReal.rec with
  | bot => exact le_refl _
  | coe r => exact (Real.exp_pos r).le
  | top => exact le_refl _

theorem weight_pos {x : EReal} (hb : x ≠ ⊥) (ht : x ≠ ⊤) : 0 < weight x := by
  induction x using EReal.rec with
  | bot => exact absurd rfl hb
  | coe r => exact Real.exp_pos r
  | top => exact absurd rfl ht

/-- A finite shift of an entry below `+∞` multiplies its weight. -/
theorem exp_sub_coe {x : EReal} (ht : x ≠ ⊤) (a : ℝ) :
    Ideal.exp (x - (a : EReal)) = ((weight x * Real.exp (-a) : ℝ) : EReal) := by
  induction x using EReal.rec with
  | bot => simp
  | coe r => rw [← EReal.coe_sub, exp_coe, weight_coe, ← Real.exp_add, sub_eq_add_neg]
  | top => exact absurd rfl ht

theorem coe_sum (J : Finset ι) (f : ι → ℝ) : ((∑ j ∈ J, f j : ℝ) : EReal) = ∑ j ∈ J, (f j : EReal) := by
  classical
  induction J using Finset.induction_on with
  | empty => simp
  | insert a s ha ih => rw [Finset.sum_insert ha, Finset.sum_insert ha, EReal.coe_add, ih]

/-- The running maximum of the entries in `J`, from the start value `c`. -/
def top (c : EReal) (l : ι → EReal) (J : Finset ι) : EReal := max c (J.sup l)

/-- The sum of the entries' exponentials, each taken relative to `x`. -/
def mass (l : ι → EReal) (J : Finset ι) (x : EReal) : EReal := ∑ j ∈ J, Ideal.exp (l j - x)

theorem top_empty (c : EReal) (l : ι → EReal) : top c l ∅ = c := by simp [top]

theorem mass_empty (l : ι → EReal) (x : EReal) : mass l ∅ x = 0 := by simp [mass]

/-- Relative to `+∞` every entry's exponential vanishes. -/
theorem mass_top (l : ι → EReal) (J : Finset ι) : mass l J ⊤ = 0 :=
  Finset.sum_eq_zero fun j _ => by rw [EReal.sub_top, exp_bot]

/-- Relative to a finite number, entries below `+∞` have a finite total. -/
theorem mass_coe {l : ι → EReal} {J : Finset ι} (h : ∀ j ∈ J, l j ≠ ⊤) (a : ℝ) :
    mass l J (a : EReal) = (((∑ j ∈ J, weight (l j)) * Real.exp (-a) : ℝ) : EReal) := by
  rw [Finset.sum_mul, coe_sum]
  exact Finset.sum_congr rfl fun j hj => exp_sub_coe (h j hj) a

/-- Moving the reference point from `x` up to `y` multiplies the sum by `exp (x - y)`. -/
theorem mass_rescale {l : ι → EReal} {J : Finset ι} {x y : EReal} (hb : x ≠ ⊥) (hJ : ∀ j ∈ J, l j ≤ x) (hxy : x ≤ y) :
    mass l J x * Ideal.exp (x - y) = mass l J y := by
  induction y using EReal.rec with
  | bot => exact absurd (le_bot_iff.mp hxy) hb
  | top => rw [mass_top, EReal.sub_top, exp_bot, mul_zero]
  | coe b =>
    induction x using EReal.rec with
    | bot => exact absurd rfl hb
    | top => exact absurd (top_le_iff.mp hxy) (EReal.coe_ne_top b)
    | coe a =>
      have h : ∀ j ∈ J, l j ≠ ⊤ := fun j hj e => EReal.coe_ne_top a (top_le_iff.mp (e ▸ hJ j hj))
      rw [mass_coe h, mass_coe h, ← EReal.coe_sub, exp_coe, ← EReal.coe_mul, mul_assoc, ← Real.exp_add]
      congr 4
      ring

theorem le_top {c : EReal} {l : ι → EReal} {J : Finset ι} {j : ι} (hj : j ∈ J) : l j ≤ top c l J :=
  le_trans (Finset.le_sup hj) (le_max_right _ _)

theorem top_ne_bot {c : EReal} (hc : c ≠ ⊥) (l : ι → EReal) (J : Finset ι) : top c l J ≠ ⊥ := fun e =>
  hc (le_bot_iff.mp (e ▸ le_max_left c (J.sup l)))

section Step

variable [DecidableEq ι] {K : ℕ} {c : EReal} {l : ι → EReal} {J : Finset ι} (f : Fin K ↪ ι)

/-- The maximum after a block of new entries. -/
theorem top_step : max (top c l J) (Finset.univ.fold max ⊥ fun k => l (f k)) = top c l (J ∪ Finset.univ.map f) := by
  unfold top
  rw [Finset.sup_union, Finset.sup_map, max_assoc]
  rfl

/-- The sum after a block of new entries, none of them seen before. -/
theorem mass_step (hc : c ≠ ⊥) (hd : Disjoint J (Finset.univ.map f)) :
    mass l J (top c l J) * Ideal.exp (top c l J - top c l (J ∪ Finset.univ.map f))
        + ∑ k, Ideal.exp (l (f k) - top c l (J ∪ Finset.univ.map f))
      = mass l (J ∪ Finset.univ.map f) (top c l (J ∪ Finset.univ.map f)) := by
  rw [mass_rescale (top_ne_bot hc l J) (fun j hj => le_top hj) (by rw [← top_step f]; exact le_max_left _ _)]
  unfold mass
  rw [Finset.sum_union hd, Finset.sum_map]

end Step

/-- A sum with a finite entry and none of `+∞` has a finite logarithm, whatever finite number it is taken relative to. -/
theorem add_log_mass {l : ι → EReal} {J : Finset ι} (h : ∀ j ∈ J, l j ≠ ⊤) (hp : 0 < ∑ j ∈ J, weight (l j)) (a : ℝ) :
    (a : EReal) + Ideal.log (mass l J a) = ((Real.log (∑ j ∈ J, weight (l j)) : ℝ) : EReal) := by
  rw [mass_coe h]
  show (a : EReal) + (if _ ≤ 0 then ⊥ else ((Real.log _ : ℝ) : EReal)) = _
  have hq : 0 < (∑ j ∈ J, weight (l j)) * Real.exp (-a) := mul_pos hp (Real.exp_pos _)
  rw [if_neg (not_le.mpr hq), Real.log_mul hp.ne' (Real.exp_pos _).ne', Real.log_exp, ← EReal.coe_add]
  congr 1
  ring

/-- The start value does not show in the result. -/
theorem lse_eq (c : ℝ) (l : ι → EReal) (J : Finset ι) :
    top c l J + Ideal.log (mass l J (top c l J)) = J.sup l + Ideal.log (mass l J (J.sup l)) := by
  have hle : ∀ j ∈ J, l j ≤ J.sup l := fun j hj => Finset.le_sup hj
  unfold top
  induction hM : J.sup l using EReal.rec with
  | top => rw [max_eq_right (_root_.le_top)]
  | bot =>
    rw [hM] at hle
    have h0 : ∀ j ∈ J, l j = ⊥ := fun j hj => le_bot_iff.mp (hle j hj)
    have hs : mass l J (c : EReal) = 0 := Finset.sum_eq_zero fun j hj => by rw [h0 j hj, EReal.bot_sub, exp_bot]
    rw [max_eq_left bot_le, hs, EReal.bot_add]
    show (c : EReal) + (if (0 : ℝ) ≤ 0 then ⊥ else _) = ⊥
    rw [if_pos le_rfl, EReal.add_bot]
  | coe M =>
    rw [hM] at hle
    have h : ∀ j ∈ J, l j ≠ ⊤ := fun j hj e => EReal.coe_ne_top M (top_le_iff.mp (e ▸ hle j hj))
    have hp : 0 < ∑ j ∈ J, weight (l j) := by
      by_contra hn
      have hz : ∀ j ∈ J, weight (l j) = 0 := (Finset.sum_eq_zero_iff_of_nonneg fun j _ => weight_nonneg _).mp
        (le_antisymm (not_lt.mp hn) (Finset.sum_nonneg fun j _ => weight_nonneg _))
      have hb : J.sup l = ⊥ := (Finset.sup_eq_bot_iff l J).mpr fun j hj => by
        by_contra hne
        exact (weight_pos hne (h j hj)).ne' (hz j hj)
      exact EReal.coe_ne_bot M (hM.symm.trans hb)
    rw [← EReal.coe_strictMono.monotone.map_max, add_log_mass h hp, add_log_mass h hp]

end Cert.Online

end
-- ==== Proof.LseValue.lean ====
/-
  What one grid point of the log-sum-exp kernel leaves in its two running scratches and in its output block, as the
  kernel's own arithmetic over the point's input blocks and what the point before left.
-/
module

public import proofs.«01_k».proof.Proof.Gen.LseIdeal.Value
public import Idealize.ShloMosaic.Lib.Tactic
public import proofs.«01_k».proof.Proof.Online

@[expose] public section

set_option maxRecDepth 16384

noncomputable section

namespace Cert.LseValue

open Cert.LseIdeal Cert.LseIdeal.Gen Cert.LseIdeal.Value Idealize.ShloMosaic Idealize.ShloMosaic.TcCoe

variable {F : FTy → Type} [FloatOps F]

theorem origin : (![0, 0] : Fin 2 → ℕ) = fun _ => 0 := funext fun a => by fin_cases a <;> rfl

section Cases

variable (c : Dev nD) (i : grid0.Coords)
  (a2 : Memref sig .tc .vmem S512x256 .f32) (h2 : a2.IsWhole) (a3 : Memref sig .tc .vmem S3200x256 .f32) (h3 : a3.IsWhole)
  (a4 : Memref sig .tc .vmem S512x1 .f32) (h4 : a4.IsWhole) (a5 : Memref sig .tc .vmem S512x3200 .f32) (h5 : a5.IsWhole)
  (a6 : Memref sig .tc .vmem S512x1 .f32) (h6 : a6.IsWhole) (a7 : Memref sig .tc .vmem S512x1 .f32) (h7 : a7.IsWhole)
  (x : Vec F S512x256 .f32) (y : Vec F S3200x256 .f32) (mo so : Vec F S512x1 .f32)

/-- A first point's running maximum starts from the constant block. -/
theorem max_A (hc0 hc1) :
    sout0_A_1 c i a2 h2 a3 h3 a4 h4 a5 h5 a6 h6 a7 h7 hc0 hc1 x y = k0_pay5 (k0_pay4 x y) (k0_pay2 (F := F)) := by
  unfold sout0_A_1
  rw [View.read_writes_eq_canon _ _ _ (scover0_A_1 c i a2 h2 a3 h3 a4 h4 a5 h5 a6 h6 a7 h7 hc0 hc1 x y)]
  unfold kernelRun0_A; dsimp only
  sl_unfold_words
  simp only [View.canon_cons_unit_zero (S := S512x1) origin, View.canon_unit_zero (S := S512x1) origin,
    View.readCov_unit_zero (S := S512x3200) _ origin, View.readCov_unit_zero (S := S512x1) _ origin,
    View.readAt_eq_ld, h2.read_unread, h3.read_unread, h6.read_unread, h7.read_unread,
    View.ld_unit_zero (S := S512x256) origin, View.ld_unit_zero (S := S3200x256) origin,
    View.ld_unit_zero (S := S512x1) origin, k0_pay7, k0_pay8, shapeCast_self]

/-- A first point's running sum starts from the constant blocks. -/
theorem sum_A (hc0 hc1) :
    sout0_A_2 c i a2 h2 a3 h3 a4 h4 a5 h5 a6 h6 a7 h7 hc0 hc1 x y = k0_pay6 (k0_pay4 x y) (k0_pay2 (F := F)) (k0_pay3 (F := F)) := by
  unfold sout0_A_2
  rw [View.read_writes_eq_canon _ _ _ (scover0_A_2 c i a2 h2 a3 h3 a4 h4 a5 h5 a6 h6 a7 h7 hc0 hc1 x y)]
  unfold kernelRun0_A; dsimp only
  sl_unfold_words
  simp only [View.canon_cons_unit_zero (S := S512x1) origin, View.canon_unit_zero (S := S512x1) origin,
    View.readCov_unit_zero (S := S512x3200) _ origin, View.readCov_unit_zero (S := S512x1) _ origin,
    View.readAt_eq_ld, h2.read_unread, h3.read_unread, h6.read_unread, h7.read_unread,
    View.ld_unit_zero (S := S512x256) origin, View.ld_unit_zero (S := S3200x256) origin,
    View.ld_unit_zero (S := S512x1) origin, k0_pay7, k0_pay8, shapeCast_self]

/-- A middle point's running maximum. -/
theorem max_B (hc0 hc1) :
    sout0_B_1 c i a2 h2 a3 h3 a4 h4 a5 h5 a6 h6 a7 h7 hc0 hc1 x y mo so = k0_pay5 (k0_pay4 x y) mo := by
  unfold sout0_B_1
  rw [View.read_writes_eq_canon _ _ _ (scover0_B_1 c i a2 h2 a3 h3 a4 h4 a5 h5 a6 h6 a7 h7 hc0 hc1 x y mo so)]
  unfold kernelRun0_B; dsimp only
  sl_unfold_words
  simp only [View.canon_cons_unit_zero (S := S512x1) origin, View.canon_unit_zero (S := S512x1) origin,
    View.readCov_unit_zero (S := S512x3200) _ origin, View.readCov_unit_zero (S := S512x1) _ origin,
    View.readAt_eq_ld, h2.read_unread, h3.read_unread, h6.read_unread, h7.read_unread,
    View.ld_unit_zero (S := S512x256) origin, View.ld_unit_zero (S := S3200x256) origin,
    View.ld_unit_zero (S := S512x1) origin, k0_pay7, k0_pay8, shapeCast_self]

/-- A middle point's running sum. -/
theorem sum_B (hc0 hc1) :
    sout0_B_2 c i a2 h2 a3 h3 a4 h4 a5 h5 a6 h6 a7 h7 hc0 hc1 x y mo so = k0_pay6 (k0_pay4 x y) mo so := by
  unfold sout0_B_2
  rw [View.read_writes_eq_canon _ _ _ (scover0_B_2 c i a2 h2 a3 h3 a4 h4 a5 h5 a6 h6 a7 h7 hc0 hc1 x y mo so)]
  unfold kernelRun0_B; dsimp only
  sl_unfold_words
  simp only [View.canon_cons_unit_zero (S := S512x1) origin, View.canon_unit_zero (S := S512x1) origin,
    View.readCov_unit_zero (S := S512x3200) _ origin, View.readCov_unit_zero (S := S512x1) _ origin,
    View.readAt_eq_ld, h2.read_unread, h3.read_unread, h6.read_unread, h7.read_unread,
    View.ld_unit_zero (S := S512x256) origin, View.ld_unit_zero (S := S3200x256) origin,
    View.ld_unit_zero (S := S512x1) origin, k0_pay7, k0_pay8, shapeCast_self]

/-- A last point's running maximum. -/
theorem max_C (hc0 hc1) :
    sout0_C_1 c i a2 h2 a3 h3 a4 h4 a5 h5 a6 h6 a7 h7 hc0 hc1 x y mo so = k0_pay5 (k0_pay4 x y) mo := by
  unfold sout0_C_1
  rw [View.read_writes_eq_canon _ _ _ (scover0_C_1 c i a2 h2 a3 h3 a4 h4 a5 h5 a6 h6 a7 h7 hc0 hc1 x y mo so)]
  unfold kernelRun0_C; dsimp only
  sl_unfold_words
  simp only [View.canon_cons_unit_zero (S := S512x1) origin, View.canon_unit_zero (S := S512x1) origin,
    View.readCov_unit_zero (S := S512x3200) _ origin, View.readCov_unit_zero (S := S512x1) _ origin,
    View.readAt_eq_ld, h2.read_unread, h3.read_unread, h6.read_unread, h7.read_unread,
    View.ld_unit_zero (S := S512x256) origin, View.ld_unit_zero (S := S3200x256) origin,
    View.ld_unit_zero (S := S512x1) origin, k0_pay7, k0_pay8, shapeCast_self]

/-- A last point's running sum. -/
theorem sum_C (hc0 hc1) :
    sout0_C_2 c i a2 h2 a3 h3 a4 h4 a5 h5 a6 h6 a7 h7 hc0 hc1 x y mo so = k0_pay6 (k0_pay4 x y) mo so := by
  unfold sout0_C_2
  rw [View.read_writes_eq_canon _ _ _ (scover0_C_2 c i a2 h2 a3 h3 a4 h4 a5 h5 a6 h6 a7 h7 hc0 hc1 x y mo so)]
  unfold kernelRun0_C; dsimp only
  sl_unfold_words
  simp only [View.canon_cons_unit_zero (S := S512x1) origin, View.canon_unit_zero (S := S512x1) origin,
    View.readCov_unit_zero (S := S512x3200) _ origin, View.readCov_unit_zero (S := S512x1) _ origin,
    View.readAt_eq_ld, h2.read_unread, h3.read_unread, h6.read_unread, h7.read_unread,
    View.ld_unit_zero (S := S512x256) origin, View.ld_unit_zero (S := S3200x256) origin,
    View.ld_unit_zero (S := S512x1) origin, k0_pay7, k0_pay8, shapeCast_self]

/-- A last point writes the result: the maximum plus the logarithm of the sum. -/
theorem out_C (hc0 hc1) :
    out0_C_2 c i a2 h2 a3 h3 a4 h4 a5 h5 a6 h6 a7 h7 hc0 hc1 x y mo so = k0_pay1 (k0_pay5 (k0_pay4 x y) mo) (k0_pay6 (k0_pay4 x y) mo so) := by
  unfold out0_C_2
  rw [View.read_writes_eq_canon _ _ _ (cover0_C_2 c i a2 h2 a3 h3 a4 h4 a5 h5 a6 h6 a7 h7 hc0 hc1 x y mo so)]
  unfold kernelRun0_C; dsimp only
  sl_unfold_words
  simp only [View.canon_cons_unit_zero (S := S512x1) origin, View.canon_unit_zero (S := S512x1) origin,
    View.readCov_unit_zero (S := S512x3200) _ origin, View.readCov_unit_zero (S := S512x1) _ origin,
    View.readAt_eq_ld, h2.read_unread, h3.read_unread, h6.read_unread, h7.read_unread,
    View.ld_unit_zero (S := S512x256) origin, View.ld_unit_zero (S := S3200x256) origin,
    View.ld_unit_zero (S := S512x1) origin, k0_pay7, k0_pay8, shapeCast_self]

end Cases

end Cert.LseValue

end
-- ==== Proof.LsePoint.lean ====
/-
  One grid point of the log-sum-exp kernel, entry by entry over the extended reals: a block of 3200 further vocabulary
  columns enters the running maximum and the running sum of each row.
-/
module

public import proofs.«01_k».proof.Proof.LseValue
public import Idealize.ShloMosaic.Lib.Pointwise

@[expose] public section

set_option maxRecDepth 16384

noncomputable section

namespace Cert.LseValue

open Cert.LseIdeal Cert.LseIdeal.Gen Idealize.ShloMosaic Idealize.ShloMosaic.TcCoe
open Cert.Online

theorem neg_inf : Ideal.ofBits .f32 0xFF800000#32 = (⊥ : EReal) := by simp [Ideal.ofBits, Ideal.ieee]

theorem pay4_apply (x : Vec Ideal S512x256 .f32) (y : Vec Ideal S3200x256 .f32) (r : Fin 512) (g : Fin 3200) :
    k0_pay4 x y (ix2 r g) = ∑ k : Fin 256, x (ix2 r k) * y (ix2 g k) := by
  unfold k0_pay4
  simp [pointwise, shapeCast_self, Ideal.matmul_def]

theorem pay5_apply (l : Vec Ideal S512x3200 .f32) (mo : Vec Ideal S512x1 .f32) (r : Fin 512) :
    k0_pay5 l mo (ix2 r 0) = max (mo (ix2 r 0)) (Finset.univ.fold max ⊥ fun g => l (ix2 r g)) := by
  unfold k0_pay5
  simp [pointwise, shapeCast_self, neg_inf]

theorem pay6_apply (l : Vec Ideal S512x3200 .f32) (mo so : Vec Ideal S512x1 .f32) (r : Fin 512) :
    k0_pay6 l mo so (ix2 r 0) = so (ix2 r 0) * Ideal.exp (mo (ix2 r 0) - k0_pay5 l mo (ix2 r 0))
      + ∑ g, Ideal.exp (l (ix2 r g) - k0_pay5 l mo (ix2 r 0)) := by
  unfold k0_pay6
  simp [pointwise, Ideal.reduceAdd_def]

theorem pay1_apply (m s : FVec Ideal S512x1 .f32) (r : Fin 512) :
    k0_pay1 (F := Ideal) m s (ix2 r 0) = m (ix2 r 0) + Ideal.log (s (ix2 r 0)) := by
  unfold k0_pay1
  simp [pointwise]

theorem pay3_apply (r : Fin 512) : k0_pay3 (F := Ideal) (ix2 r 0) = 0 := by
  unfold k0_pay3
  simp [pointwise, shapeCast_self]

/-- The start value of a row's maximum, a finite number: -10³⁰ in its binary format. -/
def start : ℝ := -(13234890 * 2 ^ (76 : ℤ))

theorem pay2_apply (r : Fin 512) : k0_pay2 (F := Ideal) (ix2 r 0) = (start : EReal) := by
  unfold k0_pay2
  simp only [pointwise, shapeCast_self]
  show Ideal.ofBits .f32 0xF149F2CA#32 = _
  simp [Ideal.ofBits, Ideal.ieee, start, -EReal.coe_mul]

/-! ### Which columns the first points of a sweep have seen -/

/-- The vocabulary columns before block `n`. -/
def seen (n : ℕ) : Finset (Fin 32000) := Finset.univ.filter fun v => v.val < 3200 * n

/-- Column `k` of block `g`. -/
def col (g : Fin 10) : Fin 3200 ↪ Fin 32000 where
  toFun k := ⟨3200 * g.val + k.val, by omega⟩
  inj' a b h := by simp only [Fin.mk.injEq] at h; omega

theorem seen_zero : seen 0 = ∅ := by simp [seen]

theorem seen_all : seen 10 = Finset.univ := by
  unfold seen
  exact Finset.filter_true_of_mem fun v _ => by omega

theorem seen_succ (g : Fin 10) : seen (g.val + 1) = seen g.val ∪ Finset.univ.map (col g) := by
  ext v
  simp only [seen, Finset.mem_union, Finset.mem_filter, Finset.mem_univ, true_and, Finset.mem_map]
  constructor
  · intro h
    by_cases hv : v.val < 3200 * g.val
    · exact .inl hv
    · exact .inr ⟨⟨v.val - 3200 * g.val, by omega⟩, Fin.ext (by show 3200 * g.val + (v.val - 3200 * g.val) = v.val; omega)⟩
  · rintro (h | ⟨k, rfl⟩)
    · omega
    · show 3200 * g.val + k.val < _
      omega

theorem seen_disjoint (g : Fin 10) : Disjoint (seen g.val) (Finset.univ.map (col g)) := by
  rw [Finset.disjoint_left]
  intro v hv hm
  simp only [seen, Finset.mem_filter, Finset.mem_univ, true_and] at hv
  obtain ⟨k, -, rfl⟩ := Finset.mem_map.mp hm
  have : (col g k).val = 3200 * g.val + k.val := rfl
  omega

/-- One block enters a row's running maximum and running sum. -/
theorem block_enters {l : Fin 32000 → EReal} {g : Fin 10} {r : Fin 512} {b : Vec Ideal S512x3200 .f32} {mo so : Vec Ideal S512x1 .f32}
    (hb : ∀ k, b (ix2 r k) = l (col g k)) (hm : mo (ix2 r 0) = top start l (seen g.val))
    (hs : so (ix2 r 0) = mass l (seen g.val) (top start l (seen g.val))) :
    k0_pay5 b mo (ix2 r 0) = top start l (seen (g.val + 1))
      ∧ k0_pay6 b mo so (ix2 r 0) = mass l (seen (g.val + 1)) (top start l (seen (g.val + 1))) := by
  have h5 : k0_pay5 b mo (ix2 r 0) = top start l (seen (g.val + 1)) := by
    rw [pay5_apply, hm, seen_succ, ← top_step (col g)]
    simp only [hb]
  refine ⟨h5, ?_⟩
  rw [pay6_apply, h5, hm, hs, seen_succ, ← mass_step (col g) (EReal.coe_ne_bot _) (seen_disjoint g)]
  simp only [hb]

end Cert.LseValue

end
-- ==== Proof.LseResult.lean ====
/-
  The log-sum-exp kernel's sweep over the vocabulary, and the array it ends with: each state row's log-sum-exp.
-/
module

public import proofs.«01_k».proof.Proof.LsePoint

@[expose] public section

set_option maxRecDepth 16384

noncomputable section

namespace Cert.LseValue

open Cert.LseIdeal Cert.LseIdeal.Gen Cert.LseIdeal.Value Idealize.ShloMosaic Idealize.ShloMosaic.TcCoe
open Cert.Online

/-- A row's logits: its scalar products with the vocabulary rows. -/
def logits (A : Vec Ideal S1024x256 .f32) (W : Vec Ideal S32000x256 .f32) (r : Fin 1024) (v : Fin 32000) : EReal :=
  ∑ k : Fin 256, A (ix2 r k) * W (ix2 v k)

variable (m : (ℓ : Loc nD τ sig) → Buf (Elt Ideal) ℓ) (c : Dev nD)

/-- Where the windows of point `t` lie: the states' by the row half, the vocabulary's by the column block. -/
theorem window_index : ∀ t : Fin cfg0.N, win0_0.index t 0 = t.val / 10 ∧ win0_0.index t 1 = 0
    ∧ win0_1.index t 0 = t.val % 10 ∧ win0_1.index t 1 = 0 :=
  (by decide : ∀ t : Fin grid0.N, win0_0.index t 0 = t.val / 10 ∧ win0_0.index t 1 = 0
    ∧ win0_1.index t 0 = t.val % 10 ∧ win0_1.index t 1 = 0)

theorem states_block (t : Fin cfg0.N) (r : Fin 512) (k : Fin 256) (h : 512 * (t.val / 10) + r.val < 1024) :
    (iblk m c 0 t : Vec Ideal S512x256 .f32) (ix2 r k)
      = m ((c : Thread nD τ).loc main_arg0) (ix2 ⟨512 * (t.val / 10) + r.val, h⟩ k) := by
  obtain ⟨h0, h1, -, -⟩ := window_index t
  unfold iblk
  rw [View.read_apply]
  show V m c main_arg0 _ = m (c.tc.loc main_arg0) _
  unfold V
  congr 1
  funext a
  apply Fin.ext
  match a with
  | ⟨0, _⟩ =>
    show win0_0.index t 0 * 512 + 1 * r.val = 512 * (t.val / 10) + r.val
    rw [h0]; omega
  | ⟨1, _⟩ =>
    show win0_0.index t 1 * 256 + 1 * k.val = k.val
    rw [h1]; omega

theorem vocab_block (t : Fin cfg0.N) (g : Fin 3200) (k : Fin 256) (h : 3200 * (t.val % 10) + g.val < 32000) :
    (iblk m c 1 t : Vec Ideal S3200x256 .f32) (ix2 g k)
      = m ((c : Thread nD τ).loc main_arg1) (ix2 ⟨3200 * (t.val % 10) + g.val, h⟩ k) := by
  obtain ⟨-, -, h0, h1⟩ := window_index t
  unfold iblk
  rw [View.read_apply]
  show V m c main_arg1 _ = m (c.tc.loc main_arg1) _
  unfold V
  congr 1
  funext a
  apply Fin.ext
  match a with
  | ⟨0, _⟩ =>
    show win0_1.index t 0 * 3200 + 1 * g.val = 3200 * (t.val % 10) + g.val
    rw [h0]; omega
  | ⟨1, _⟩ =>
    show win0_1.index t 1 * 256 + 1 * k.val = k.val
    rw [h1]; omega

/-- The logits the launch arrays have. -/
abbrev L (r : Fin 1024) : Fin 32000 → EReal :=
  logits (m ((c : Thread nD τ).loc main_arg0)) (m ((c : Thread nD τ).loc main_arg1)) r

/-- The kernel's block of logits at point `t`. -/
theorem logits_block (t : Fin cfg0.N) (r : Fin 512) (k : Fin 3200) (h : 512 * (t.val / 10) + r.val < 1024) :
    k0_pay4 (F := Ideal) (iblk m c 0 t) (iblk m c 1 t) (ix2 r k)
      = L m c ⟨512 * (t.val / 10) + r.val, h⟩ (col ⟨t.val % 10, Nat.mod_lt _ (by decide)⟩ k) := by
  rw [pay4_apply]
  unfold L logits
  refine Finset.sum_congr rfl fun j _ => ?_
  rw [states_block m c t r j h, vocab_block m c t k j (by omega)]
  rfl

/-- One point's step, from what the scratches held: the column blocks seen grow by the point's own. -/
theorem point (t : Fin cfg0.N) (r : Fin 512) (R : Fin 1024) (hR : R.val = 512 * (t.val / 10) + r.val) (mo so : FVec Ideal S512x1 .f32)
    (hm : mo (ix2 r 0) = top start (L m c R) (seen (t.val % 10)))
    (hs : so (ix2 r 0) = mass (L m c R) (seen (t.val % 10)) (top start (L m c R) (seen (t.val % 10)))) :
    k0_pay5 (F := Ideal) (k0_pay4 (F := Ideal) (iblk m c 0 t) (iblk m c 1 t)) mo (ix2 r 0) = top start (L m c R) (seen (t.val % 10 + 1))
    ∧ k0_pay6 (F := Ideal) (k0_pay4 (F := Ideal) (iblk m c 0 t) (iblk m c 1 t)) mo so (ix2 r 0)
      = mass (L m c R) (seen (t.val % 10 + 1)) (top start (L m c R) (seen (t.val % 10 + 1))) := by
  obtain ⟨R, hlt⟩ := R
  subst hR
  exact block_enters (g := ⟨t.val % 10, Nat.mod_lt _ (by decide)⟩) (fun k => logits_block m c t r k _) hm hs

/-- A first point's step: nothing was seen before. -/
theorem point_first (t : Fin cfg0.N) (h0 : t.val % 10 = 0) (r : Fin 512) (R : Fin 1024) (hR : R.val = 512 * (t.val / 10) + r.val) :
    k0_pay5 (F := Ideal) (k0_pay4 (iblk m c 0 t) (iblk m c 1 t)) (k0_pay2 (F := Ideal)) (ix2 r 0) = top start (L m c R) (seen (t.val % 10 + 1))
    ∧ k0_pay6 (F := Ideal) (k0_pay4 (iblk m c 0 t) (iblk m c 1 t)) (k0_pay2 (F := Ideal)) (k0_pay3 (F := Ideal)) (ix2 r 0)
      = mass (L m c R) (seen (t.val % 10 + 1)) (top start (L m c R) (seen (t.val % 10 + 1))) :=
  point m c t r R hR (k0_pay2 (F := Ideal)) (k0_pay3 (F := Ideal)) (by rw [pay2_apply, h0, seen_zero, top_empty]) (by rw [pay3_apply, h0, seen_zero, mass_empty])

/-- What the two scratches hold after point `t`: the running maximum and the running sum over the blocks seen. -/
def Carried (t : Fin cfg0.N) : Prop := ∀ (r : Fin 512) (R : Fin 1024), R.val = 512 * (t.val / 10) + r.val →
    (outsAt0 m c t.val t.isLt).2.1 (ix2 r 0) = top start (L m c R) (seen (t.val % 10 + 1))
    ∧ (outsAt0 m c t.val t.isLt).2.2 (ix2 r 0) = mass (L m c R) (seen (t.val % 10 + 1)) (top start (L m c R) (seen (t.val % 10 + 1)))

theorem carried_first (t : Fin cfg0.N) (h0 : t.val % 10 = 0) : Carried m c t := by
  intro r R hR
  rw [outsAt0_A m c t h0 (by omega)]
  dsimp only
  rw [max_A, sum_A]
  exact point_first m c t h0 r R hR

theorem carried_next (t s : Fin cfg0.N) (hts : t.val = s.val + 1) (h0 : ¬t.val % 10 = 0) (hs : Carried m c s) : Carried m c t := by
  intro r R hR
  obtain ⟨i1, i2⟩ := hs r R (by omega)
  have hmod : s.val % 10 + 1 = t.val % 10 := by omega
  rw [hmod] at i1 i2
  have hprev : outsAt0 m c (t.val - 1) (Nat.lt_of_le_of_lt (Nat.sub_le _ _) t.isLt) = outsAt0 m c s.val s.isLt := by
    congr 1
    omega
  by_cases h1 : t.val % 10 = 9
  · rw [outsAt0_C m c t h0 h1, hprev]
    dsimp only
    rw [max_C, sum_C]
    exact point m c t r R hR _ _ i1 i2
  · rw [outsAt0_B m c t h0 h1, hprev]
    dsimp only
    rw [max_B, sum_B]
    exact point m c t r R hR _ _ i1 i2

theorem carried (n : ℕ) : ∀ hn : n < cfg0.N, Carried m c ⟨n, hn⟩ := by
  induction n with
  | zero => exact fun hn => carried_first m c ⟨0, hn⟩ (Nat.zero_mod _)
  | succ n ih =>
    intro hn
    by_cases h0 : (n + 1) % 10 = 0
    · exact carried_first m c ⟨n + 1, hn⟩ h0
    · exact carried_next m c ⟨n + 1, hn⟩ ⟨n, Nat.lt_of_succ_lt hn⟩ rfl h0 (ih _)

/-- A row's log-sum-exp over the whole vocabulary, relative to the row's maximum. -/
def lse (l : Fin 32000 → EReal) : EReal := Finset.univ.sup l + Ideal.log (mass l Finset.univ (Finset.univ.sup l))

/-- What a sweep's last point writes back: its rows' log-sum-exp over the whole vocabulary. -/
theorem written (t : Fin cfg0.N) (h9 : t.val % 10 = 9) (r : Fin 512) (R : Fin 1024) (hR : R.val = 512 * (t.val / 10) + r.val) :
    (outsAt0 m c t.val t.isLt).1 (ix2 r 0) = lse (L m c R) := by
  obtain ⟨e1, e2⟩ := carried m c t.val t.isLt r R hR
  have h0 : ¬t.val % 10 = 0 := by omega
  have e : (outsAt0 m c t.val t.isLt).1 (ix2 r 0) = (outsAt0 m c t.val t.isLt).2.1 (ix2 r 0)
      + Ideal.log ((outsAt0 m c t.val t.isLt).2.2 (ix2 r 0)) := by
    rw [outsAt0_C m c t h0 h9]
    dsimp only
    rw [out_C, max_C, sum_C, pay1_apply]
  have h10 : seen (t.val % 10 + 1) = Finset.univ := by rw [h9, seen_all]
  unfold lse
  rw [← lse_eq start, e, e2, e1, h10]

/-- The array the kernel ends with: every row's log-sum-exp. -/
theorem result_apply (i0 : Fin 1024) (i1 : Fin 1) : G2 m c (ix2 i0 i1) = lse (L m c i0) := by
  have hd : pt2Of (ix2 i0 i1) = 10 * (i0.val / 512) + 9 := by
    show 10 * (1 * (i0.val / 512 - 0) + 1 * (i1.val / 1 - 0)) + 9 = _
    omega
  have hp : pt2Of (ix2 i0 i1) < cfg0.N := by
    rw [hd]
    show _ < 20
    omega
  have hl : loc2Of (ix2 i0 i1) = ix2 ⟨i0.val % 512, Nat.mod_lt _ (by decide)⟩ 0 := by
    funext a
    apply Fin.ext
    match a with
    | ⟨0, _⟩ => rfl
    | ⟨1, _⟩ => show i1.val % 1 = 0; omega
  unfold G2
  rw [dif_pos hp, ← outsAt0_sweep m c _ hp, hl]
  exact written m c ⟨_, hp⟩ (by dsimp only; rw [hd]; omega) _ i0 (by dsimp only; rw [hd]; omega)

end Cert.LseValue

end
-- ==== Proof.LseRef.lean ====
/-
  The reference of the log-sum-exp call, entry by entry: the same log-sum-exp of each row's logits.
-/
module

public import proofs.«01_k».proof.Proof.Gen.LseRefIdeal.Run
public import proofs.«01_k».proof.Proof.LseResult

@[expose] public section

set_option maxRecDepth 16384

noncomputable section

namespace Cert.LseRef

open Cert.LseRefIdeal Cert.LseRefIdeal.Gen Idealize.ShloMosaic Idealize.ShloMosaic.TcCoe
open Cert.Online Cert.LseValue

theorem dot_apply (A : FVec Ideal S1024x256 .f32) (W : FVec Ideal S32000x256 .f32) (r : Fin 1024) (v : Fin 32000) :
    Host.dotGeneral dot_S1024x256_S32000x256_S1024x32000_1_1_0_0_n_n none A W (ix2 r v) = logits A W r v := by
  unfold logits
  simp [pointwise, Ideal.dotGeneral_def]

theorem max_apply (l : FVec Ideal S1024x32000 .f32) (r : Fin 1024) :
    Host.reduce FloatOps.maximumf l (constant (F := Ideal) S_ .f32 0xFF800000#32) reducesTo_S1024x32000_S1024_d1 h_S_ (ix1 r)
      = Finset.univ.fold (β := EReal) max ⊥ fun v => l (ix2 r v) := by
  simp [pointwise, LseValue.neg_inf]

theorem sum_apply (l : FVec Ideal S1024x32000 .f32) (r : Fin 1024) :
    Host.reduceAdd (F := Ideal) l (constant S_ .f32 0x00000000#32) reducesTo_S1024x32000_S1024_d1 h_S_ (ix1 r) = ∑ v, l (ix2 r v) := by
  simp [pointwise, Ideal.reduceAdd_def]

theorem column_apply (l : FVec Ideal S1024 .f32) (r : Fin 1024) (q : Fin 1) :
    broadcastInDim S1024x1 ![0] bcast_S1024_S1024x1_0 l (ix2 r q) = l (ix1 r) := by
  simp [pointwise]

theorem spread_apply (l : FVec Ideal S1024x1 .f32) (r : Fin 1024) (v : Fin 32000) :
    broadcastInDim S1024x32000 ![0, 1] bcast_S1024x1_S1024x32000_0_1 l (ix2 r v) = l (ix2 r 0) := by
  simp [pointwise]

/-- The rows' maxima, as a column. -/
def rowMax (l : FVec Ideal S1024x32000 .f32) : FVec Ideal S1024x1 .f32 := broadcastInDim S1024x1 ![0] bcast_S1024_S1024x1_0
  (Host.reduce FloatOps.maximumf l (constant S_ .f32 0xFF800000#32) reducesTo_S1024x32000_S1024_d1 h_S_)

/-- The rows' sums, as a column. -/
def rowSum (l : FVec Ideal S1024x32000 .f32) : FVec Ideal S1024x1 .f32 := broadcastInDim S1024x1 ![0] bcast_S1024_S1024x1_0
  (Host.reduceAdd l (constant S_ .f32 0x00000000#32) reducesTo_S1024x32000_S1024_d1 h_S_)

/-- The reference's log-sum-exp of a matrix's rows. -/
def rowLse (l : FVec Ideal S1024x32000 .f32) : FVec Ideal S1024x1 .f32 :=
  addf (rowMax l) (Host.log (rowSum
    (Host.exp (subf l (broadcastInDim S1024x32000 ![0, 1] bcast_S1024x1_S1024x32000_0_1 (rowMax l))))))

theorem rowMax_apply (l : FVec Ideal S1024x32000 .f32) (r : Fin 1024) (q : Fin 1) :
    rowMax l (ix2 r q) = Finset.univ.fold (β := EReal) max ⊥ fun v => l (ix2 r v) :=
  (column_apply _ r q).trans (max_apply l r)

theorem rowSum_apply (l : FVec Ideal S1024x32000 .f32) (r : Fin 1024) (q : Fin 1) (f : Fin 32000 → EReal)
    (hf : ∀ v, l (ix2 r v) = f v) : rowSum l (ix2 r q) = ∑ v, f v := by
  obtain rfl : (fun v => l (ix2 r v)) = f := funext hf
  exact (column_apply _ r q).trans (sum_apply l r)

theorem lse_fold (l : Fin 32000 → EReal) : lse l = Finset.univ.fold max ⊥ l
    + Ideal.log (∑ v, Ideal.exp (l v - Finset.univ.fold max ⊥ l)) := by
  unfold lse mass Finset.sup
  with_reducible rfl

theorem add_log_apply (a s : FVec Ideal S1024x1 .f32) (i : S1024x1.Idx) (x y : EReal) (hx : a i = x) (hy : s i = y) :
    addf a (Host.log s) i = x + Ideal.log y := by
  subst hx hy
  rfl

theorem exp_sub_apply (a b : FVec Ideal S1024x32000 .f32) (i : S1024x32000.Idx) (x : EReal) (hx : b i = x) :
    Host.exp (subf a b) i = Ideal.exp (a i - x) := by
  subst hx
  rfl

theorem rowLse_apply (l : FVec Ideal S1024x32000 .f32) (r : Fin 1024) (q : Fin 1) (f : Fin 32000 → EReal)
    (hf : ∀ v, l (ix2 r v) = f v) : rowLse l (ix2 r q) = lse f := by
  obtain rfl : (fun v => l (ix2 r v)) = f := funext hf
  unfold rowLse
  rw [lse_fold]
  refine add_log_apply _ _ _ _ _ (rowMax_apply l r q) (rowSum_apply _ r q _ fun v => ?_)
  exact exp_sub_apply _ _ _ _ ((spread_apply _ r v).trans (rowMax_apply l r 0))

/-- What the reference computes from the states `A` and the vocabulary rows `W`. -/
def value (A : FVec Ideal S1024x256 .f32) (W : FVec Ideal S32000x256 .f32) : FVec Ideal S1024x1 .f32 :=
  rowLse (Host.dotGeneral dot_S1024x256_S32000x256_S1024x32000_1_1_0_0_n_n none A W)

theorem value_apply (A : FVec Ideal S1024x256 .f32) (W : FVec Ideal S32000x256 .f32) (r : Fin 1024) (q : Fin 1) :
    value A W (ix2 r q) = lse (logits A W r) :=
  rowLse_apply _ r q _ fun v => dot_apply A W r v

end Cert.LseRef

end
-- ==== Proof.StatesLoop.lean ====
/-
  The gathered rows.
-/
module

public import proofs.«01_k».proof.Proof.Gen.StatesIdeal.Value
public import Idealize.ShloMosaic.PureOps.Ideal
public import Idealize.ShloMosaic.Lib.Pointwise
public import Idealize.ShloMosaic.Lib.Writes
public import Idealize.ShloMosaic.Lib.Pipeline.Value
public import Idealize.ShloMosaic.Lib.WholeRead
public import Idealize.ShloMosaic.Lib.WordArith.Masks

@[expose] public section

set_option maxRecDepth 65536

noncomputable section

namespace Cert.StatesValue

open Cert.StatesIdeal Cert.StatesIdeal.Gen Idealize.ShloMosaic Idealize.ShloMosaic.TcCoe

variable (m : (ℓ : Loc nD τ sig) → Buf (Elt Ideal) ℓ) (hH : Hyps m) (c : Dev nD) (t : Fin cfg0.N)

/-- Where trip `k` reads the word of time step `i` of its group `g` of eight. -/
def wordAt (k : Fin k0_t1_loop.trips) (g i : ℕ) : Fin 3 → ℕ :=
  ![0, 0, (Scalar.indexCast (Scalar.addi (Scalar.addi (Scalar.muli (Scf.iv 0#32 1#32 k) 64#32) (BitVec.ofNat 32 (8 * g)))
    (BitVec.ofNat 32 i))).toNat]

/-- Where trip `k` stores the rows of its group `g`. -/
def rowAt (k : Fin k0_t1_loop.trips) (g : ℕ) : Fin 2 → ℕ :=
  ![(Scalar.indexCast (Scalar.addi (Scalar.muli (Scf.iv 0#32 1#32 k) 64#32) (BitVec.ofNat 32 (8 * g)))).toNat, 0]

/-- Where the pair of rows of a word starts. -/
def pairAt (v : BitVec 32) : Fin 2 → ℕ := ![(Scalar.indexCast (Scalar.muli v 2#32)).toNat, 0]

theorem iv_val (k : Fin k0_t1_loop.trips) : (Scf.iv (0#32) (1#32) k).toNat = k.val :=
  WordArith.toNat_iv_zero_one _ (by have : k.val < 32 := k.isLt; omega)

theorem wordAt_eq (k : Fin k0_t1_loop.trips) (g i : Fin 8) : wordAt k g i = ![0, 0, 64 * k.val + 8 * g.val + i.val] := by
  have h := iv_val k
  have hk : k.val < 32 := k.isLt
  unfold wordAt
  congr 3
  simp only [Scalar.indexCast, Scalar.addi, IntOp.addi, Scalar.muli, IntOp.muli, BitVec.toNat_add, BitVec.toNat_mul, BitVec.toNat_ofNat, h]
  omega

theorem rowAt_eq (k : Fin k0_t1_loop.trips) (g : Fin 8) : rowAt k g = ![64 * k.val + 8 * g.val, 0] := by
  have h := iv_val k
  have hk : k.val < 32 := k.isLt
  unfold rowAt
  congr 1
  simp only [Scalar.indexCast, Scalar.addi, IntOp.addi, Scalar.muli, IntOp.muli, BitVec.toNat_add, BitVec.toNat_mul, BitVec.toNat_ofNat, h]
  omega

theorem pairAt_eq {v : BitVec 32} (hv : v.toNat < 32000) : pairAt v = ![2 * v.toNat, 0] := by
  unfold pairAt
  congr 1
  simp only [Scalar.indexCast, Scalar.muli, IntOp.muli, BitVec.toNat_mul, BitVec.toNat_ofNat]
  omega

theorem wordAt_inb (k : Fin k0_t1_loop.trips) (g i : Fin 8) (a : Fin 3) : wordAt k g i a + S1x1x1.size a ≤ S1x1x2048.size a := by
  have hk : k.val < 32 := k.isLt
  rw [wordAt_eq]
  fin_cases a
  · show 0 + 1 ≤ 1
    omega
  · show 0 + 1 ≤ 1
    omega
  · show 64 * k.val + 8 * g.val + i.val + 1 ≤ 2048
    omega

theorem pairAt_inb {v : BitVec 32} (hv : v.toNat < 32000) (a : Fin 2) : pairAt v a + S2x128.size a ≤ S64000x128.size a := by
  rw [pairAt_eq hv]
  fin_cases a
  · show 2 * v.toNat + 2 ≤ 64000
    omega
  · show 0 + 128 ≤ 128
    omega

/-- Eight single rows, row `o` of each of eight pairs, one below the other. -/
def glue (o : Fin 2 → ℕ) (h : S2x128.Slices o S1x128) (s : Fin 8 → FVec Ideal S2x128 .f32) : FVec Ideal S8x128 .f32 :=
  shapeCast S8x128 (concatenate S8x128 0 [⟨S1x128, extractStridedSlice S1x128 o (s 0) h⟩, ⟨S1x128, extractStridedSlice S1x128 o (s 1) h⟩,
    ⟨S1x128, extractStridedSlice S1x128 o (s 2) h⟩, ⟨S1x128, extractStridedSlice S1x128 o (s 3) h⟩,
    ⟨S1x128, extractStridedSlice S1x128 o (s 4) h⟩, ⟨S1x128, extractStridedSlice S1x128 o (s 5) h⟩,
    ⟨S1x128, extractStridedSlice S1x128 o (s 6) h⟩, ⟨S1x128, extractStridedSlice S1x128 o (s 7) h⟩]
    concatenates_S1x128_S1x128_S1x128_S1x128_S1x128_S1x128_S1x128_S1x128_S8x128_d0) shapeCasts_S8x128_S8x128

theorem glue_apply (r : Fin 2) (h : S2x128.Slices ![r.val, 0] S1x128) (s : Fin 8 → FVec Ideal S2x128 .f32) (i : Fin 8) (e : Fin 128) :
    glue ![r.val, 0] h s (ix2 i e) = s i (ix2 r e) := by
  unfold glue
  rw [show ∀ X : FVec Ideal S8x128 .f32, shapeCast S8x128 X shapeCasts_S8x128_S8x128 (ix2 i e) = X (ix2 i e) from fun X => by simp only [pointwise]]
  refine (concatenate_ofFn_unit_apply (t := S8x128) (s₁ := S1x128) 0 (fun n : Fin 8 => extractStridedSlice S1x128 ![r.val, 0] (s n) h)
    concatenates_S1x128_S1x128_S1x128_S1x128_S1x128_S1x128_S1x128_S1x128_S8x128_d0 rfl rfl (ix2 i e) i rfl (ix2 0 e) fun b hb => ?_).trans ?_
  · fin_cases b
    · exact absurd rfl hb
    · rfl
  · fin_cases r <;> simp only [pointwise] <;> exact congrArg _ (congrArg _ (Fin.ext (Nat.zero_add _)))

/-- What the loop's first `n` trips have written. -/
def filled (n : ℕ) : List (View.Piece (Elt Ideal) S2048x128 .f32) × List (View.Piece (Elt Ideal) S2048x128 .f32) :=
  pb_k0_t1 Variants.none c none (grid0.coords t) (ms0_0 t) (hs0_0 t) (ms0_1 t) (hs0_1 t) (ms0_2 t) (hs0_2 t) scM0_0
    (Memref.isWhole_whole _) scM0_1 (Memref.isWhole_whole _) ((hs0_0 t).unread (iblk m c 0 t)) ((hs0_1 t).unread (iblk m c 1 t))
    (Hyps.c0 hH c t) (Hyps.c1 hH c t) (Hyps.c2 hH c t) (Hyps.c3 hH c t) (Hyps.c4 hH c t) (Hyps.c5 hH c t) (Hyps.c6 hH c t)
    (Hyps.c7 hH c t) (Hyps.c8 hH c t) (Hyps.c9 hH c t) (Hyps.c10 hH c t) (Hyps.c11 hH c t) (Hyps.c12 hH c t) (Hyps.c13
    hH c t) (Hyps.c14 hH c t) (Hyps.c15 hH c t) (Hyps.c16 hH c t) (Hyps.c17 hH c t) (Hyps.c18 hH c t) (Hyps.c19 hH c t)
    (Hyps.c20 hH c t) (Hyps.c21 hH c t) (Hyps.c22 hH c t) (Hyps.c23 hH c t) (Hyps.c24 hH c t) (Hyps.c25 hH c t)
    (Hyps.c26 hH c t) (Hyps.c27 hH c t) (Hyps.c28 hH c t) (Hyps.c29 hH c t) (Hyps.c30 hH c t) (Hyps.c31 hH c t)
    (Hyps.c32 hH c t) (Hyps.c33 hH c t) (Hyps.c34 hH c t) (Hyps.c35 hH c t) (Hyps.c36 hH c t) (Hyps.c37 hH c t)
    (Hyps.c38 hH c t) (Hyps.c39 hH c t) (Hyps.c40 hH c t) (Hyps.c41 hH c t) (Hyps.c42 hH c t) (Hyps.c43 hH c t)
    (Hyps.c44 hH c t) (Hyps.c45 hH c t) (Hyps.c46 hH c t) (Hyps.c47 hH c t) (Hyps.c48 hH c t) (Hyps.c49 hH c t)
    (Hyps.c50 hH c t) (Hyps.c51 hH c t) (Hyps.c52 hH c t) (Hyps.c53 hH c t) (Hyps.c54 hH c t) (Hyps.c55 hH c t)
    (Hyps.c56 hH c t) (Hyps.c57 hH c t) (Hyps.c58 hH c t) (Hyps.c59 hH c t) (Hyps.c60 hH c t) (Hyps.c61 hH c t)
    (Hyps.c62 hH c t) (Hyps.c63 hH c t) n

/-- The block of words and the embedding rows the body sees at point `t`. -/
abbrev words : Vec Ideal S1x1x2048 .i32 := iblk m c 0 t
abbrev table : Vec Ideal S64000x128 .f32 := iblk m c 1 t

/-- The word of time step `i` of group `g`, as trip `k` reads it. -/
def word (k : Fin k0_t1_loop.trips) (g i : ℕ) (h : ∀ a, wordAt k g i a + S1x1x1.size a ≤ S1x1x2048.size a) : BitVec 32 :=
  (ms0_0 t).view.readAt (Elt Ideal) (Rect.unit (s := S1x1x2048) (wordAt k g i) S1x1x1.size h).toLoadRect
    ((hs0_0 t).unread (iblk m c 0 t)) (Shape.Idx.first (numel1_S1x1x1.symm ▸ Nat.one_pos))

/-- The pair of rows a word names, as a trip reads it. -/
def slab (v : BitVec 32) (h : ∀ a, pairAt v a + S2x128.size a ≤ S64000x128.size a) : FVec Ideal S2x128 .f32 :=
  shapeCast S2x128 ((ms0_1 t).view.readAt (Elt Ideal) (Rect.unit (s := S64000x128) (pairAt v) S2x128.size h).toLoadRect
    ((hs0_1 t).unread (iblk m c 1 t))) shapeCasts_S2x128_S2x128

theorem word_eq (k : Fin k0_t1_loop.trips) (g i : Fin 8) (h) (s : Fin 2048) (hs : s.val = 64 * k.val + 8 * g.val + i.val) :
    word m c t k g i h = words m c t (ix3 0 0 s) := by
  unfold word
  rw [Memref.IsWhole.readAt_unread]
  show words m c t _ = words m c t _
  congr 1
  funext a
  apply Fin.ext
  show wordAt k g i a + 1 * _ = _
  refine (congrArg (· + _) (congrFun (wordAt_eq k g i) a)).trans ?_
  fin_cases a
  · rfl
  · rfl
  · exact (hs ▸ rfl)

theorem slab_apply {v : BitVec 32} (hv : v.toNat < 32000) (h) (r : Fin 2) (e : Fin 128) :
    slab m c t v h (ix2 r e) = table m c t (ix2 ⟨2 * v.toNat + r.val, by omega⟩ e) := by
  unfold slab
  simp only [pointwise]
  rw [Memref.IsWhole.readAt_unread]
  show table m c t _ = table m c t _
  congr 1
  funext a
  apply Fin.ext
  show pairAt v a + 1 * _ = _
  refine (congrArg (· + _) (congrFun (pairAt_eq hv) a)).trans ?_
  fin_cases a
  · show 2 * v.toNat + 1 * r.val = 2 * v.toNat + r.val
    omega
  · show 0 + 1 * e.val = e.val
    omega

variable (hw : ∀ y, BitVec.toNat (words m c t y) < 32000)

/-- Row `r` of each time step's pair. -/
def gathered (r : Fin 2) (y : S2048x128.Idx) : EReal :=
  table m c t (ix2 ⟨2 * (BitVec.toNat (words m c t (ix3 0 0 (y 0)))) + r.val, by have := hw (ix3 0 0 (y 0)); omega⟩ (y 1))

include hw in
theorem word_lt (k : Fin k0_t1_loop.trips) (g i : Fin 8) (h) : (word m c t k g i h).toNat < 32000 := by
  have hk : k.val < 32 := k.isLt
  rw [word_eq m c t k g i h ⟨64 * k.val + 8 * g.val + i.val, by omega⟩ rfl]
  exact hw _

/-- One stored group of eight rows holds its part of the gathered rows. -/
theorem group (r : Fin 2) (k : Fin k0_t1_loop.trips) (g : Fin 8) (h : S2x128.Slices ![r.val, 0] S1x128)
    (hr : ∀ a, rowAt k g a + (![8, 128] : Fin 2 → ℕ) a ≤ S2048x128.size a) (x : (Rect.unit (s := S2048x128) (rowAt k g) ![8, 128] hr).shape.Idx) :
    glue ![r.val, 0] h (fun i => slab m c t (word m c t k g i (wordAt_inb k g i)) (pairAt_inb (word_lt m c t hw k g i _))) x
      = gathered m c t hw r ((Rect.unit (s := S2048x128) (rowAt k g) ![8, 128] hr).emb x) := by
  have hk : k.val < 32 := k.isLt
  obtain ⟨i, e, rfl⟩ : ∃ (i : Fin 8) (e : Fin 128), x = ix2 i e := ⟨x 0, x 1, by funext a; fin_cases a <;> rfl⟩
  rw [glue_apply, slab_apply m c t (word_lt m c t hw k g i _)]
  have he : (Rect.unit (s := S2048x128) (rowAt k g) ![8, 128] hr).emb (ix2 i e) = (ix2 ⟨64 * k.val + 8 * g.val + i.val, by omega⟩ e : S2048x128.Idx) := by
    funext a
    apply Fin.ext
    show rowAt k g a + 1 * _ = _
    refine (congrArg (· + _) (congrFun (rowAt_eq k g) a)).trans ?_
    fin_cases a
    · show 64 * k.val + 8 * g.val + 1 * i.val = 64 * k.val + 8 * g.val + i.val
      omega
    · show 0 + 1 * e.val = e.val
      omega
  rw [he]
  unfold gathered
  congr 2
  apply Fin.ext
  show 2 * _ + r.val = 2 * _ + r.val
  rw [word_eq m c t k g i _ ⟨64 * k.val + 8 * g.val + i.val, by omega⟩ rfl]
  rfl

/-- Pieces that hold their part of row `r` of the pairs and together cover the first `64 n` time steps. -/
def Fits (r : Fin 2) (n : ℕ) (L : List (View.Piece (Elt Ideal) S2048x128 .f32)) : Prop :=
  (∀ p ∈ L, ∀ x, p.2 x = gathered m c t hw r (p.1.emb x)) ∧ ∀ y : S2048x128.Idx, (y 0).val < 64 * n → ∃ p ∈ L, y ∈ p.1.set

/-- The eight rows of group `g` that trip `k` stores, of row `r` of the pairs. -/
def stored (r : Fin 2) (k : Fin k0_t1_loop.trips) (g : Fin 8) (h : S2x128.Slices ![r.val, 0] S1x128)
    (hr : ∀ a, rowAt k g a + (![8, 128] : Fin 2 → ℕ) a ≤ S2048x128.size a) : View.Piece (Elt Ideal) S2048x128 .f32 :=
  ⟨Rect.unit (s := S2048x128) (rowAt k g) ![8, 128] hr,
    glue ![r.val, 0] h (fun i => slab m c t (word m c t k g i (wordAt_inb k g i)) (pairAt_inb (word_lt m c t hw k g i _)))⟩

theorem rowAt_inb (k : Fin k0_t1_loop.trips) (g : Fin 8) (a : Fin 2) : rowAt k g a + (![8, 128] : Fin 2 → ℕ) a ≤ S2048x128.size a := by
  have hk : k.val < 32 := k.isLt
  rw [rowAt_eq]
  fin_cases a
  · show 64 * k.val + 8 * g.val + 8 ≤ 2048
    omega
  · show 0 + 128 ≤ 128
    omega

/-- A trip's eight groups extend what earlier trips stored. -/
theorem fits_trip {r : Fin 2} {k : Fin k0_t1_loop.trips} {L : List (View.Piece (Elt Ideal) S2048x128 .f32)}
    (h : S2x128.Slices ![r.val, 0] S1x128) (hL : Fits m c t hw r k L) :
    Fits m c t hw r (k + 1) ([stored m c t hw r k 7 h (rowAt_inb k 7), stored m c t hw r k 6 h (rowAt_inb k 6),
      stored m c t hw r k 5 h (rowAt_inb k 5), stored m c t hw r k 4 h (rowAt_inb k 4), stored m c t hw r k 3 h (rowAt_inb k 3),
      stored m c t hw r k 2 h (rowAt_inb k 2), stored m c t hw r k 1 h (rowAt_inb k 1), stored m c t hw r k 0 h (rowAt_inb k 0)] ++ L) := by
  constructor
  · have e := fun g => group m c t hw r k g h (rowAt_inb k g)
    simp only [List.cons_append, List.nil_append, List.forall_mem_cons]
    exact ⟨e 7, e 6, e 5, e 4, e 3, e 2, e 1, e 0, hL.1⟩
  · intro y hy
    by_cases hn : (y 0).val < 64 * k.val
    · obtain ⟨p, hp, hm⟩ := hL.2 y hn
      exact ⟨p, List.mem_append_right _ hp, hm⟩
    · let g : Fin 8 := ⟨((y 0).val - 64 * k.val) / 8, by omega⟩
      have hm : y ∈ (stored m c t hw r k g h (rowAt_inb k g)).1.set := by
        refine (Rect.mem_set_unit (inb := rowAt_inb k g)).2 fun a => ?_
        rw [rowAt_eq k g]
        fin_cases a
        · show 64 * k.val + 8 * (((y 0).val - 64 * k.val) / 8) ≤ (y 0).val ∧ (y 0).val < 64 * k.val + 8 * (((y 0).val - 64 * k.val) / 8) + 8
          omega
        · exact ⟨Nat.zero_le _, by show (y 1).val < 0 + 128; exact (Nat.zero_add 128).symm ▸ (y 1).isLt⟩
      refine ⟨_, List.mem_append_left _ ?_, hm⟩
      generalize g = g'
      fin_cases g' <;> simp

/-- The first scratch array after `n` trips holds the first rows, the second one the second rows. -/
theorem filled_fits (n : ℕ) (hn : n ≤ 32) : Fits m c t hw 0 n (filled m hH c t n).1 ∧ Fits m c t hw 1 n (filled m hH c t n).2 := by
  induction n with
  | zero => exact ⟨⟨fun _ h => absurd h List.not_mem_nil, fun y h => absurd h (by omega)⟩,
      ⟨fun _ h => absurd h List.not_mem_nil, fun y h => absurd h (by omega)⟩⟩
  | succ n ih =>
    have ih := ih (by omega)
    unfold filled at ih ⊢
    rw [pb_k0_t1_succ (k := ⟨n, hn⟩)]
    unfold tripL_k0_t1 trip_k0_t1
    dsimp only
    exact ⟨fits_trip m c t hw (k := ⟨n, hn⟩) slices_S2x128_o0_0_S1x128 ih.1, fits_trip m c t hw (k := ⟨n, hn⟩) slices_S2x128_o1_0_S1x128 ih.2⟩

/-- A load of the scratch array once it is filled reads the gathered rows. -/
theorem load_eq {r : Fin 2} {L : List (View.Piece (Elt Ideal) S2048x128 .f32)} (hL : Fits m c t hw r 32 L) {sp : Space}
    (v : View sig .tc sp S2048x128 .f32) (B : LoadRect S2048x128) :
    v.readCov (Val := Elt Ideal) L B = fun x => gathered m c t hw r (B.idx x) := by
  funext x
  rw [View.readCov_eq_canon']
  exact View.canon_apply_of_pieces (gathered m c t hw r) L hL.1 _ (hL.2 _ (((B.idx x) 0).isLt))

theorem origin : ∀ a : Fin 2, (![0, 0] : Fin 2 → ℕ) a = 0 := by decide

theorem idx_zero (n k : ℕ) (h : ∀ a, (![0, 0] : Fin 2 → ℕ) a + (![n, k] : Fin 2 → ℕ) a ≤ S2048x128.size a)
    (y : (Rect.unit (s := S2048x128) ![0, 0] ![n, k] h).toLoadRect.shape.Idx) (a : Fin 2) :
    ((Rect.unit (s := S2048x128) ![0, 0] ![n, k] h).toLoadRect.idx y a).val = (y a).val := by
  show (![0, 0] : Fin 2 → ℕ) a + 1 * (y a).val = _
  rw [origin]
  omega

/-- The first 32 columns of the gathered first rows. -/
def front (y : S2048x32.Idx) : EReal :=
  gathered m c t hw 0 (ix2 (y 0) ⟨(y 1).val, lt_of_lt_of_le (y 1).isLt (by decide)⟩)

theorem load_front {L : List (View.Piece (Elt Ideal) S2048x128 .f32)} (hL : Fits m c t hw 0 32 L) {sp : Space}
    (v : View sig .tc sp S2048x128 .f32) (h : ∀ a, (![0, 0] : Fin 2 → ℕ) a + (![2048, 32] : Fin 2 → ℕ) a ≤ S2048x128.size a) :
    v.readCov (Val := Elt Ideal) L (Rect.unit (s := S2048x128) ![0, 0] ![2048, 32] h).toLoadRect = front m c t hw := by
  rw [load_eq m c t hw hL]
  funext y
  refine congrArg (gathered m c t hw 0) (funext fun a => Fin.ext ((idx_zero _ _ _ y a).trans ?_))
  fin_cases a <;> rfl

theorem load_whole {r : Fin 2} {L : List (View.Piece (Elt Ideal) S2048x128 .f32)} (hL : Fits m c t hw r 32 L) {sp : Space}
    (v : View sig .tc sp S2048x128 .f32) (h : ∀ a, (![0, 0] : Fin 2 → ℕ) a + (![2048, 128] : Fin 2 → ℕ) a ≤ S2048x128.size a) :
    v.readCov (Val := Elt Ideal) L (Rect.unit (s := S2048x128) ![0, 0] ![2048, 128] h).toLoadRect = gathered m c t hw r := by
  rw [load_eq m c t hw hL]
  funext y
  exact congrArg (gathered m c t hw r) (funext fun a => Fin.ext (idx_zero _ _ _ y a))

/-- What the body leaves at point `t`: the softmax and the product over the gathered rows. -/
theorem outs : outsAt0 m hH c t = k0_pay3 (F := Ideal) (front m c t hw) (gathered m c t hw 0) (gathered m c t hw 1) := by
  have e : Scf.trips (0#32) (Scalar.addi 0#32 32#32) 1#32 = 32 := by decide
  have hf := filled_fits m hH c t hw (Scf.trips (0#32) (Scalar.addi 0#32 32#32) 1#32) (le_of_eq e)
  unfold filled at hf
  unfold outsAt0 out0_A_2 kernelRun0_A
  dsimp only
  generalize Scf.trips (0#32) (Scalar.addi 0#32 32#32) 1#32 = n at hf e ⊢
  subst e
  rw [View.read_writes_junk_eq_canon, View.canon_unit_zero (S := S32x256) (funext origin)]
  rw [load_front m c t hw hf.1, load_whole m c t hw hf.1, load_whole m c t hw hf.2]

end Cert.StatesValue
end
-- ==== Proof.ScanValue.lean ====
/-
  What one grid point of the scan kernel leaves in its output block, as the kernel's own arithmetic over its input blocks.
-/
module

public import proofs.«01_k».proof.Proof.Gen.ScanIdeal.Value
public import Idealize.ShloMosaic.Lib.Tactic

@[expose] public section

set_option maxRecDepth 16384

noncomputable section

namespace Cert.ScanValue

open Cert.ScanIdeal Cert.ScanIdeal.Gen Cert.ScanIdeal.Value Idealize.ShloMosaic Idealize.ShloMosaic.TcCoe

variable {F : FTy → Type} [FloatOps F]

theorem origin2 : (![0, 0] : Fin 2 → ℕ) = fun _ => 0 := funext fun a => by fin_cases a <;> rfl
theorem origin3 : (![0, 0, 0] : Fin 3 → ℕ) = fun _ => 0 := funext fun a => by fin_cases a <;> rfl

section Run

variable (c : Dev nD) (i : grid0.Coords)
  (a1 : Memref sig .tc .vmem S2048x16x32 .f32) (h1 : a1.IsWhole) (a2 : Memref sig .tc .vmem S512x512 .f32) (h2 : a2.IsWhole)
  (a3 : Memref sig .tc .vmem S512x512 .f32) (h3 : a3.IsWhole) (a4 : Memref sig .tc .vmem S32x512 .f32) (h4 : a4.IsWhole)
  (a5 : Memref sig .tc .vmem S1x512 .f32) (h5 : a5.IsWhole) (a6 : Memref sig .tc .vmem S16x1x1 .f32) (h6 : a6.IsWhole)
  (a7 : Memref sig .tc .vmem S16x1 .f32) (h7 : a7.IsWhole)
  (u : Vec F S2048x16x32 .f32) (A : Vec F S512x512 .f32) (B : Vec F S512x512 .f32) (R : Vec F S32x512 .f32)
  (z : Vec F S1x512 .f32) (e : Vec F S16x1x1 .f32)

/-- The emission block of the trip's `j`-th time step. -/
def slab (u : Vec F S2048x16x32 .f32) (k : Fin k0_t1_loop.trips) (j : Fin 8) : Vec F S1x16x32 .f32 :=
  View.ld u (Rect.unit (s := S2048x16x32) (k0_off1 k (BitVec.ofNat 32 j.val)) S1x16x32.size (k0_off1_inb k j))

/-- One time step: the weights move along the transitions and are multiplied by the step's emissions. -/
def advance (A : Vec F S512x512 .f32) (R : Vec F S32x512 .f32) (a : FVec F S16x512 .f32) (x : Vec F S1x16x32 .f32) : FVec F S16x512 .f32 :=
  mulf (matmul dot_S16x512_S512x512_S16x512_1_0_0_1_n_n none a A (constant S16x512 .f32 0x00000000#32))
    (matmul dot_S16x32_S32x512_S16x512_1_0_0_1_n_n none (shapeCast S16x32 x shapeCasts_S1x16x32_S16x32) R (constant S16x512 .f32 0x00000000#32))

/-- The totals the weights are divided by. -/
def totals (B : Vec F S512x512 .f32) (a : FVec F S16x512 .f32) : FVec F S16x512 .f32 :=
  matmul dot_S16x512_S512x512_S16x512_1_0_0_1_n_n none a B (constant S16x512 .f32 0x00000000#32)

/-- The weights after the trip's first `j` time steps. -/
def steps (u : Vec F S2048x16x32 .f32) (A : Vec F S512x512 .f32) (R : Vec F S32x512 .f32) (k : Fin k0_t1_loop.trips)
    (a : FVec F S16x512 .f32) (l : List (Fin 8)) : FVec F S16x512 .f32 :=
  l.foldl (fun a j => advance A R a (slab u k j)) a

/-- One trip: eight time steps, then the weights are divided by their totals, whose logarithms are collected. -/
def trip (u : Vec F S2048x16x32 .f32) (A B : Vec F S512x512 .f32) (R : Vec F S32x512 .f32) (k : Fin k0_t1_loop.trips)
    (acc : FVec F S16x512 .f32 × FVec F S16x512 .f32) : FVec F S16x512 .f32 × FVec F S16x512 .f32 :=
  let a := steps u A R k acc.1 [0, 1, 2, 3, 4, 5, 6, 7]
  (mulf a (divf (broadcast S16x512 (Scalar.ofBits .f32 0x3F800000#32)) (totals B a)), addf acc.2 (log (totals B a)))

theorem trip_eq (k : Fin k0_t1_loop.trips) (acc : FVec F S16x512 .f32 × FVec F S16x512 .f32) :
    tripR_k0_t1 (F := F) Variants.none c none i a1 h1 a2 h2 a3 h3 a4 h4 a5 h5 a6 h6 a7 h7 (h1.unread u) (h2.unread A) (h3.unread B) (h4.unread R) k acc
      = trip u A B R k acc := by
  unfold tripR_k0_t1 trip_k0_t1; dsimp only
  sl_unfold_words
  simp only [View.readAt_eq_ld, h1.read_unread, h2.read_unread, h3.read_unread, h4.read_unread, View.ld_unit_zero (S := S512x512) origin2, View.ld_unit_zero (S := S32x512) origin2]
  unfold trip
  simp only [k0_pay3, k0_pay4, k0_pay5, k0_pay6, k0_pay8, k0_pay9, k0_pay10, k0_pay11, k0_pay12, k0_pay13, shapeCast_self,
    steps, List.foldl, advance, totals, slab]
  rfl

/-- The carried weights and logarithms before trip `n`. -/
def carried (u : Vec F S2048x16x32 .f32) (A B : Vec F S512x512 .f32) (R : Vec F S32x512 .f32) (z : Vec F S1x512 .f32) :
    ℕ → FVec F S16x512 .f32 × FVec F S16x512 .f32
  | 0 => (k0_pay1 z, k0_pay2)
  | n + 1 => if h : n < k0_t1_loop.trips then trip u A B R ⟨n, h⟩ (carried u A B R z n) else carried u A B R z n

theorem carried_succ (n : ℕ) (h : n < k0_t1_loop.trips) :
    carried u A B R z (n + 1) = trip u A B R ⟨n, h⟩ (carried u A B R z n) := dif_pos h

theorem carried_eq (n : ℕ) (hn : n ≤ k0_t1_loop.trips) :
    st_k0_t1 (F := F) Variants.none c none i a1 h1 a2 h2 a3 h3 a4 h4 a5 h5 a6 h6 a7 h7 (h1.unread u) (h2.unread A) (h3.unread B) (h4.unread R)
      (k0_pay1 z, k0_pay2) n = carried u A B R z n := by
  induction n with
  | zero => exact st_k0_t1_zero ..
  | succ n ih =>
    rw [st_k0_t1_succ (F := F) Variants.none c none i a1 h1 a2 h2 a3 h3 a4 h4 a5 h5 a6 h6 a7 h7 (h1.unread u) (h2.unread A) (h3.unread B) (h4.unread R)
      (k0_pay1 z, k0_pay2) ⟨n, hn⟩, trip_eq, ih (Nat.le_of_succ_le hn), carried_succ]

theorem out_A : out0_A_6 c i a1 h1 a2 h2 a3 h3 a4 h4 a5 h5 a6 h6 a7 h7 u A B R z e
    = k0_pay7 (F := F) (carried u A B R z k0_t1_loop.trips).1 (carried u A B R z k0_t1_loop.trips).2 e := by
  unfold out0_A_6
  rw [View.read_writes_eq_canon _ _ _ (cover0_A_6 c i a1 h1 a2 h2 a3 h3 a4 h4 a5 h5 a6 h6 a7 h7 u A B R z e)]
  unfold kernelRun0_A; dsimp only
  sl_unfold_words
  simp only [View.canon_cons_unit_zero (S := S16x1) origin2, View.canon_unit_zero (S := S16x1) origin2,
    View.readAt_eq_ld, h5.read_unread, h6.read_unread,
    View.ld_unit_zero (S := S1x512) origin2, View.ld_unit_zero (S := S16x1x1) origin3, shapeCast_self]
  rw [← carried_eq c i a1 h1 a2 h2 a3 h3 a4 h4 a5 h5 a6 h6 a7 h7 u A B R z _ (le_refl _)]
  try rfl

end Run

end Cert.ScanValue

end
-- ==== Proof.ScanPoint.lean ====
/-
  The scan kernel's arithmetic, entry by entry over the extended reals: a row's weights after one time step, after one trip
  of eight steps, and the row's result.
-/
module

public import proofs.«01_k».proof.Proof.ScanValue
public import Idealize.ShloMosaic.Lib.Pointwise
public import Idealize.ShloMosaic.PureOps.Ideal

@[expose] public section

set_option maxRecDepth 16384

noncomputable section

namespace Cert.ScanValue

open Cert.ScanIdeal Cert.ScanIdeal.Gen Idealize.ShloMosaic Idealize.ShloMosaic.TcCoe

theorem bits_zero : Ideal.ofBits .f32 0x00000000#32 = (0 : EReal) := by simp [Ideal.ofBits, Ideal.ieee]
theorem bits_one : Ideal.ofBits .f32 0x3F800000#32 = (1 : EReal) := by
  simp [Ideal.ofBits, Ideal.ieee, -EReal.coe_mul]
  norm_num
theorem bits_bot : Ideal.ofBits .f32 0xFF800000#32 = (⊥ : EReal) := by simp [Ideal.ofBits, Ideal.ieee]
theorem bits_part : Ideal.ofBits .f32 0x3A000000#32 = ((1 / 2048 : ℝ) : EReal) := by
  simp [Ideal.ofBits, Ideal.ieee, -EReal.coe_mul]
  norm_num

theorem slab_apply (u : Vec Ideal S2048x16x32 .f32) (k : Fin k0_t1_loop.trips) (j : Fin 8) (t : Fin 2048) (ht : t.val = 8 * k.val + j.val)
    (r : Fin 16) (s : Fin 32) : slab (F := Ideal) u k j (ix3 0 r s) = u (ix3 t r s) := by
  unfold slab
  show u _ = u _
  congr 1
  funext a
  apply Fin.ext
  match a with
  | ⟨0, _⟩ => show k0_off1 k (BitVec.ofNat 32 j.val) 0 + 1 * 0 = t.val; rw [k0_off1_eq, ht]; rfl
  | ⟨1, _⟩ => show k0_off1 k (BitVec.ofNat 32 j.val) 1 + 1 * r.val = r.val; rw [k0_off1_eq]; show 0 + 1 * r.val = r.val; omega
  | ⟨2, _⟩ => show k0_off1 k (BitVec.ofNat 32 j.val) 2 + 1 * s.val = s.val; rw [k0_off1_eq]; show 0 + 1 * s.val = s.val; omega

theorem advance_apply (A : Vec Ideal S512x512 .f32) (R : Vec Ideal S32x512 .f32) (a : FVec Ideal S16x512 .f32) (x : Vec Ideal S1x16x32 .f32)
    (r : Fin 16) (q : Fin 512) : advance A R a x (ix2 r q)
      = (∑ p : Fin 512, a (ix2 r p) * A (ix2 p q)) * ∑ s : Fin 32, x (ix3 0 r s) * R (ix2 s q) := by
  unfold advance
  simp [pointwise, Ideal.matmul_def]

theorem totals_apply (B : Vec Ideal S512x512 .f32) (a : FVec Ideal S16x512 .f32) (r : Fin 16) (q : Fin 512) :
    totals B a (ix2 r q) = ∑ p : Fin 512, a (ix2 r p) * B (ix2 p q) := by
  unfold totals
  simp [pointwise, Ideal.matmul_def]

theorem pay1_apply (z : Vec Ideal S1x512 .f32) (r : Fin 16) (q : Fin 512) : k0_pay1 (F := Ideal) z (ix2 r q) = z (ix2 0 q) := by
  unfold k0_pay1
  simp [pointwise, shapeCast_self]

theorem pay2_apply (r : Fin 16) (q : Fin 512) : k0_pay2 (F := Ideal) (ix2 r q) = 0 := by
  unfold k0_pay2
  simp [pointwise, bits_zero]

theorem result_apply (a L : FVec Ideal S16x512 .f32) (e : Vec Ideal S16x1x1 .f32) (r : Fin 16) (l : Fin 512 → EReal) (zm : EReal)
    (hl : ∀ q, Ideal.log (a (ix2 r q)) + L (ix2 r q) = l q) (hz : Finset.univ.fold (β := EReal) max ⊥ l = zm) :
    k0_pay7 (F := Ideal) a L e (ix2 r 0) = zm * ((1 / 2048 : ℝ) : EReal)
      + Ideal.log (∑ q, Ideal.exp ((l q - zm) * ((1 / 2048 : ℝ) : EReal))) + e (ix3 r 0 0) * ((1 / 2048 : ℝ) : EReal) := by
  obtain rfl : (fun q => Ideal.log (a (ix2 r q)) + L (ix2 r q)) = l := funext hl
  subst hz
  unfold k0_pay7
  simp [pointwise, Ideal.reduceAdd_def, bits_bot, bits_part, shapeCast_self]

end Cert.ScanValue

end
-- ==== Proof.StatesPoint.lean ====
/-
  The states call at one grid point, entry by entry: a softmax over time of the first 32 columns, and its product with the gathered rows.
-/
module

public import proofs.«01_k».proof.Proof.StatesLoop
public import proofs.«01_k».proof.Proof.ScanPoint

@[expose] public section

set_option maxRecDepth 16384

noncomputable section

namespace Cert.StatesValue

open Cert.StatesIdeal Cert.StatesIdeal.Gen Idealize.ShloMosaic Idealize.ShloMosaic.TcCoe

/-- The greatest of the entries. -/
def top (a : Fin 2048 → EReal) : EReal := Finset.univ.fold max ⊥ a

/-- The softmax's numerator. -/
def numer (a : Fin 2048 → EReal) (k : Fin 2048) : EReal := Ideal.exp (a k - top a)

/-- The kernel's weighted sum: each weight is the numerator times the reciprocal of the denominator. -/
def pooled (a b : Fin 2048 → EReal) : EReal := ∑ k, numer a k * Ideal.div 1 (∑ j, numer a j) * b k

/-- The two gathered halves side by side. -/
def beside (lo hi : Vec Ideal S2048x128 .f32) (k : Fin 2048) (e : Fin 256) : EReal :=
  if h : e.val < 128 then lo (ix2 k ⟨e.val, h⟩) else hi (ix2 k ⟨e.val - 128, by omega⟩)

theorem pay3_apply (v : Vec Ideal S2048x32 .f32) (lo hi : Vec Ideal S2048x128 .f32) (s : Fin 32) (e : Fin 256) :
    k0_pay3 (F := Ideal) v lo hi (ix2 s e) = pooled (fun k => v (ix2 k s)) fun k => beside lo hi k e := by
  unfold k0_pay3 pooled numer top beside
  simp [pointwise, Ideal.reduceAdd_def, Ideal.matmul_def, Cert.ScanValue.bits_bot, Cert.ScanValue.bits_one]

end Cert.StatesValue
end
-- ==== Proof.StatesResult.lean ====
/-
  The states call's result, entry by entry, from the words and the embedding.
-/
module

public import proofs.«01_k».proof.Proof.StatesPoint
public import Idealize.ShloMosaic.Lib.Pointwise
public import Idealize.ShloMosaic.Lib.StableHlo.ReadAt

@[expose] public section

set_option maxRecDepth 16384

noncomputable section

namespace Cert.StatesValue

open Cert.StatesIdeal Cert.StatesIdeal.Gen Cert.StatesIdeal.Value Idealize.ShloMosaic Idealize.ShloMosaic.TcCoe

variable (m : (ℓ : Loc nD τ sig) → Buf (Elt Ideal) ℓ) (c : Dev nD)

theorem words_apply (b : Fin 32) (s : Fin 2048) :
    (V (F := Ideal) m c main_v0 : Vec Ideal S32x1x2048 .i32) (ix3 b 0 s) = m (c, main_arg0) (ix2 b s) := by
  unfold V
  after_reads_at

theorem table_apply (w : Fin 32000) (r : Fin 2) (e : Fin 128) :
    (V (F := Ideal) m c main_v1 : Vec Ideal S64000x128 .f32) (ix2 ⟨2 * w.val + r.val, by omega⟩ e)
      = m (c, main_arg1) (ix2 w ⟨128 * r.val + e.val, by omega⟩) := by
  unfold V
  after_reads_at
  exact congrArg _ (congrArg _ (Fin.ext (show (2 * w.val + r.val) % 2 * 128 + e.val = 128 * r.val + e.val by omega)))

theorem window_index : ∀ t : Fin cfg0.N, win0_0.index t 0 = t.val ∧ win0_0.index t 1 = 0 ∧ win0_0.index t 2 = 0
    ∧ (∀ a, win0_1.index t a = 0) ∧ win0_2.index t 0 = t.val ∧ win0_2.index t 1 = 0 :=
  (by decide : ∀ t : Fin grid0.N, win0_0.index t 0 = t.val ∧ win0_0.index t 1 = 0 ∧ win0_0.index t 2 = 0
    ∧ (∀ a, win0_1.index t a = 0) ∧ win0_2.index t 0 = t.val ∧ win0_2.index t 1 = 0)

theorem words_block (t : Fin cfg0.N) (s : Fin 2048) :
    words m c t (ix3 0 0 s) = m (c, main_arg0) (ix2 (⟨t.val, t.isLt⟩ : Fin 32) s) := by
  obtain ⟨h0, h1, h2, -⟩ := window_index t
  refine Eq.trans ?_ (words_apply m c ⟨t.val, t.isLt⟩ s)
  unfold words iblk
  rw [View.read_apply]
  show V m c main_v0 _ = V m c main_v0 _
  congr 1
  funext a
  apply Fin.ext
  match a with
  | ⟨0, _⟩ => show win0_0.index t 0 * 1 + 1 * 0 = t.val; omega
  | ⟨1, _⟩ => show win0_0.index t 1 * 1 + 1 * 0 = 0; omega
  | ⟨2, _⟩ => show win0_0.index t 2 * 2048 + 1 * s.val = s.val; omega

theorem table_block (t : Fin cfg0.N) (R : Fin 64000) (e : Fin 128) :
    table m c t (ix2 R e) = (V (F := Ideal) m c main_v1 : Vec Ideal S64000x128 .f32) (ix2 R e) := by
  obtain ⟨-, -, -, h, -⟩ := window_index t
  unfold table iblk
  rw [View.read_apply]
  show V m c main_v1 _ = V m c main_v1 _
  congr 1
  funext a
  apply Fin.ext
  match a with
  | ⟨0, _⟩ => show win0_1.index t 0 * 64000 + 1 * R.val = R.val; rw [h]; omega
  | ⟨1, _⟩ => show win0_1.index t 1 * 128 + 1 * e.val = e.val; rw [h]; omega

/-- Every word of the argument names a row of the embedding. -/
def InRange : Prop := ∀ b s, BitVec.toNat (m (c, main_arg0) (ix2 b s)) < 32000

variable {m c} (hx : InRange m c)

/-- The embedding of the word at time step `k` of sequence `b`. -/
def embedded (b : Fin 32) (k : Fin 2048) (e : Fin 256) : EReal :=
  m (c, main_arg1) (ix2 ⟨BitVec.toNat (m (c, main_arg0) (ix2 b k)), hx b k⟩ e)

include hx in
theorem words_lt (t : Fin cfg0.N) (y : S1x1x2048.Idx) : BitVec.toNat (words m c t y) < 32000 := by
  obtain ⟨a, b, s, rfl⟩ : ∃ (a b : Fin 1) (s : Fin 2048), y = ix3 a b s := ⟨y 0, y 1, y 2, by funext a; fin_cases a <;> rfl⟩
  obtain rfl : a = 0 := Subsingleton.elim _ _
  obtain rfl : b = 0 := Subsingleton.elim _ _
  rw [words_block]
  exact hx _ _

theorem gathered_apply (t : Fin cfg0.N) (r : Fin 2) (k : Fin 2048) (e : Fin 128) :
    gathered m c t (words_lt hx t) r (ix2 k e) = embedded hx ⟨t.val, t.isLt⟩ k ⟨128 * r.val + e.val, by omega⟩ := by
  have hb := words_block m c t k
  have hw := words_lt hx t (ix3 0 0 k)
  refine (table_block m c t ⟨2 * BitVec.toNat (words m c t (ix3 0 0 k)) + r.val, by omega⟩ e).trans ?_
  refine Eq.trans ?_ (table_apply m c ⟨_, hx ⟨t.val, t.isLt⟩ k⟩ r e)
  refine congrArg (V (F := Ideal) m c main_v1) (congrArg (fun q => ix2 q e) (Fin.ext ?_))
  show 2 * BitVec.toNat (words m c t (ix3 0 0 k)) + r.val = 2 * BitVec.toNat (m (c, main_arg0) (ix2 ⟨t.val, t.isLt⟩ k)) + r.val
  rw [hb]

/-- What a point writes back: its sequence's 32 states. -/
theorem written (hH : Hyps m) (t : Fin cfg0.N) (s : Fin 32) (e : Fin 256) :
    (outsAt0 m hH c t : Vec Ideal S32x256 .f32) (ix2 s e)
      = pooled (fun k => embedded hx ⟨t.val, t.isLt⟩ k ⟨s.val, by omega⟩) fun k => embedded hx ⟨t.val, t.isLt⟩ k e := by
  rw [outs m hH c t (words_lt hx t), pay3_apply]
  congr 1
  · funext k
    refine (gathered_apply hx t 0 k ⟨s.val, by omega⟩).trans ?_
    exact congrArg _ (Fin.ext (show 128 * 0 + s.val = s.val by omega))
  · funext k
    unfold beside
    split
    · refine (gathered_apply hx t 0 k _).trans ?_
      exact congrArg _ (Fin.ext (show 128 * 0 + e.val = e.val by omega))
    · refine (gathered_apply hx t 1 k _).trans ?_
      exact congrArg _ (Fin.ext (show 128 * 1 + (e.val - 128) = e.val by omega))

/-- The result array: row `32 b + s` is state `s` of sequence `b`. -/
theorem result (hH : Hyps m) (b s : Fin 32) (e : Fin 256) :
    ((dats m hH 0 c).arrAt 2 cfg0.N : Vec Ideal S1024x256 .f32) (ix2 ⟨32 * b.val + s.val, by omega⟩ e)
      = pooled (fun k => embedded hx b k ⟨s.val, by omega⟩) fun k => embedded hx b k e := by
  let t : Fin cfg0.N := ⟨b.val, b.isLt⟩
  have hf : (cfg0.win 2).flush t = true := (by decide : ∀ t : Fin grid0.N, (cfg0.win 2).flush t = true) t
  have h := congrFun (blocks2 m hH c t hf) (ix2 s e)
  rw [View.read_apply, flushed2] at h
  refine Eq.trans ?_ (Eq.trans h (written hx hH t s e))
  obtain ⟨-, -, -, -, h0, h1⟩ := window_index t
  refine congrArg ((dats m hH 0 c).arrAt 2 cfg0.N) (funext fun a => Fin.ext ?_)
  match a with
  | ⟨0, _⟩ => show 32 * b.val + s.val = win0_2.index t 0 * 32 + 1 * s.val; rw [h0]; show 32 * b.val + s.val = b.val * 32 + 1 * s.val; omega
  | ⟨1, _⟩ => show e.val = win0_2.index t 1 * 256 + 1 * e.val; rw [h1]; omega

end Cert.StatesValue
end
-- ==== Proof.StatesHyps.lean ====
/-
  The states call looks up, for each word, a pair of rows of the folded embedding. Where every word names a row of the
  embedding, every one of these look-ups is aligned and inside the folded embedding.
-/
module

public import proofs.«01_k».proof.Proof.StatesResult
public import proofs.«01_k».proof.Proof.Gen.States.Frame

@[expose] public section

set_option maxRecDepth 65536

noncomputable section

namespace Cert.StatesValue

open Idealize.ShloMosaic Idealize.ShloMosaic.TcCoe

/-- The pair of rows of a word in range is aligned and inside the folded embedding. -/
theorem in_bounds {v : BitVec 32} (h : v.toNat < 32000) : 2 ∣ (Scalar.muli v 2#32).toNat
    ∧ ∀ a, pairAt v a + Cert.StatesIdeal.S2x128.size a ≤ Cert.StatesIdeal.S64000x128.size a := by
  refine ⟨⟨v.toNat, ?_⟩, pairAt_inb h⟩
  simp only [Scalar.muli, IntOp.muli, BitVec.toNat_mul, BitVec.toNat_ofNat]
  omega

section Ideal
open Cert.StatesIdeal Cert.StatesIdeal.Gen

theorem hyps_ideal {m : (ℓ : Loc nD τ sig) → Buf (Elt Ideal) ℓ} (hx : ∀ c, InRange m c) : Hyps m := by
  intro c t
  have low : ∀ y, BitVec.toNat (iblk m c 0 t y) < 32000 := words_lt (hx c) t
  repeat' apply And.intro
  all_goals
    intro kq hkq
    refine in_bounds ?_
    rw [Memref.IsWhole.readAt_unread]
    exact low _

end Ideal

section Device
open Cert.States Cert.States.Gen

/-- The same of the program on the device. -/
theorem hyps_device {m : (ℓ : Loc nD τ sig) → Buf (Elt Bits) ℓ}
    (hx : ∀ c i, BitVec.toNat ((m (c, main_arg0) : Vec Bits S32x2048 .i32) i) < 32000) : Hyps m := by
  intro c t
  have words (b : Fin 32) (z : Fin 1) (s : Fin 2048) :
      (V m c main_v0 : Vec Bits S32x1x2048 .i32) (ix3 b z s) = m (c, main_arg0) (ix2 b s) := by
    obtain rfl : z = 0 := Subsingleton.elim _ _
    unfold V
    after_reads_at
  have low (y) : BitVec.toNat (iblk m c 0 t y) < 32000 := by
    unfold iblk
    rw [View.read_apply]
    have h (j : S32x1x2048.Idx) : BitVec.toNat ((V m c main_v0 : Vec Bits S32x1x2048 .i32) j) < 32000 := by
      obtain ⟨b, z, s, rfl⟩ : ∃ (b : Fin 32) (z : Fin 1) (s : Fin 2048), j = ix3 b z s :=
        ⟨j 0, j 1, j 2, by funext a; fin_cases a <;> rfl⟩
      rw [words]
      exact hx c _
    exact h _
  repeat' apply And.intro
  all_goals
    intro kq hkq
    refine in_bounds ?_
    rw [Memref.IsWhole.readAt_unread]
    exact low _

end Device

end Cert.StatesValue

end
-- ==== Proof.Forward.lean ====
/-
  The mathematics of the forward recursion, free of any program.

  `weights` is the recursion over the reals: a row of weights per chain, moved along the chain's transitions and multiplied by
  the step's emissions. The kernel keeps the weights of all chains in one row of 512 numbers, divided by a factor per chain
  whose logarithm it keeps beside them (`Held`); the reference keeps their logarithms. `Held` survives a time step and a
  division by the chains' totals, and gives the logarithms of the weights back.
-/
module

public import proofs.«01_k».proof.Proof.Online
public import Idealize.ShloMosaic.Lib.Pointwise

@[expose] public section

noncomputable section

namespace Cert.Forward

open Idealize.ShloMosaic Cert.Online

/-- The chain and the state of a place in the row of 512. -/
def blk (q : Fin 512) : Fin 16 := ⟨q.val / 32, by omega⟩
def pos (q : Fin 512) : Fin 32 := ⟨q.val % 32, by omega⟩
def flat (m : Fin 16) (s : Fin 32) : Fin 512 := ⟨32 * m.val + s.val, by omega⟩

@[simp] theorem blk_flat (m : Fin 16) (s : Fin 32) : blk (flat m s) = m := Fin.ext (by simp only [blk, flat]; omega)
@[simp] theorem pos_flat (m : Fin 16) (s : Fin 32) : pos (flat m s) = s := Fin.ext (by simp only [pos, flat]; omega)
@[simp] theorem flat_blk_pos (q : Fin 512) : flat (blk q) (pos q) = q := Fin.ext (by simp only [blk, pos, flat]; omega)

/-- Chains and states together are the places of the row. -/
def places : Fin 16 × Fin 32 ≃ Fin 512 where
  toFun p := flat p.1 p.2
  invFun q := (blk q, pos q)
  left_inv p := by simp
  right_inv q := by simp

theorem sum_places {β : Type} [AddCommMonoid β] (f : Fin 512 → β) : ∑ p, f p = ∑ m, ∑ s, f (flat m s) := by
  rw [← Fintype.sum_prod_type' fun m s => f (flat m s)]
  exact (Fintype.sum_equiv places _ _ fun _ => rfl).symm

/-- A sum against numbers that vanish off one chain is a sum over the chain. -/
theorem sum_block (f g : Fin 512 → EReal) (m : Fin 16) :
    ∑ p, f p * (if blk p = m then g p else 0) = ∑ s, f (flat m s) * g (flat m s) := by
  rw [sum_places, Finset.sum_eq_single m]
  · exact Finset.sum_congr rfl fun s _ => by rw [blk_flat, if_pos rfl]
  · intro n _ hn
    exact Finset.sum_eq_zero fun s _ => by rw [blk_flat, if_neg hn, mul_zero]
  · exact fun h => absurd (Finset.mem_univ m) h

theorem sum_pick (f : Fin 32 → EReal) (s₀ : Fin 32) : ∑ s, f s * (if s = s₀ then 1 else 0) = f s₀ := by
  rw [Finset.sum_eq_single s₀]
  · rw [if_pos rfl, mul_one]
  · intro s _ h
    rw [if_neg h, mul_zero]
  · exact fun h => absurd (Finset.mem_univ s₀) h

section Weights

variable (α : Fin 16 → Fin 32 → Fin 32 → ℝ) (x : ℕ → Fin 32 → ℝ) (w : Fin 16 → Fin 32 → ℝ)

/-- The weights after one time step. -/
def next (y : Fin 32 → ℝ) (w : Fin 16 → Fin 32 → ℝ) : Fin 16 → Fin 32 → ℝ := fun m s => (∑ r, w m r * α m r s) * y s

/-- The weights after `t` time steps. -/
def weights : ℕ → Fin 16 → Fin 32 → ℝ
  | 0 => w
  | t + 1 => next α (x t) (weights t)

variable {α x w}

theorem next_pos {y : Fin 32 → ℝ} (hα : ∀ m r s, 0 < α m r s) (hy : ∀ s, 0 < y s) (hw : ∀ m s, 0 < w m s) (m : Fin 16) (s : Fin 32) :
    0 < next α y w m s :=
  mul_pos (Finset.sum_pos (fun r _ => mul_pos (hw m r) (hα m r s)) ⟨0, Finset.mem_univ _⟩) (hy s)

theorem weights_pos (hα : ∀ m r s, 0 < α m r s) (hx : ∀ t s, 0 < x t s) (hw : ∀ m s, 0 < w m s) (t : ℕ) :
    ∀ m s, 0 < weights α x w t m s := by
  induction t with
  | zero => exact hw
  | succ t ih => exact next_pos hα (hx t) ih

end Weights

/-- A row's mean log-likelihood from its last weights, the weights' exponent divided by the number of steps, and the row's sum of shifts. -/
def answer (w : Fin 16 → Fin 32 → ℝ) (ε : EReal) : EReal :=
  ((Real.log (∑ m, ∑ s, Real.exp (Real.log (w m s) / 2048)) : ℝ) : EReal) + ε * ((1 / 2048 : ℝ) : EReal)

/-- A row of 512 holds the weights `w`, each chain's divided by a factor whose logarithm stands beside it. -/
def Held (w : Fin 16 → Fin 32 → ℝ) (a L : Fin 512 → EReal) : Prop := ∃ c : Fin 16 → ℝ, (∀ m, 0 < c m)
  ∧ (∀ q, a q = ((w (blk q) (pos q) / c (blk q) : ℝ) : EReal)) ∧ ∀ q, L q = ((Real.log (c (blk q)) : ℝ) : EReal)

theorem held_start (w : Fin 16 → Fin 32 → ℝ) (a L : Fin 512 → EReal) (ha : ∀ q, a q = (w (blk q) (pos q) : EReal)) (hL : ∀ q, L q = 0) :
    Held w a L :=
  ⟨fun _ => 1, fun _ => one_pos, fun q => by rw [ha, div_one], fun q => by rw [hL, Real.log_one]; rfl⟩

theorem held_step {α : Fin 16 → Fin 32 → Fin 32 → ℝ} {y : Fin 32 → ℝ} {w : Fin 16 → Fin 32 → ℝ} {a b L : Fin 512 → EReal}
    {A : Fin 512 → Fin 512 → EReal} {R : Fin 32 → Fin 512 → EReal} {v : Fin 32 → EReal} (h : Held w a L)
    (hA : ∀ p q, A p q = if blk p = blk q then (α (blk q) (pos p) (pos q) : EReal) else 0)
    (hR : ∀ s q, R s q = if s = pos q then 1 else 0) (hv : ∀ s, v s = (y s : EReal))
    (hb : ∀ q, b q = (∑ p, a p * A p q) * ∑ s, v s * R s q) : Held (next α y w) b L := by
  obtain ⟨c, hc, ha, hL⟩ := h
  refine ⟨c, hc, fun q => ?_, hL⟩
  have e1 : ∑ p, a p * A p q = (((∑ r, w (blk q) r * α (blk q) r (pos q)) / c (blk q) : ℝ) : EReal) := by
    simp only [hA]
    rw [sum_block a (fun p => (α (blk q) (pos p) (pos q) : EReal)) (blk q), Finset.sum_div, coe_sum]
    refine Finset.sum_congr rfl fun r _ => ?_
    rw [ha, blk_flat, pos_flat, ← EReal.coe_mul]
    congr 1
    ring
  have e2 : ∑ s, v s * R s q = (y (pos q) : EReal) := by
    simp only [hR]
    rw [sum_pick, hv]
  rw [hb, e1, e2, ← EReal.coe_mul]
  congr 1
  unfold next
  ring

theorem ideal_log {r : ℝ} (h : 0 < r) : Ideal.log (r : EReal) = ((Real.log r : ℝ) : EReal) := if_neg (not_le.mpr h)

theorem ideal_div {r s : ℝ} (h : s ≠ 0) : Ideal.div (r : EReal) (s : EReal) = ((r / s : ℝ) : EReal) := by
  unfold Ideal.div
  rw [if_neg (fun e => h (EReal.coe_eq_zero.mp e)), ← EReal.coe_inv, ← EReal.coe_mul, div_eq_mul_inv]

theorem held_scale {w : Fin 16 → Fin 32 → ℝ} {a b L N g : Fin 512 → EReal} {B : Fin 512 → Fin 512 → EReal} (hw : ∀ m s, 0 < w m s)
    (h : Held w a L) (hB : ∀ p q, B p q = if blk p = blk q then 1 else 0) (hg : ∀ q, g q = ∑ p, a p * B p q)
    (hb : ∀ q, b q = a q * Ideal.div 1 (g q)) (hN : ∀ q, N q = L q + Ideal.log (g q)) : Held w b N := by
  obtain ⟨c, hc, ha, hL⟩ := h
  have hs : ∀ m, 0 < (∑ s, w m s) / c m := fun m => div_pos (Finset.sum_pos (fun s _ => hw m s) ⟨0, Finset.mem_univ _⟩) (hc m)
  have e : ∀ q, g q = (((∑ s, w (blk q) s) / c (blk q) : ℝ) : EReal) := by
    intro q
    rw [hg]
    simp only [hB]
    rw [sum_block a (fun _ => 1) (blk q), Finset.sum_div, coe_sum]
    refine Finset.sum_congr rfl fun r _ => ?_
    rw [ha, blk_flat, pos_flat, mul_one]
  refine ⟨fun m => c m * ((∑ s, w m s) / c m), fun m => mul_pos (hc m) (hs m), fun q => ?_, fun q => ?_⟩
  · rw [hb, e, ha, ← EReal.coe_one, ideal_div (hs _).ne', ← EReal.coe_mul]
    congr 1
    rw [div_mul_div_comm, mul_one]
  · rw [hN, hL, e, ideal_log (hs _), ← EReal.coe_add, Real.log_mul (hc _).ne' (hs _).ne']

/-- The logarithms of the weights. -/
theorem held_log {w : Fin 16 → Fin 32 → ℝ} {a L : Fin 512 → EReal} (hw : ∀ m s, 0 < w m s) (h : Held w a L) (q : Fin 512) :
    Ideal.log (a q) + L q = ((Real.log (w (blk q) (pos q)) : ℝ) : EReal) := by
  obtain ⟨c, hc, ha, hL⟩ := h
  rw [ha, hL, ideal_log (div_pos (hw _ _) (hc _)), ← EReal.coe_add, Real.log_div (hw _ _).ne' (hc _).ne']
  congr 1
  ring

/-! ### Log-sum-exp of finite numbers -/

theorem fold_max_coe {ι : Type} (J : Finset ι) (hJ : J.Nonempty) (l : ι → ℝ) :
    ∃ c : ℝ, J.fold (β := EReal) max ⊥ (fun i => (l i : EReal)) = (c : EReal) := by
  classical
  induction hJ using Finset.Nonempty.cons_induction with
  | singleton a => exact ⟨l a, by simp⟩
  | cons a s ha hs ih =>
    obtain ⟨c, hc⟩ := ih
    refine ⟨max (l a) c, ?_⟩
    rw [Finset.fold_cons, hc]
    exact (EReal.coe_strictMono.monotone.map_max).symm

/-- Whatever finite number the exponentials are taken relative to, the log-sum-exp is the same. -/
theorem add_log_sum {ι : Type} [Fintype ι] [Nonempty ι] (l : ι → ℝ) (c : ℝ) :
    (c : EReal) + Ideal.log (∑ i, Ideal.exp ((l i : EReal) - (c : EReal))) = ((Real.log (∑ i, Real.exp (l i)) : ℝ) : EReal) :=
  add_log_mass (l := fun i => (l i : EReal)) (J := Finset.univ) (fun _ _ => EReal.coe_ne_top _)
    (Finset.sum_pos (fun _ _ => Real.exp_pos _) Finset.univ_nonempty) c

/-! ### Shares: a softmax's entries -/

/-- The largest score of a row, as a softmax takes it. -/
def crest {N : ℕ} (l : Fin N → EReal) : EReal := max ⊥ (Finset.univ.fold (β := EReal) max ⊥ l)

/-- The softmax of a row of scores. -/
def share {N : ℕ} (l : Fin N → EReal) (s : Fin N) : EReal :=
  Ideal.div (Ideal.exp (l s - crest l)) (∑ x, Ideal.exp (l x - crest l))

/-- The softmax of real scores. -/
def part {N : ℕ} (v : Fin N → ℝ) (s : Fin N) : ℝ := Real.exp (v s) / ∑ x, Real.exp (v x)

variable {N : ℕ} [Nonempty (Fin N)] {l : Fin N → EReal} {v : Fin N → ℝ}

theorem total_pos (v : Fin N → ℝ) : 0 < ∑ x, Real.exp (v x) := Finset.sum_pos (fun _ _ => Real.exp_pos _) Finset.univ_nonempty

theorem part_pos (v : Fin N → ℝ) (s : Fin N) : 0 < part v s := div_pos (Real.exp_pos _) (total_pos v)

theorem crest_coe (h : ∀ x, l x = (v x : EReal)) : ∃ c : ℝ, crest l = (c : EReal) := by
  obtain rfl : l = fun x => (v x : EReal) := funext h
  obtain ⟨c, hc⟩ := fold_max_coe Finset.univ Finset.univ_nonempty v
  exact ⟨c, by unfold crest; rw [hc, max_eq_right bot_le]⟩

theorem exp_shift (h : ∀ x, l x = (v x : EReal)) {c : ℝ} (hc : crest l = (c : EReal)) (x : Fin N) :
    Ideal.exp (l x - crest l) = ((Real.exp (v x) * Real.exp (-c) : ℝ) : EReal) := by
  rw [hc, exp_sub_coe (h x ▸ EReal.coe_ne_top _), h, weight_coe]

theorem sum_shift (h : ∀ x, l x = (v x : EReal)) {c : ℝ} (hc : crest l = (c : EReal)) :
    ∑ x, Ideal.exp (l x - crest l) = (((∑ x, Real.exp (v x)) * Real.exp (-c) : ℝ) : EReal) := by
  rw [Finset.sum_mul, coe_sum]
  exact Finset.sum_congr rfl fun x _ => exp_shift h hc x

theorem share_coe (h : ∀ x, l x = (v x : EReal)) (s : Fin N) : share l s = (part v s : EReal) := by
  obtain ⟨c, hc⟩ := crest_coe h
  unfold share part
  rw [exp_shift h hc, sum_shift h hc, ideal_div (mul_pos (total_pos v) (Real.exp_pos _)).ne', mul_div_mul_right _ _ (Real.exp_pos _).ne']

/-- A score less its row's log-sum-exp is the logarithm of its share. -/
theorem log_share (h : ∀ x, l x = (v x : EReal)) (s : Fin N) :
    l s - crest l - Ideal.log (∑ x, Ideal.exp (l x - crest l)) = ((Real.log (part v s) : ℝ) : EReal) := by
  obtain ⟨c, hc⟩ := crest_coe h
  rw [sum_shift h hc, hc, h, ideal_log (mul_pos (total_pos v) (Real.exp_pos _)), ← EReal.coe_sub, ← EReal.coe_sub]
  unfold part
  rw [Real.log_mul (total_pos v).ne' (Real.exp_pos _).ne', Real.log_exp, Real.log_div (Real.exp_pos _).ne' (total_pos v).ne', Real.log_exp]
  congr 1
  ring

/-! ### The scan of finite inputs -/

/-- The inputs of the scan: emission weights above zero, initial scores and transition scores, all finite, and the rows' sums of shifts. -/
structure Data (U : (⟨3, ![32, 2048, 32]⟩ : Shape).Idx → EReal) (E : (⟨3, ![32, 1, 1]⟩ : Shape).Idx → EReal)
    (D : (⟨3, ![1, 16, 32]⟩ : Shape).Idx → EReal) (T : (⟨4, ![1, 16, 32, 32]⟩ : Shape).Idx → EReal)
    (x : Fin 32 → ℕ → Fin 32 → ℝ) (ε : Fin 32 → EReal) (d : Fin 16 → Fin 32 → ℝ) (τ : Fin 16 → Fin 32 → Fin 32 → ℝ) : Prop where
  emissions : ∀ r (t : Fin 2048) s, U (ix3 r t s) = (x r t.val s : EReal)
  positive : ∀ r t s, 0 < x r t s
  shifts : ∀ r, E (ix3 r 0 0) = ε r
  initial : ∀ n s, D (ix3 0 n s) = (d n s : EReal)
  moves : ∀ n r s, T (ix4 0 n r s) = (τ n r s : EReal)

/-- A transition's score, with a bonus of 5 for staying. -/
def score (τ : Fin 16 → Fin 32 → Fin 32 → ℝ) (n : Fin 16) (r s : Fin 32) : ℝ := τ n r s + 5 * (if r = s then 1 else 0)

/-- The chance of a transition. -/
def chance (τ : Fin 16 → Fin 32 → Fin 32 → ℝ) (n : Fin 16) (r s : Fin 32) : ℝ := part (score τ n r) s

/-- A row's weights after `t` time steps. -/
def rowWeights (x : ℕ → Fin 32 → ℝ) (d : Fin 16 → Fin 32 → ℝ) (τ : Fin 16 → Fin 32 → Fin 32 → ℝ) (t : ℕ) : Fin 16 → Fin 32 → ℝ :=
  weights (chance τ) x (fun n => part (d n)) t

theorem rowWeights_pos {x : ℕ → Fin 32 → ℝ} (hx : ∀ t s, 0 < x t s) (d : Fin 16 → Fin 32 → ℝ) (τ : Fin 16 → Fin 32 → Fin 32 → ℝ)
    (t : ℕ) (n : Fin 16) (s : Fin 32) : 0 < rowWeights x d τ t n s :=
  weights_pos (fun _ _ _ => part_pos _ _) hx (fun _ _ => part_pos _ _) t n s

end Cert.Forward

end
-- ==== Proof.ScanPre.lean ====
/-
  The scan's precondition read: where the check of three of the arguments comes out true, the emission weights are positive
  real numbers and the initial and transition scores are real numbers.
-/
module

public import proofs.«01_k».proof.Proof.Forward
public import proofs.«01_k».proof.Pre_positive_and_finite
public import Idealize.ShloMosaic.Lib.ReduceAll

@[expose] public section

noncomputable section

namespace Cert.ScanPre

open Cert.Pre_positive_and_finite Cert.Pre_positive_and_finite.Facts Cert.Forward
open Idealize.ShloMosaic

theorem bits_top : Ideal.ofBits .f32 0x7F800000#32 = (⊤ : EReal) := by simp [Ideal.ofBits, Ideal.ieee]
theorem bits_zero : Ideal.ofBits .f32 0x00000000#32 = (0 : EReal) := by simp [Ideal.ofBits, Ideal.ieee]

/-- Two truth values whose conjunction is true are both true. -/
theorem both (a b : BitVec 1) : a &&& b = 1#1 ↔ a = 1#1 ∧ b = 1#1 := by revert a b; decide

theorem truth (p : Prop) [Decidable p] : BitVec.ofBool (decide p) = 1#1 ↔ p := by by_cases h : p <;> simp [h]

theorem less (a b : EReal) : Ideal.cmp .olt a b = 1#1 ↔ a < b := truth _
theorem greater (a b : EReal) : Ideal.cmp .ogt a b = 1#1 ↔ b < a := truth _

/-- An entry whose absolute value is below infinity is a real number. -/
theorem real_of_abs {a : EReal} (h : Ideal.cmp .olt (max a (-a)) (Ideal.ofBits .f32 0x7F800000#32) = 1#1) : ((a.toReal : ℝ) : EReal) = a := by
  rw [bits_top, less, max_lt_iff] at h
  refine EReal.coe_toReal h.1.ne fun hb => ?_
  rw [hb, EReal.neg_bot] at h
  exact absurd h.2 (lt_irrefl _)

instance : Subsingleton S_.Idx := ⟨fun _ _ => funext fun a => a.elim0⟩

variable [Cert.Pre_positive_and_finite.Facts] {U : FVec Ideal S32x2048x32 .f32} {E : FVec Ideal S32x1x1 .f32}
  {D : FVec Ideal S1x16x32 .f32} {T : FVec Ideal S1x16x32x32 .f32}

/-- The three parts of the check. -/
theorem parts (h : fn U E D T = fun _ => 1#1) :
    (∀ i, 0 < (U i : EReal) ∧ (((U i : EReal).toReal : ℝ) : EReal) = U i) ∧ (∀ i, (((D i : EReal).toReal : ℝ) : EReal) = D i) ∧ ∀ i, (((T i : EReal).toReal : ℝ) : EReal) = T i := by
  have hj := congrFun h (fun a => a.elim0)
  obtain ⟨h3, hT⟩ := (both _ _).1 hj
  obtain ⟨hU, hD⟩ := (both _ _).1 h3
  refine ⟨fun i => ?_,
    fun i => real_of_abs (Host.reduce_andi_all _ _ _ _ _ hD i), fun i => real_of_abs (Host.reduce_andi_all _ _ _ _ _ hT i)⟩
  obtain ⟨h0, h1⟩ := (both _ _).1 (Host.reduce_andi_all _ _ _ _ _ hU i)
  have h0' : Ideal.cmp .ogt (U i : EReal) (Ideal.ofBits .f32 0x00000000#32) = 1#1 := h0
  have h1' : Ideal.cmp .olt (U i : EReal) (Ideal.ofBits .f32 0x7F800000#32) = 1#1 := h1
  rw [bits_zero, greater] at h0'
  rw [bits_top, less] at h1'
  exact ⟨h0', EReal.coe_toReal h1'.ne (lt_trans EReal.bot_lt_zero h0').ne'⟩

/-- The real numbers the arguments hold. -/
theorem data (h : fn U E D T = fun _ => 1#1) : ∃ x ε d τ, Data U E D T x ε d τ := by
  obtain ⟨hU, hD, hT⟩ := parts h
  refine ⟨fun r t s => if q : t < 2048 then (U (ix3 r ⟨t, q⟩ s) : EReal).toReal else 1, fun r => E (ix3 r 0 0),
    fun n s => (D (ix3 0 n s) : EReal).toReal, fun n r s => (T (ix4 0 n r s) : EReal).toReal,
    fun r t s => ?_, fun r t s => ?_, fun _ => rfl, fun n s => (hD _).symm, fun n r s => (hT _).symm⟩
  · rw [dif_pos t.isLt]
    exact (hU _).2.symm
  · split
    · exact EReal.coe_pos.1 ((hU _).2 ▸ (hU _).1)
    · exact one_pos

end Cert.ScanPre

end
-- ==== Proof.StatesPre.lean ====
/-
  The states call's preconditions read: where the checks come out true, every word names a row of the embedding, and the
  embedding holds real numbers.
-/
module

public import proofs.«01_k».proof.Proof.ScanPre
public import proofs.«01_k».proof.Pre_tokens_in_range
public import proofs.«01_k».proof.Pre_in_range_and_finite

@[expose] public section

noncomputable section

namespace Cert.StatesPre

open Idealize.ShloMosaic Cert.ScanPre

/-- A word that is at least zero and below the number of rows, as a signed number, is below it as an unsigned one. -/
theorem word_lt {v : BitVec 32} (h0 : IntOp.cmpi .sge v 0#32 = 1#1) (h1 : IntOp.cmpi .slt v 32000#32 = 1#1) : v.toNat < 32000 := by
  have h0' : BitVec.ofBool ((0#32).sle v) = 1#1 := h0
  have h1' : BitVec.ofBool (v.slt 32000#32) = 1#1 := h1
  rw [BitVec.sle_eq_decide, truth] at h0'
  rw [BitVec.slt_eq_decide, truth] at h1'
  have e0 : (0#32).toInt = 0 := by decide
  have e1 : (32000#32).toInt = 32000 := by decide
  rw [e0] at h0'
  rw [e1] at h1'
  have hv := BitVec.toInt_eq_toNat_cond v
  split at hv <;> omega

theorem tokens {F : FTy → Type} [FloatOps F] [Cert.Pre_tokens_in_range.Facts] {x : IVec Cert.Pre_tokens_in_range.S32x2048 32}
    {W : FVec F Cert.Pre_tokens_in_range.S32000x256 .f32} (h : Cert.Pre_tokens_in_range.fn x W = fun _ => 1#1) (i) :
    BitVec.toNat (x i) < 32000 := by
  have hj := congrFun h (fun a => a.elim0)
  obtain ⟨h0, h1⟩ := (both _ _).1 (Host.reduce_andi_all _ _ _ _ _ hj i)
  exact word_lt h0 h1

theorem range_and_real [Cert.Pre_in_range_and_finite.Facts] {x : IVec Cert.Pre_in_range_and_finite.S32x2048 32}
    {W : FVec Ideal Cert.Pre_in_range_and_finite.S32000x256 .f32} (h : Cert.Pre_in_range_and_finite.fn x W = fun _ => 1#1) :
    (∀ i, BitVec.toNat (x i) < 32000) ∧ ∀ i, (((W i : EReal).toReal : ℝ) : EReal) = W i := by
  have hj := congrFun h (fun a => a.elim0)
  obtain ⟨hx, hW⟩ := (both _ _).1 hj
  refine ⟨fun i => ?_, fun i => real_of_abs (Host.reduce_andi_all _ _ _ _ _ hW i)⟩
  obtain ⟨h0, h1⟩ := (both _ _).1 (Host.reduce_andi_all _ _ _ _ _ hx i)
  exact word_lt h0 h1

end Cert.StatesPre

end
-- ==== Proof.StatesRef.lean ====
/-
  The reference of the states call, entry by entry: the embeddings of the words, a softmax over time of their first 32
  columns, and its product with the embeddings. With finite embeddings the kernel's weighted sum is the same number.
-/
module

public import proofs.«01_k».proof.Proof.Gen.StatesRefIdeal.Run
public import proofs.«01_k».proof.Proof.StatesResult
public import proofs.«01_k».proof.Proof.Forward

@[expose] public section

set_option maxRecDepth 16384

noncomputable section

namespace Cert.StatesRef

open Cert.StatesRefIdeal Cert.StatesRefIdeal.Gen Idealize.ShloMosaic Idealize.ShloMosaic.TcCoe
open Cert.StatesValue

/-- The words as row numbers: a negative word counts from the end. -/
def rows (x : IVec S32x2048 32) : IVec S32x2048x1 32 := broadcastInDim S32x2048x1 ![0, 1] bcast_S32x2048_S32x2048x1_0_1
  (select (cmpi .slt x (broadcastInDim S32x2048 ![] bcast_S_S32x2048 (constantI S_ 32 0#32)))
    (addi x (broadcastInDim S32x2048 ![] bcast_S_S32x2048 (constantI S_ 32 32000#32))) x)

/-- The embeddings of the words. -/
def embed (x : IVec S32x2048 32) (W : FVec Ideal S32000x256 .f32) : FVec Ideal S32x2048x256 .f32 :=
  Host.gather gather_S32000x256_S32x2048x1_S32x2048x256_2_0_n_n_0_2_1256 W (rows x)

/-- Their first 32 columns. -/
def scores (x : IVec S32x2048 32) (W : FVec Ideal S32000x256 .f32) : FVec Ideal S32x2048x32 .f32 :=
  extractStridedSlice S32x2048x32 ![0, 0, 0] (embed x W) slices_S32x2048x256_S32x2048x32_0_0_0

/-- The exponentials of the scores, each less its column's greatest. -/
def powers (A : FVec Ideal S32x2048x32 .f32) : FVec Ideal S32x2048x32 .f32 :=
  Host.exp (subf A (broadcastInDim S32x2048x32 ![0, 1, 2] bcast_S32x1x32_S32x2048x32_0_1_2 (broadcastInDim S32x1x32 ![0, 2]
    bcast_S32x32_S32x1x32_0_2 (maximumf (broadcastInDim S32x32 ![] bcast_S_S32x32 (constant S_ .f32 0xFF800000#32))
      (Host.reduce FloatOps.maximumf A (constant S_ .f32 0xFF800000#32) reducesTo_S32x2048x32_S32x32_d1 h_S_)))))

/-- The exponentials over their sum. -/
def weights (E : FVec Ideal S32x2048x32 .f32) : FVec Ideal S32x2048x32 .f32 :=
  Host.divf E (broadcastInDim S32x2048x32 ![0, 1, 2] bcast_S32x1x32_S32x2048x32_0_1_2 (broadcastInDim S32x1x32 ![0, 2]
    bcast_S32x32_S32x1x32_0_2 (Host.reduceAdd E (constant S_ .f32 0x00000000#32) reducesTo_S32x2048x32_S32x32_d1 h_S_)))

/-- The reference's result. -/
def value (x : IVec S32x2048 32) (W : FVec Ideal S32000x256 .f32) : FVec Ideal S1024x256 .f32 :=
  shapeCast S1024x256 (Host.dotGeneral dot_S32x2048x32_S32x2048x256_S32x32x256_1_1_2_2_0_0 none (weights (powers (scores x W)))
    (embed x W)) shapeCasts_S32x32x256_S1024x256

theorem rows_apply (x : IVec S32x2048 32) (b : Fin 32) (k : Fin 2048) (z : Fin 1) (h : BitVec.toNat (x (ix2 b k)) < 32000) :
    rows x (ix3 b k z) = x (ix2 b k) := by
  have hn : ¬ IntOp.cmpi .slt (x (ix2 b k)) 0#32 = 1#1 := by
    show ¬ BitVec.ofBool ((x (ix2 b k)).slt 0#32) = 1#1
    rw [BitVec.slt_eq_decide]
    have hv := BitVec.toInt_eq_toNat_cond (x (ix2 b k))
    have h0 : (0#32).toInt = 0 := by decide
    rw [if_pos (by omega)] at hv
    rw [hv, h0, decide_eq_false (by omega)]
    decide
  unfold rows
  simp [pointwise]
  exact if_neg hn

/-- One entry of the gathered embeddings: the row the start index names, the column kept. -/
theorem gather_apply (W : FVec Ideal S32000x256 .f32) (r : IVec S32x2048x1 32) (b : Fin 32) (k : Fin 2048) (e : Fin 256)
    (h : BitVec.toNat (r (ix3 b k 0)) < 32000) :
    Host.gather gather_S32000x256_S32x2048x1_S32x2048x256_2_0_n_n_0_2_1256 W r (ix3 b k e)
      = W (ix2 ⟨BitVec.toNat (r (ix3 b k 0)), h⟩ e) := by
  have hv := BitVec.toInt_eq_toNat_cond (r (ix3 b k 0))
  rw [if_pos (by omega)] at hv
  unfold Host.gather
  refine congrArg W (funext fun a => Fin.ext ?_)
  let d := gather_S32000x256_S32x2048x1_S32x2048x256_2_0_n_n_0_2_1256
  show d.start (ix3 b k e) r a + d.batchCoord (ix3 b k e) a + d.offCoord (ix3 b k e) a = _
  rw [GatherDims.batchCoord_eq_zero _ _ _ List.not_mem_nil]
  match a with
  | ⟨0, _⟩ =>
    have hm : (0 : Fin 2) ∈ d.startIndexMap := List.mem_singleton.mpr rfl
    have hs : d.siIdx (ix3 b k e) ⟨d.startIndexMap.idxOf 0, List.idxOf_lt_length_iff.2 hm⟩ = ix3 b k 0 := by
      funext q
      match q with
      | ⟨0, _⟩ => rfl
      | ⟨1, _⟩ => rfl
      | ⟨2, _⟩ => rfl
    have ho : d.offCoord (ix3 b k e) 0 = 0 :=
      d.offCoord_eq_zero _ _ fun q => ((d.mem_sKept _).mp q).1 (List.mem_singleton.mpr rfl)
    have hst : d.start (ix3 b k e) r 0 = min (r (ix3 b k 0)).toInt.toNat (32000 - 1) := by
      unfold GatherDims.start
      rw [dif_pos hm, hs]
      rfl
    show d.start (ix3 b k e) r 0 + 0 + d.offCoord (ix3 b k e) 0 = BitVec.toNat (r (ix3 b k 0))
    rw [ho, hst, hv]
    omega
  | ⟨1, _⟩ =>
    have hst : d.start (ix3 b k e) r 1 = 0 := by
      unfold GatherDims.start
      exact dif_neg (by decide)
    show d.start (ix3 b k e) r 1 + 0 + d.offCoord (ix3 b k e) 1 = e.val
    rw [hst]
    exact Nat.zero_add _

section
variable (x : IVec S32x2048 32) (W : FVec Ideal S32000x256 .f32) (h : ∀ b k, BitVec.toNat (x (ix2 b k)) < 32000)

theorem embed_apply (b : Fin 32) (k : Fin 2048) (e : Fin 256) :
    embed x W (ix3 b k e) = W (ix2 ⟨BitVec.toNat (x (ix2 b k)), h b k⟩ e) := by
  have hr := rows_apply x b k 0 (h b k)
  unfold embed
  rw [gather_apply W (rows x) b k e (by rw [hr]; exact h b k)]
  exact congrArg W (congrArg (fun q => ix2 q e) (Fin.ext (congrArg BitVec.toNat hr)))

theorem scores_apply (b : Fin 32) (k : Fin 2048) (s : Fin 32) :
    scores x W (ix3 b k s) = embed x W (ix3 b k ⟨s.val, by omega⟩) := by
  unfold scores
  simp [pointwise]

end

theorem powers_apply (A : FVec Ideal S32x2048x32 .f32) (b : Fin 32) (k : Fin 2048) (s : Fin 32) :
    powers A (ix3 b k s) = numer (fun j => A (ix3 b j s)) k := by
  unfold powers numer top
  simp [pointwise, Cert.ScanValue.bits_bot]

theorem weights_apply (E : FVec Ideal S32x2048x32 .f32) (b : Fin 32) (k : Fin 2048) (s : Fin 32) :
    weights E (ix3 b k s) = Ideal.div (E (ix3 b k s)) (∑ j, E (ix3 b j s)) := by
  unfold weights
  simp [pointwise, Ideal.reduceAdd_def]

theorem dot_apply (P : FVec Ideal S32x2048x32 .f32) (X : FVec Ideal S32x2048x256 .f32) (b s : Fin 32) (e : Fin 256) :
    Host.dotGeneral dot_S32x2048x32_S32x2048x256_S32x32x256_1_1_2_2_0_0 none P X (ix3 b s e)
      = ∑ k : Fin 2048, (P (ix3 b k s) * X (ix3 b k e) : EReal) := by
  simp [pointwise, Ideal.dotGeneral_def]

/-- A product with the reciprocal of a number that is not zero is the quotient. -/
theorem mul_reciprocal (p : EReal) {D : EReal} (hD : D ≠ 0) : p * Ideal.div 1 D = Ideal.div p D := by
  unfold Ideal.div
  rw [if_neg hD, if_neg hD, one_mul]

/-- The softmax's denominator is above zero where the scores are real numbers. -/
theorem denominator_ne_zero {a : Fin 2048 → EReal} (ha : ∀ k, ((a k).toReal : EReal) = a k) : ∑ k, numer a k ≠ 0 := by
  obtain ⟨c, hc⟩ := Cert.Forward.fold_max_coe Finset.univ Finset.univ_nonempty fun k => (a k).toReal
  have hn (k) : numer a k = ((Real.exp ((a k).toReal - c) : ℝ) : EReal) := by
    have ht : top a = (c : EReal) := by
      unfold top
      rw [← hc]
      exact congrArg (Finset.univ.fold max ⊥) (funext fun j => (ha j).symm)
    unfold numer
    rw [ht]
    conv_lhs => rw [← ha k]
    rw [← EReal.coe_sub, Cert.Online.exp_coe]
  have hp : 0 < ∑ k, Real.exp ((a k).toReal - c) := Finset.sum_pos (fun k _ => Real.exp_pos _) Finset.univ_nonempty
  rw [Finset.sum_congr rfl fun k _ => hn k, ← Cert.Online.coe_sum]
  exact_mod_cast hp.ne'

/-- The reference's number is the kernel's. -/
theorem value_apply (x : IVec S32x2048 32) (W : FVec Ideal S32000x256 .f32) (h : ∀ b k, BitVec.toNat (x (ix2 b k)) < 32000)
    (hW : ∀ i, ((W i : EReal).toReal : EReal) = W i) (b s : Fin 32) (e : Fin 256) :
    value x W (ix2 ⟨32 * b.val + s.val, by omega⟩ e)
      = pooled (fun k => W (ix2 ⟨BitVec.toNat (x (ix2 b k)), h b k⟩ ⟨s.val, by omega⟩))
        fun k => W (ix2 ⟨BitVec.toNat (x (ix2 b k)), h b k⟩ e) := by
  have hc : value x W (ix2 ⟨32 * b.val + s.val, by omega⟩ e)
      = Host.dotGeneral dot_S32x2048x32_S32x2048x256_S32x32x256_1_1_2_2_0_0 none (weights (powers (scores x W))) (embed x W) (ix3 b s e) := by
    unfold value
    simp [pointwise]
  have hs : (fun j => scores x W (ix3 b j s)) = fun k => W (ix2 ⟨BitVec.toNat (x (ix2 b k)), h b k⟩ ⟨s.val, by omega⟩) :=
    funext fun j => (scores_apply x W b j s).trans (embed_apply x W h b j _)
  rw [hc, dot_apply]
  unfold pooled
  refine Finset.sum_congr rfl fun k _ => ?_
  rw [weights_apply, embed_apply x W h, mul_reciprocal _ (denominator_ne_zero fun k => hW _)]
  simp only [powers_apply, hs]

end Cert.StatesRef

end
-- ==== Proof.ScanHost.lean ====
/-
  The arrays that the scan's call prepares on the host, entry by entry: the transposed emission weights, the block-diagonal
  matrix of transition shares, the block-diagonal matrix of ones, the matrix that repeats a row of 32 sixteen times, and the
  row of initial shares.
-/
module

public import proofs.«01_k».proof.Proof.ScanPoint
public import proofs.«01_k».proof.Proof.Forward
public import Idealize.ShloMosaic.Lib.StableHlo.ReadAt
public import Idealize.ShloMosaic.Lib.IdealHost
public import Idealize.ShloMosaic.Lib.KernelVsHost
public import Idealize.ShloMosaic.Lib.Pipeline.Value

@[expose] public section

set_option maxRecDepth 16384

noncomputable section

namespace Cert.ScanValue

open Cert.ScanIdeal Cert.ScanIdeal.Gen Idealize.ShloMosaic Idealize.ShloMosaic.TcCoe
open Cert.Forward

theorem bits_five : Ideal.ofBits .f32 0x40A00000#32 = ((5 : ℝ) : EReal) := by
  simp [Ideal.ofBits, Ideal.ieee, -EReal.coe_mul]
  norm_num

/-- A comparison of two small counters, as a number. -/
theorem eye_word {a b : ℕ} (ha : a < 512) (hb : b < 512) :
    FloatOps.uitofp (F := Ideal) .f32 (IntOp.cmpi .eq (IntOp.addi (BitVec.ofNat 32 a) 0#32) (BitVec.ofNat 32 b))
      = if a = b then (1 : EReal) else 0 := by
  by_cases h : a = b
  · subst h
    rw [if_pos rfl]
    simp [IntOp.cmpi, IntOp.addi, FloatOps.uitofp]
  · have hne : BitVec.ofNat 32 a ≠ BitVec.ofNat 32 b := fun e => h (by
      have := congrArg BitVec.toNat e
      rw [BitVec.toNat_ofNat, BitVec.toNat_ofNat] at this
      omega)
    rw [if_neg h]
    simp [IntOp.cmpi, IntOp.addi, FloatOps.uitofp, hne]

/-- The scores of the transitions out of a state: a bonus of 5 for staying. -/
def scores (T : Vec Ideal S1x16x32x32 .f32) (n : Fin 16) (r s : Fin 32) : EReal :=
  T (ix4 0 n r s) + ((5 : ℝ) : EReal) * (if r = s then 1 else 0)

/-- A matrix of 32 columns set into 512 at chain `k`'s place, among zeros. -/
def setIn (k : Fin 16) (x : Vec Ideal S32x32 .f32) : Vec Ideal S32x512 .f32 := fun i =>
  if blk (i 1) = k then x (ix2 (i 0) (pos (i 1))) else 0

theorem pad_eq_setIn (k : Fin 16) (a b : ℕ) (ha : a = 32 * k.val) (x : Vec Ideal S32x32 .f32)
    (h : S32x32.Pads (![0, a] : Fin 2 → ℕ) ![0, b] ![0, 0] S32x512) (hu : 0 < S_.numel) :
    pad S32x512 ![0, a] ![0, b] ![0, 0] x (constant (F := Ideal) S_ .f32 0#32) h hu = setIn k x := by
  funext i
  unfold setIn
  by_cases hk : blk (i 1) = k
  · rw [if_pos hk]
    refine pad_apply_of_inside _ _ _ _ _ _ _ _ _ fun e => ?_
    have h1 : (i 1).val / 32 = k.val := congrArg Fin.val hk
    have h1 : (i 1).val / 32 = k.val := congrArg Fin.val hk
    match e with
    | ⟨0, _⟩ => show (i 0).val = 0 + (i 0).val * 1; omega
    | ⟨1, _⟩ => show (i 1).val = a + (i 1).val % 32 * 1; omega
  · rw [if_neg hk]
    have h1 : (i 1).val / 32 ≠ k.val := fun e => hk (Fin.ext e)
    refine (pad_apply_of_not_inside _ _ _ _ _ _ _ _ 1 ?_).trans bits_zero
    show ¬(a ≤ (i 1).val ∧ ((i 1).val - a) % 1 = 0 ∧ ((i 1).val - a) / 1 < 32)
    omega

section Diagonal

variable (U : (b : DevRef τ sig) → b.ty.Contents (Elt Ideal))

/-- The blocks, in the order of the chains. -/
def blocks : Fin 16 → Vec Ideal S32x32 .f32 :=
  ![U (Proc.devRef .tc main_v25), U (Proc.devRef .tc main_v27), U (Proc.devRef .tc main_v29), U (Proc.devRef .tc main_v31),
    U (Proc.devRef .tc main_v33), U (Proc.devRef .tc main_v35), U (Proc.devRef .tc main_v37), U (Proc.devRef .tc main_v39),
    U (Proc.devRef .tc main_v41), U (Proc.devRef .tc main_v43), U (Proc.devRef .tc main_v45), U (Proc.devRef .tc main_v47),
    U (Proc.devRef .tc main_v49), U (Proc.devRef .tc main_v51), U (Proc.devRef .tc main_v53), U (Proc.devRef .tc main_v55)]

theorem diagonal_apply (p q : Fin 512) :
    (StableHlo.after hostOps0_1 U (Proc.devRef .tc main_v56) : Vec Ideal S512x512 .f32) (ix2 p q)
      = if blk p = blk q then blocks U (blk p) (ix2 (pos p) (pos q)) else 0 := by
  after_reads_simp
  simp -implicitDefEqProofs only [StableHlo.TRef.toBuf, StableHlo.TRef.ofBuf, cast_cast, cast_eq]
  dsimp only [Matrix.cons_val]
  after_reads_simp
  simp -implicitDefEqProofs only [StableHlo.TRef.toBuf, StableHlo.TRef.ofBuf, cast_cast, cast_eq]
  clean_types
  simp only [pad_eq_setIn 0 0 480 rfl, pad_eq_setIn 1 32 448 rfl, pad_eq_setIn 2 64 416 rfl, pad_eq_setIn 3 96 384 rfl, pad_eq_setIn 4 128 352 rfl,
    pad_eq_setIn 5 160 320 rfl, pad_eq_setIn 6 192 288 rfl, pad_eq_setIn 7 224 256 rfl, pad_eq_setIn 8 256 224 rfl, pad_eq_setIn 9 288 192 rfl,
    pad_eq_setIn 10 320 160 rfl, pad_eq_setIn 11 352 128 rfl, pad_eq_setIn 12 384 96 rfl, pad_eq_setIn 13 416 64 rfl, pad_eq_setIn 14 448 32 rfl, pad_eq_setIn 15 480 0 rfl]
  have e : ∀ h, concatenate S512x512 0 (List.ofFn fun k : Fin 16 => (⟨S32x512, setIn k (blocks U k)⟩ : (s : Shape) × (s.Idx → EReal))) h (ix2 p q)
      = setIn (blk p) (blocks U (blk p)) (ix2 (pos p) q) := fun h => by
    refine concatenate_ofFn_apply _ _ h rfl 32 rfl _ (blk p) rfl (ix2 (pos p) q) rfl fun b hb => ?_
    match b with
    | ⟨0, _⟩ => exact absurd rfl hb
    | ⟨1, _⟩ => rfl
  refine (e _).trans ?_
  show (if blk q = blk p then _ else _) = _
  rw [if_congr eq_comm rfl rfl]
  rfl

end Diagonal

variable (m : (ℓ : Loc nD τ sig) → Buf (Elt Ideal) ℓ) (c : Dev nD)

theorem emissions_apply (t : Fin 2048) (r : Fin 32) (s : Fin 32) :
    V (F := Ideal) m c main_v0 (ix3 t r s) = m (c, main_arg0) (ix3 r t s) := by
  unfold V
  after_reads_at

theorem ones_apply (p q : Fin 512) : (V (F := Ideal) m c main_v64 : Vec Ideal S512x512 .f32) (ix2 p q) = if blk p = blk q then (1 : EReal) else 0 := by
  unfold V
  after_reads_at
  rw [eye_word (by omega) (by omega)]
  simp only [blk, Fin.mk.injEq]

theorem repeats_apply (s : Fin 32) (q : Fin 512) : (V (F := Ideal) m c main_v73 : Vec Ideal S32x512 .f32) (ix2 s q) = if s = pos q then (1 : EReal) else 0 := by
  unfold V
  after_reads_at
  rw [eye_word (by omega) (by omega)]
  simp only [pos, Fin.ext_iff]

theorem start_apply (q : Fin 512) : (V (F := Ideal) m c main_v86 : Vec Ideal S1x512 .f32) (ix2 0 q)
    = share (fun s => (m (c, main_arg2) : Vec Ideal S1x16x32 .f32) (ix3 0 (blk q) s)) (pos q) := by
  unfold V
  after_reads_at
  rw [bits_bot]
  rfl

theorem after_both (a b : List (HloOp τ sig (Elt Ideal))) (U : (b : DevRef τ sig) → b.ty.Contents (Elt Ideal)) :
    StableHlo.after (a ++ b) U = StableHlo.after b (StableHlo.after a U) := by
  induction a generalizing U with
  | nil => rfl
  | cons _ _ ih => exact ih _

/-- The later host operations leave the block-diagonal matrix as it was made. -/
theorem matrix_kept (U : (b : DevRef τ sig) → b.ty.Contents (Elt Ideal)) :
    StableHlo.after (hostOps0_2 ++ (hostOps0_3 ++ (hostOps0_4 ++ []))) U (Proc.devRef .tc main_v56) = U (Proc.devRef .tc main_v56) := by
  after_reads_simp

/-- The blocks are the shares' slices. -/
theorem block_cut (U : (b : DevRef τ sig) → b.ty.Contents (Elt Ideal)) (k : Fin 16) (r s : Fin 32) :
    blocks (StableHlo.after (hostOps0.drop 29) U) k (ix2 r s) = (U (Proc.devRef .tc main_v23) : Vec Ideal S16x32x32 .f32) (ix3 k r s) := by
  unfold blocks
  dsimp only [hostOps0, List.drop]
  fin_cases k <;> (
    dsimp only [Matrix.cons_val]
    after_reads_at
    try rfl)

theorem shares_apply (k : Fin 16) (r s : Fin 32) :
    (StableHlo.after (hostOps0.take 29) (fun b => m (c, b)) (Proc.devRef .tc main_v23) : Vec Ideal S16x32x32 .f32) (ix3 k r s)
      = share (scores (m (c, main_arg3)) k r) s := by
  have e : ∀ x y : Fin 32, FloatOps.uitofp (F := Ideal) .f32 (IntOp.cmpi .eq (IntOp.addi (BitVec.ofNat 32 x.val) 0#32) (BitVec.ofNat 32 y.val))
      = if x = y then (1 : EReal) else 0 := fun x y => by
    rw [eye_word (by omega) (by omega)]
    simp only [Fin.ext_iff]
  unfold share crest scores
  dsimp only [hostOps0, List.take]
  after_reads_at
  simp only [e, bits_bot, bits_five]

theorem matrix_apply (p q : Fin 512) : (V (F := Ideal) m c main_v56 : Vec Ideal S512x512 .f32) (ix2 p q)
    = if blk p = blk q then share (scores (m (c, main_arg3)) (blk p) (pos p)) (pos q) else 0 := by
  show (StableHlo.after (hostOps0 ++ (hostOps0_1 ++ (hostOps0_2 ++ (hostOps0_3 ++ (hostOps0_4 ++ []))))) (fun b => m (c, b))
    (Proc.devRef .tc main_v56) : Vec Ideal S512x512 .f32) (ix2 p q) = _
  have e := after_both (hostOps0.take 29) (hostOps0.drop 29) fun b => m (c, b)
  rw [List.take_append_drop] at e
  rw [after_both, after_both, matrix_kept, diagonal_apply, e, block_cut, shares_apply]

end Cert.ScanValue

end
-- ==== Proof.ScanResult.lean ====
/-
  The scan's result for finite inputs: each row's mean log-likelihood from the forward recursion's weights.
-/
module

public import proofs.«01_k».proof.Proof.ScanHost
public import proofs.«01_k».proof.Proof.Gen.ScanIdeal.Value

@[expose] public section

set_option maxRecDepth 16384

noncomputable section

namespace Cert.ScanValue

open Cert.ScanIdeal Cert.ScanIdeal.Gen Cert.ScanIdeal.Value Idealize.ShloMosaic Idealize.ShloMosaic.TcCoe
open Cert.Online Cert.Forward

section Row

variable {u : Vec Ideal S2048x16x32 .f32} {A B : Vec Ideal S512x512 .f32} {R : Vec Ideal S32x512 .f32} {z : Vec Ideal S1x512 .f32}
  {e : Vec Ideal S16x1x1 .f32} {α : Fin 16 → Fin 32 → Fin 32 → ℝ} {y : ℕ → Fin 32 → ℝ} {w : Fin 16 → Fin 32 → ℝ} {r : Fin 16}
  (hA : ∀ p q, A (ix2 p q) = if blk p = blk q then (α (blk q) (pos p) (pos q) : EReal) else 0)
  (hB : ∀ p q, B (ix2 p q) = if blk p = blk q then (1 : EReal) else 0)
  (hR : ∀ s q, R (ix2 s q) = if s = pos q then (1 : EReal) else 0)
  (hu : ∀ (t : Fin 2048) s, u (ix3 t r s) = (y t.val s : EReal))
  (hz : ∀ q, z (ix2 0 q) = (w (blk q) (pos q) : EReal))
  (hα : ∀ m r s, 0 < α m r s) (hy : ∀ t s, 0 < y t s) (hw : ∀ m s, 0 < w m s)

include hA hR hu in
theorem held_advance (k : Fin k0_t1_loop.trips) (j : Fin 8) {v : Fin 16 → Fin 32 → ℝ} {a : FVec Ideal S16x512 .f32} {L : Fin 512 → EReal}
    (h : Held v (fun q => a (ix2 r q)) L) :
    Held (next α (y (8 * k.val + j.val)) v) (fun q => advance A R a (slab u k j) (ix2 r q)) L := by
  have hk : k.val < 256 := k.isLt
  refine held_step h hA hR (v := fun s => slab u k j (ix3 0 r s)) (fun s => ?_) fun q => advance_apply A R a (slab u k j) r q
  rw [slab_apply u k j ⟨8 * k.val + j.val, by omega⟩ rfl, hu]

include hA hB hR hu hz hα hy hw in
/-- Before every trip the two carried arrays hold the weights of the time steps done. -/
theorem carried_held (n : ℕ) (hn : n ≤ 256) :
    Held (weights α y w (8 * n)) (fun q => (carried u A B R z n).1 (ix2 r q)) (fun q => (carried u A B R z n).2 (ix2 r q)) := by
  induction n with
  | zero => exact held_start w _ _ (fun q => (pay1_apply z r q).trans (hz q)) fun q => pay2_apply r q
  | succ n ih =>
    have h0 := ih (by omega)
    rw [carried_succ u A B R z n hn]
    have h8 := held_advance hA hR hu ⟨n, hn⟩ 7 (held_advance hA hR hu ⟨n, hn⟩ 6 (held_advance hA hR hu ⟨n, hn⟩ 5
      (held_advance hA hR hu ⟨n, hn⟩ 4 (held_advance hA hR hu ⟨n, hn⟩ 3 (held_advance hA hR hu ⟨n, hn⟩ 2
      (held_advance hA hR hu ⟨n, hn⟩ 1 (held_advance hA hR hu ⟨n, hn⟩ 0 h0)))))))
    refine held_scale (weights_pos hα hy hw (8 * (n + 1))) h8 hB (fun q => totals_apply B _ r q) (fun q => ?_) fun q => rfl
    unfold trip steps
    simp only [pointwise, bits_one, List.foldl]

include hA hB hR hu hz hα hy hw in
theorem row_result {ε : EReal} (he : e (ix3 r 0 0) = ε) :
    k0_pay7 (F := Ideal) (carried u A B R z 256).1 (carried u A B R z 256).2 e (ix2 r 0) = answer (weights α y w 2048) ε := by
  have h := carried_held hA hB hR hu hz hα hy hw 256 le_rfl
  have hp := weights_pos hα hy hw 2048
  obtain ⟨c, hc⟩ := fold_max_coe Finset.univ Finset.univ_nonempty fun q : Fin 512 => Real.log (weights α y w 2048 (blk q) (pos q))
  rw [result_apply _ _ e r _ _ (fun q => held_log hp h q) hc, he]
  have e1 : ∀ q : Fin 512, (((Real.log (weights α y w 2048 (blk q) (pos q)) : ℝ) : EReal) - (c : EReal)) * ((1 / 2048 : ℝ) : EReal)
      = ((Real.log (weights α y w 2048 (blk q) (pos q)) / 2048 : ℝ) : EReal) - ((c * (1 / 2048) : ℝ) : EReal) := fun q => by
    rw [← EReal.coe_sub, ← EReal.coe_mul, ← EReal.coe_sub]
    congr 1
    ring
  simp only [e1]
  rw [← EReal.coe_mul, add_log_sum, sum_places]
  unfold answer
  simp only [blk_flat, pos_flat]

end Row

variable (m : (ℓ : Loc nD τ sig) → Buf (Elt Ideal) ℓ) (c : Dev nD)

theorem window_index : ∀ t : Fin cfg0.N, win0_0.index t 0 = 0 ∧ win0_0.index t 1 = t.val ∧ win0_0.index t 2 = 0
    ∧ win0_5.index t 0 = t.val ∧ win0_5.index t 1 = 0 ∧ win0_5.index t 2 = 0 ∧ win0_6.index t 0 = t.val ∧ win0_6.index t 1 = 0 :=
  (by decide : ∀ t : Fin grid0.N, win0_0.index t 0 = 0 ∧ win0_0.index t 1 = t.val ∧ win0_0.index t 2 = 0
    ∧ win0_5.index t 0 = t.val ∧ win0_5.index t 1 = 0 ∧ win0_5.index t 2 = 0 ∧ win0_6.index t 0 = t.val ∧ win0_6.index t 1 = 0)

theorem whole_index : ∀ t : Fin cfg0.N, (∀ a, win0_1.index t a = 0) ∧ (∀ a, win0_2.index t a = 0) ∧ (∀ a, win0_3.index t a = 0)
    ∧ ∀ a, win0_4.index t a = 0 :=
  (by decide : ∀ t : Fin grid0.N, (∀ a, win0_1.index t a = 0) ∧ (∀ a, win0_2.index t a = 0) ∧ (∀ a, win0_3.index t a = 0)
    ∧ ∀ a, win0_4.index t a = 0)

theorem emissions_block (t : Fin cfg0.N) (k : Fin 2048) (r : Fin 16) (s : Fin 32) (h : 16 * t.val + r.val < 32) :
    (iblk m c 0 t : Vec Ideal S2048x16x32 .f32) (ix3 k r s) = m ((c : Thread nD τ).loc main_arg0) (ix3 ⟨16 * t.val + r.val, h⟩ k s) := by
  obtain ⟨h0, h1, h2, -⟩ := window_index t
  refine Eq.trans ?_ (emissions_apply m c k ⟨16 * t.val + r.val, h⟩ s)
  unfold iblk
  rw [View.read_apply]
  show V m c main_v0 _ = V m c main_v0 _
  congr 1
  funext a
  apply Fin.ext
  match a with
  | ⟨0, _⟩ => show win0_0.index t 0 * 2048 + 1 * k.val = k.val; omega
  | ⟨1, _⟩ => show win0_0.index t 1 * 16 + 1 * r.val = 16 * t.val + r.val; omega
  | ⟨2, _⟩ => show win0_0.index t 2 * 32 + 1 * s.val = s.val; omega

theorem esum_block (t : Fin cfg0.N) (r : Fin 16) (h : 16 * t.val + r.val < 32) :
    (iblk m c 5 t : Vec Ideal S16x1x1 .f32) (ix3 r 0 0) = m ((c : Thread nD τ).loc main_arg1) (ix3 ⟨16 * t.val + r.val, h⟩ 0 0) := by
  obtain ⟨-, -, -, h0, h1, h2, -⟩ := window_index t
  rw [← V_main_arg1 m c]
  unfold iblk
  rw [View.read_apply]
  show V m c main_arg1 _ = V m c main_arg1 _
  congr 1
  funext a
  apply Fin.ext
  match a with
  | ⟨0, _⟩ => show win0_5.index t 0 * 16 + 1 * r.val = 16 * t.val + r.val; omega
  | ⟨1, _⟩ => show win0_5.index t 1 * 1 + 1 * 0 = 0; omega
  | ⟨2, _⟩ => show win0_5.index t 2 * 1 + 1 * 0 = 0; omega

theorem place_eq {n k : ℕ} (i : (⟨2, ![n, k]⟩ : Shape).Idx) (p : Fin n) (q : Fin k) (h0 : (i 0).val = p.val) (h1 : (i 1).val = q.val) : i = ix2 p q := by
  funext a
  apply Fin.ext
  match a with
  | ⟨0, _⟩ => exact h0
  | ⟨1, _⟩ => exact h1

theorem matrix_block (t : Fin cfg0.N) (p q : Fin 512) : (iblk m c 1 t : Vec Ideal S512x512 .f32) (ix2 p q)
    = (V (F := Ideal) m c main_v56 : Vec Ideal S512x512 .f32) (ix2 p q) := by
  have h := (whole_index t).1
  unfold iblk
  rw [View.read_apply]
  refine congrArg (V (F := Ideal) m c main_v56) (place_eq _ p q ?_ ?_)
  · show win0_1.index t 0 * 512 + 1 * p.val = p.val
    rw [h]; omega
  · show win0_1.index t 1 * 512 + 1 * q.val = q.val
    rw [h]; omega

theorem ones_block (t : Fin cfg0.N) (p q : Fin 512) : (iblk m c 2 t : Vec Ideal S512x512 .f32) (ix2 p q)
    = (V (F := Ideal) m c main_v64 : Vec Ideal S512x512 .f32) (ix2 p q) := by
  have h := (whole_index t).2.1
  unfold iblk
  rw [View.read_apply]
  refine congrArg (V (F := Ideal) m c main_v64) (place_eq _ p q ?_ ?_)
  · show win0_2.index t 0 * 512 + 1 * p.val = p.val
    rw [h]; omega
  · show win0_2.index t 1 * 512 + 1 * q.val = q.val
    rw [h]; omega

theorem repeats_block (t : Fin cfg0.N) (s : Fin 32) (q : Fin 512) : (iblk m c 3 t : Vec Ideal S32x512 .f32) (ix2 s q)
    = (V (F := Ideal) m c main_v73 : Vec Ideal S32x512 .f32) (ix2 s q) := by
  have h := (whole_index t).2.2.1
  unfold iblk
  rw [View.read_apply]
  refine congrArg (V (F := Ideal) m c main_v73) (place_eq _ s q ?_ ?_)
  · show win0_3.index t 0 * 32 + 1 * s.val = s.val
    rw [h]; omega
  · show win0_3.index t 1 * 512 + 1 * q.val = q.val
    rw [h]; omega

theorem start_block (t : Fin cfg0.N) (q : Fin 512) : (iblk m c 4 t : Vec Ideal S1x512 .f32) (ix2 0 q)
    = (V (F := Ideal) m c main_v86 : Vec Ideal S1x512 .f32) (ix2 0 q) := by
  have h := (whole_index t).2.2.2
  unfold iblk
  rw [View.read_apply]
  refine congrArg (V (F := Ideal) m c main_v86) (place_eq _ 0 q ?_ ?_)
  · show win0_4.index t 0 * 1 + 1 * 0 = 0
    rw [h]
  · show win0_4.index t 1 * 512 + 1 * q.val = q.val
    rw [h]; omega

/-- What a point writes back: its rows' mean log-likelihoods. -/
theorem written {x : Fin 32 → ℕ → Fin 32 → ℝ} {ε : Fin 32 → EReal} {d : Fin 16 → Fin 32 → ℝ} {τ' : Fin 16 → Fin 32 → Fin 32 → ℝ}
    (h : Data (m (c, main_arg0)) (m (c, main_arg1)) (m (c, main_arg2)) (m (c, main_arg3)) x ε d τ')
    (t : Fin cfg0.N) (r : Fin 16) (hr : 16 * t.val + r.val < 32) :
    (outsAt0 m c t : Vec Ideal S16x1 .f32) (ix2 r 0)
      = answer (rowWeights (x ⟨16 * t.val + r.val, hr⟩) d τ' 2048) (ε ⟨16 * t.val + r.val, hr⟩) := by
  unfold outsAt0
  rw [out_A]
  refine row_result (α := chance τ') (y := x ⟨16 * t.val + r.val, hr⟩) (w := fun n => part (d n)) ?_ ?_ ?_ ?_ ?_
    (fun _ _ _ => part_pos _ _) (h.positive _) (fun _ _ => part_pos _ _) ?_
  · intro p q
    rw [matrix_block, matrix_apply]
    by_cases hpq : blk p = blk q
    · rw [if_pos hpq, if_pos hpq, hpq]
      refine share_coe (v := score τ' (blk q) (pos p)) (fun s => ?_) _
      unfold scores score
      rw [EReal.coe_add, EReal.coe_mul, ← h.moves]
      congr 2
      split <;> rfl
    · rw [if_neg hpq, if_neg hpq]
  · intro p q
    rw [ones_block, ones_apply]
  · intro s q
    rw [repeats_block, repeats_apply]
  · intro k s
    rw [emissions_block m c t k r s hr]
    exact h.emissions _ _ _
  · intro q
    rw [start_block, start_apply]
    exact share_coe (fun s => h.initial (blk q) s) (pos q)
  · rw [esum_block m c t r hr]
    exact h.shifts _

/-- The array the kernel ends with. -/
theorem result {x : Fin 32 → ℕ → Fin 32 → ℝ} {ε : Fin 32 → EReal} {d : Fin 16 → Fin 32 → ℝ} {τ' : Fin 16 → Fin 32 → Fin 32 → ℝ}
    (h : Data (m (c, main_arg0)) (m (c, main_arg1)) (m (c, main_arg2)) (m (c, main_arg3)) x ε d τ') (R : Fin 32) :
    ((dats m 0 c).arrAt 6 cfg0.N : Vec Ideal S32x1 .f32) (ix2 R 0) = answer (rowWeights (x R) d τ' 2048) (ε R) := by
  obtain ⟨t, r, hr, rfl⟩ : ∃ (t : Fin cfg0.N) (r : Fin 16) (hr : 16 * t.val + r.val < 32), (⟨16 * t.val + r.val, hr⟩ : Fin 32) = R :=
    ⟨⟨R.val / 16, show _ < 2 by omega⟩, ⟨R.val % 16, by omega⟩, by dsimp only; omega, Fin.ext (by dsimp only; omega)⟩
  have hf : (cfg0.win 6).flush t = true := (by decide : ∀ t : Fin grid0.N, (cfg0.win 6).flush t = true) t
  have e := congrFun (blocks6 m c t hf) (ix2 r 0)
  rw [View.read_apply, flushed6] at e
  refine Eq.trans ?_ (Eq.trans e (written m c h t r hr))
  obtain ⟨-, -, -, -, -, -, h0, h1⟩ := window_index t
  refine congrArg ((dats m 0 c).arrAt 6 cfg0.N) (place_eq _ _ _ ?_ ?_).symm
  · show win0_6.index t 0 * 16 + 1 * r.val = 16 * t.val + r.val
    rw [h0]; omega
  · show win0_6.index t 1 * 1 + 1 * 0 = 0
    rw [h1]

end Cert.ScanValue

end
-- ==== Proof.ScanRef.lean ====
/-
  The scan's reference, entry by entry, and its result for finite inputs: the recursion it keeps in logarithms is the forward
  recursion's weights, so its result is the same mean log-likelihood.
-/
module

public import proofs.«01_k».proof.Proof.ScanHost
public import proofs.«01_k».proof.Proof.Gen.ScanRefIdeal.StepRun

@[expose] public section

set_option maxRecDepth 16384

noncomputable section

namespace Cert.ScanRefValue

open Cert.ScanRefIdeal Cert.ScanRefIdeal.Step Idealize.ShloMosaic Idealize.ShloMosaic.TcCoe
open Cert.Online Cert.Forward
open Cert.ScanValue (bits_bot bits_five eye_word)

theorem bits_steps : Ideal.ofBits .f32 0x45000000#32 = ((2048 : ℝ) : EReal) := by
  simp [Ideal.ofBits, Ideal.ieee, -EReal.coe_mul]
  norm_num

/-- A division by the number of steps, for infinite entries as well. -/
theorem div_steps (e : EReal) : Ideal.div e ((2048 : ℝ) : EReal) = e * ((1 / 2048 : ℝ) : EReal) := by
  rw [Ideal.div, if_neg (by exact_mod_cast (by norm_num : (2048 : ℝ) ≠ 0)), ← EReal.coe_inv, one_div]

variable (a0 : Vec Ideal S32x2048x32 .f32) (a1 : Vec Ideal S32x1x1 .f32) (a2 : Vec Ideal S1x16x32 .f32) (a3 : Vec Ideal S1x16x32x32 .f32)

theorem logs_apply (t : Fin 2048) (r s : Fin 32) : A_main_v1 a0 a2 a3 (ix3 t r s) = Ideal.log (a0 (ix3 r t s)) := by
  unfold A_main_v1 A_main_v0
  simp [pointwise]

theorem start_apply (r : Fin 32) (n : Fin 16) (s : Fin 32) : A_main_v17 a0 a2 a3 (ix3 r n s)
    = a2 (ix3 0 n s) - crest (fun x => a2 (ix3 0 n x)) - Ideal.log (∑ x, Ideal.exp (a2 (ix3 0 n x) - crest fun x => a2 (ix3 0 n x))) := by
  unfold A_main_v17 A_main_v16 A_main_call1_v10 A_main_call1_v9 A_main_call1_v8 A_main_call1_v7 A_main_call1_v6 A_main_call1_v5
    A_main_call1_v4 A_main_call1_v3 A_main_call1_v2 A_main_call1_v0 A_main_v15 K_main_call1_cst K_main_call1_v1 K_main_call1_cst_0
    K_main_call1_cst_1
  pointwise
  rw [bits_bot]
  rfl

theorem moves_apply (n : Fin 16) (r s : Fin 32) : A_main_v14 a0 a2 a3 (ix3 n r s)
    = Cert.ScanValue.scores a3 n r s - crest (Cert.ScanValue.scores a3 n r)
      - Ideal.log (∑ x, Ideal.exp (Cert.ScanValue.scores a3 n r x - crest (Cert.ScanValue.scores a3 n r))) := by
  have e : ∀ x : Fin 32, FloatOps.uitofp (F := Ideal) .f32 (IntOp.cmpi .eq (IntOp.addi (BitVec.ofNat 32 r.val) 0#32) (BitVec.ofNat 32 x.val))
      = if r = x then (1 : EReal) else 0 := fun x => by
    rw [eye_word (by omega) (by omega)]
    simp only [Fin.ext_iff]
  unfold A_main_v14 A_main_call0_v10 A_main_call0_v9 A_main_call0_v8 A_main_call0_v7 A_main_call0_v6 A_main_call0_v5 A_main_call0_v4
    A_main_call0_v3 A_main_call0_v2 A_main_call0_v0 A_main_v13 A_main_v2 K_main_call0_cst K_main_call0_v1 K_main_call0_cst_0
    K_main_call0_cst_1 K_main_v12 K_main_v11 K_main_v10 K_main_v9 K_main_cst K_main_v8 K_main_v7 K_main_v6 K_main_v5 K_main_v4 K_main_v3
    K_main_c
  pointwise
  simp only [e, bits_bot, bits_five]
  rfl

theorem reach_apply (j : ℕ) (σ : State Ideal) (r : Fin 32) (n : Fin 16) (s : Fin 32) (f : Fin 32 → EReal) (M : EReal)
    (hf : ∀ p, σ.main_v18_0 (ix3 n p s) + σ.main_v18_4 (ix3 r n p) = f p) (hM : Finset.univ.fold (β := EReal) max ⊥ f = M) :
    b16 j σ (ix3 r n s) = M + Ideal.log (∑ p, Ideal.exp (f p - M)) := by
  obtain rfl : (fun p => σ.main_v18_0 (ix3 n p s) + σ.main_v18_4 (ix3 r n p)) = f := funext hf
  subst hM
  unfold b16 b15 b14 b13 b12 b11 b10 b9 b8 b7 b6 b5 b4 b3 b2
  pointwise
  rw [bits_bot]

/-- The time step's emissions are read at the step's own place. -/
theorem emit_apply (j : ℕ) (hj : j < 2048) (σ : State Ideal) (r : Fin 32) (n : Fin 16) (s : Fin 32) :
    b42 j σ (ix3 r n s) = σ.main_v18_1 (ix3 ⟨j, hj⟩ r s) := by
  have h0 : ∀ j : Fin 2048, ((if IntOp.cmpi .slt (BitVec.ofNat 32 j.val) 0#32 = 1#1 then IntOp.addi (BitVec.ofNat 32 j.val) 2048#32
      else BitVec.ofNat 32 j.val) : BitVec 32).toInt = (j.val : ℤ) := by decide +kernel
  have hk : S2048x32x32.Slices ![j, 0, 0] S1x32x32 := ⟨rfl, fun a => by
    match a with
    | ⟨0, _⟩ => show j + 1 ≤ 2048; omega
    | ⟨1, _⟩ => show 0 + 32 ≤ 32; omega
    | ⟨2, _⟩ => show 0 + 32 ≤ 32; omega⟩
  unfold b42 b41 b40 b39
  rw [WordCmp.dynamicSlice_eq_extract _ _ _ _ ![j, 0, 0] hk fun a => ?_]
  · pointwise
  · match a with
    | ⟨0, _⟩ => exact h0 ⟨j, hj⟩
    | ⟨1, _⟩ => rfl
    | ⟨2, _⟩ => rfl

theorem last_apply (σ : State Ideal) (r : Fin 32) (f : Fin 16 × Fin 32 → EReal) (M : EReal)
    (hf : ∀ p : Fin 16 × Fin 32, Ideal.div (σ.main_v18_4 (ix3 r p.1 p.2)) ((2048 : ℝ) : EReal) = f p)
    (hM : Finset.univ.fold (β := EReal) max ⊥ f = M) :
    R_main_v33 σ a1 (ix2 r 0) = M + Ideal.log (∑ p, Ideal.exp (f p - M)) + Ideal.div (a1 (ix3 r 0 0)) ((2048 : ℝ) : EReal) := by
  obtain rfl : (fun p : Fin 16 × Fin 32 => Ideal.div (σ.main_v18_4 (ix3 r p.1 p.2)) ((2048 : ℝ) : EReal)) = f := funext hf
  subst hM
  unfold R_main_v33
  rw [Fintype.sum_prod_type]
  pointwise
  rw [bits_bot, bits_steps]

section Finite

variable {a0 a1 a2 a3}
variable {x : Fin 32 → ℕ → Fin 32 → ℝ} {ε : Fin 32 → EReal} {d : Fin 16 → Fin 32 → ℝ} {τ' : Fin 16 → Fin 32 → Fin 32 → ℝ}
  (h : Data a0 a1 a2 a3 x ε d τ')

/-- What the loop's state holds before time step `t`. -/
structure Holds (x : Fin 32 → ℕ → Fin 32 → ℝ) (d : Fin 16 → Fin 32 → ℝ) (τ' : Fin 16 → Fin 32 → Fin 32 → ℝ) (t : ℕ) (σ : State Ideal) : Prop where
  logs : ∀ r n s, σ.main_v18_4 (ix3 r n s) = ((Real.log (rowWeights (x r) d τ' t n s) : ℝ) : EReal)
  moves : ∀ n r s, σ.main_v18_0 (ix3 n r s) = ((Real.log (chance τ' n r s) : ℝ) : EReal)
  emits : ∀ (k : Fin 2048) r s, σ.main_v18_1 (ix3 k r s) = ((Real.log (x r k.val s) : ℝ) : EReal)

include h in
theorem holds_init : Holds x d τ' 0 (init a0 a2 a3) where
  logs r n s := (start_apply a0 a2 a3 r n s).trans (log_share (fun s => h.initial n s) s)
  moves n r s := (moves_apply a0 a2 a3 n r s).trans (log_share (v := score τ' n r) (fun s => by
    unfold Cert.ScanValue.scores score
    rw [EReal.coe_add, EReal.coe_mul, ← h.moves]
    congr 2
    split <;> rfl) s)
  emits k r s := by
    refine (logs_apply a0 a2 a3 k r s).trans ?_
    rw [h.emissions, ideal_log (h.positive _ _ _)]

theorem holds_step (hx : ∀ r t s, 0 < x r t s) {t : ℕ} (ht : t < 2048) {σ : State Ideal} (hσ : Holds x d τ' t σ) :
    Holds x d τ' (t + 1) (step t σ) where
  moves := hσ.moves
  emits := hσ.emits
  logs r n s := by
    have hw := rowWeights_pos (hx r) d τ' t
    have hc : ∀ p, 0 < chance τ' n p s := fun p => part_pos _ _
    obtain ⟨c, hcm⟩ := fold_max_coe Finset.univ Finset.univ_nonempty fun p : Fin 32 =>
      Real.log (chance τ' n p s) + Real.log (rowWeights (x r) d τ' t n p)
    have e : ∀ p, Real.exp (Real.log (chance τ' n p s) + Real.log (rowWeights (x r) d τ' t n p))
        = rowWeights (x r) d τ' t n p * chance τ' n p s := fun p => by
      rw [Real.exp_add, Real.exp_log (hc p), Real.exp_log (hw n p), mul_comm]
    have hs : 0 < ∑ p, rowWeights (x r) d τ' t n p * chance τ' n p s :=
      Finset.sum_pos (fun p _ => mul_pos (hw n p) (hc p)) Finset.univ_nonempty
    show b43 t σ (ix3 r n s) = _
    unfold b43
    show b16 t σ (ix3 r n s) + b42 t σ (ix3 r n s) = _
    rw [emit_apply t ht, hσ.emits, reach_apply t σ r n s _ _ (fun p => by rw [hσ.moves, hσ.logs, ← EReal.coe_add]) hcm, add_log_sum,
      ← EReal.coe_add]
    simp only [e]
    rw [← Real.log_mul hs.ne' (hx r t s).ne']
    rfl

include h in
/-- The reference's result. -/
theorem result (S : ℕ → State Ideal) (h0 : S 0 = init a0 a2 a3) (hs : ∀ n, S (n + 1) = step n (S n)) (R : Fin 32) :
    R_main_v33 (S 2048) a1 (ix2 R 0) = answer (rowWeights (x R) d τ' 2048) (ε R) := by
  have all : ∀ t, t ≤ 2048 → Holds x d τ' t (S t) := by
    intro t
    induction t with
    | zero => exact fun _ => h0 ▸ holds_init h
    | succ t ih => exact fun ht => hs t ▸ holds_step h.positive ht (ih (by omega))
  have hl := (all 2048 le_rfl).logs R
  obtain ⟨c, hc⟩ := fold_max_coe Finset.univ Finset.univ_nonempty fun p : Fin 16 × Fin 32 =>
    Real.log (rowWeights (x R) d τ' 2048 p.1 p.2) / 2048
  rw [last_apply a1 (S 2048) R _ _ (fun p => by rw [hl, ideal_div (by norm_num)]) hc, add_log_sum, h.shifts, div_steps,
    Fintype.sum_prod_type]
  rfl

end Finite

end Cert.ScanRefValue

end
-- ==== Proof.lean ====
/-
  The certificate of three calls of the kernel, over the extended reals. The states call: from words that name rows of the
  embedding and a finite embedding, the kernel and the plain softmax over time end with the same states. The log-sum-exp
  call: from any memory the kernel and the plain log-sum-exp of the same states and the same vocabulary end with the same
  numbers, without any assumption on the arguments. The scan call, which gives the kernel's result: from emission weights
  above zero and finite numbers otherwise, the kernel and the recursion in logarithms end with the same numbers.
-/
module

public import proofs.«01_k».proof.Defs
public import proofs.«01_k».proof.Proof.Gen.Lse.Frame
public import proofs.«01_k».proof.Proof.Gen.LseIdeal.Frame
public import proofs.«01_k».proof.Proof.LseRef
public import proofs.«01_k».proof.Proof.Gen.States.Frame
public import proofs.«01_k».proof.Proof.Gen.StatesIdeal.Frame
public import proofs.«01_k».proof.Proof.Gen.StatesIdeal.Value
public import proofs.«01_k».proof.Proof.Gen.StatesRefIdeal.Run
public import proofs.«01_k».proof.Proof.Gen.Pre_tokens_in_range
public import proofs.«01_k».proof.Proof.Gen.Pre_in_range_and_finite
public import proofs.«01_k».proof.Proof.StatesHyps
public import proofs.«01_k».proof.Proof.StatesPre
public import proofs.«01_k».proof.Proof.StatesRef
public import proofs.«01_k».proof.Proof.Gen.Scan.Frame
public import proofs.«01_k».proof.Proof.Gen.ScanIdeal.Frame
public import proofs.«01_k».proof.Proof.Gen.Pre_positive_and_finite
public import proofs.«01_k».proof.Proof.ScanResult
public import proofs.«01_k».proof.Proof.ScanRef
public import proofs.«01_k».proof.Proof.ScanPre
public import Idealize.ShloMosaic.Adequacy
public import Idealize.ShloMosaic.Init
public import Idealize.ShloMosaic.Lib.Claim

@[expose] public section

noncomputable section

namespace Cert.Proof

open Idealize.ShloMosaic Idealize.ShloMosaic.TcCoe

/-- The kernel's array and the reference's, entry by entry. -/
theorem arrays_agree (m : (ℓ : Loc LseIdeal.nD LseIdeal.τ LseIdeal.sig) → Buf (Elt Ideal) ℓ) (c : Dev LseIdeal.nD) :
    LseRef.value (m ((c : Thread LseIdeal.nD LseIdeal.τ).loc LseIdeal.main_arg0))
      (m ((c : Thread LseIdeal.nD LseIdeal.τ).loc LseIdeal.main_arg1)) = LseIdeal.Value.G2 m c := by
  funext i
  idx_vars i
  exact (LseRef.value_apply _ _ i0 i1).trans (LseValue.result_apply m c i0 i1).symm

theorem algebraic : algebraic_LseIdeal_LseRefIdeal := by
  intro m g m' g' _ hargs
  refine ⟨fun c => LseIdeal.Value.G2 m c, LseIdeal.Value.run m g, ?_⟩
  refine (θ_run _ _ _).mono (fun r h c => ?_) (LseRefIdeal.Value.run (F := Ideal) m' g')
  obtain ⟨hr, h0, h1⟩ := h c
  refine ⟨hr.trans ?_, h0, h1⟩
  rw [(hargs c).1, (hargs c).2]
  exact arrays_agree m c

/-! ### The states call -/

/-- Words in range keep every look-up of the program on the device in bounds. -/
theorem device_in_bounds {m : (ℓ : Loc States.nD States.τ States.sig) → Buf (Elt Bits) ℓ} (h : Pre_States m) : States.Gen.Hyps m :=
  StatesValue.hyps_device fun c => StatesPre.tokens (h c)

theorem ideal_in_bounds {m : (ℓ : Loc StatesIdeal.nD StatesIdeal.τ StatesIdeal.sig) → Buf (Elt Ideal) ℓ} (h : Pre_StatesIdeal m) :
    StatesIdeal.Gen.Hyps m :=
  StatesValue.hyps_ideal fun c b s => StatesPre.tokens (h c) (ix2 b s)

section
variable {m : (ℓ : Loc StatesIdeal.nD StatesIdeal.τ StatesIdeal.sig) → Buf (Elt Ideal) ℓ} (h : Pre_StatesIdeal_in_range_and_finite m)
include h

theorem in_range (c : Dev StatesIdeal.nD) : StatesValue.InRange m c := fun b s => (StatesPre.range_and_real (h c)).1 (ix2 b s)

theorem in_bounds : StatesIdeal.Gen.Hyps m := StatesValue.hyps_ideal (in_range h)

theorem states_agree (c : Dev StatesIdeal.nD) :
    StatesRef.value (m ((c.tc : Thread StatesIdeal.nD StatesIdeal.τ).loc StatesIdeal.main_arg0))
      (m ((c.tc : Thread StatesIdeal.nD StatesIdeal.τ).loc StatesIdeal.main_arg1))
      = ((StatesIdeal.Gen.dats m (in_bounds h) 0 c).arrAt 2 StatesIdeal.cfg0.N : Vec Ideal StatesIdeal.S1024x256 .f32) := by
  funext i
  obtain ⟨b, s, e, rfl⟩ : ∃ (b s : Fin 32) (e : Fin 256), i = ix2 ⟨32 * b.val + s.val, by omega⟩ e := by
    have hi : (i 0).val < 1024 := (i 0).isLt
    refine ⟨⟨(i 0).val / 32, by omega⟩, ⟨(i 0).val % 32, by omega⟩, i 1, funext fun a => ?_⟩
    match a with
    | ⟨0, _⟩ => exact Fin.ext (show (i 0).val = 32 * ((i 0).val / 32) + (i 0).val % 32 by omega)
    | ⟨1, _⟩ => rfl
  exact (StatesRef.value_apply _ _ (in_range h c) (StatesPre.range_and_real (h c)).2 b s e).trans
    (StatesValue.result (in_range h c) (in_bounds h) b s e).symm

end

theorem states_algebraic : algebraic_StatesIdeal_StatesRefIdeal_pre_in_range_and_finite := by
  intro m g m' g' hm hargs
  refine ⟨_, StatesIdeal.Value.run_blocks (F := Ideal) m g (in_bounds hm), ?_⟩
  refine (θ_run _ _ _).mono (fun r h c => ?_) (StatesRefIdeal.Value.run (F := Ideal) m' g')
  obtain ⟨hr, hk⟩ := h c
  refine ⟨hr.trans ?_, hk⟩
  rw [(hargs c).1, (hargs c).2]
  exact states_agree hm c

/-- The states call's reference ends with its arguments unchanged and no semaphore held. -/
theorem states_reference_frame : quiescent_StatesRefIdeal := fun m g _ => (θ_run StatesRefIdeal.defs _ _).mono
  (fun r h => ⟨fun c => (h c).2, sem_eq_zero_of_no_sems (by decide) r.2⟩) (StatesRefIdeal.Value.run (F := Ideal) m g)

/-! ### The scan call -/

/-- The reference's carried state after each step. -/
def states (m' : (ℓ : Loc ScanRefIdeal.nD ScanRefIdeal.τ ScanRefIdeal.sig) → Buf (Elt Ideal) ℓ) (c : Dev ScanRefIdeal.nD) :
    ℕ → ScanRefIdeal.Step.State Ideal
  | 0 => ScanRefIdeal.StepRun.initState m' c
  | n + 1 => ScanRefIdeal.Step.step n (states m' c n)

/-- The kernel's result array. -/
def scanned (m : (ℓ : Loc ScanIdeal.nD ScanIdeal.τ ScanIdeal.sig) → Buf (Elt Ideal) ℓ) (c : Dev ScanIdeal.nD) :
    Vec Ideal ScanIdeal.S32x1 .f32 :=
  (ScanIdeal.Gen.dats m 0 c).arrAt 6 ScanIdeal.cfg0.N

theorem scan_arrays_agree (m : (ℓ : Loc ScanIdeal.nD ScanIdeal.τ ScanIdeal.sig) → Buf (Elt Ideal) ℓ)
    (m' : (ℓ : Loc ScanRefIdeal.nD ScanRefIdeal.τ ScanRefIdeal.sig) → Buf (Elt Ideal) ℓ) (c : Dev ScanIdeal.nD)
    (hm : Pre_ScanIdeal_positive_and_finite m)
    (h0 : m' ((c.tc : Thread ScanRefIdeal.nD ScanRefIdeal.τ).loc ScanRefIdeal.main_arg0)
      = m ((c.tc : Thread ScanIdeal.nD ScanIdeal.τ).loc ScanIdeal.main_arg0))
    (h1 : m' ((c.tc : Thread ScanRefIdeal.nD ScanRefIdeal.τ).loc ScanRefIdeal.main_arg1)
      = m ((c.tc : Thread ScanIdeal.nD ScanIdeal.τ).loc ScanIdeal.main_arg1))
    (h2 : m' ((c.tc : Thread ScanRefIdeal.nD ScanRefIdeal.τ).loc ScanRefIdeal.main_arg2)
      = m ((c.tc : Thread ScanIdeal.nD ScanIdeal.τ).loc ScanIdeal.main_arg2))
    (h3 : m' ((c.tc : Thread ScanRefIdeal.nD ScanRefIdeal.τ).loc ScanRefIdeal.main_arg3)
      = m ((c.tc : Thread ScanIdeal.nD ScanIdeal.τ).loc ScanIdeal.main_arg3)) :
    ScanRefIdeal.Step.R_main_v33 (states m' c 2048) (m' ((c.tc : Thread ScanRefIdeal.nD ScanRefIdeal.τ).loc ScanRefIdeal.main_arg1))
      = scanned m c := by
  obtain ⟨x, ε, d, τ, h⟩ := ScanPre.data (hm c)
  funext i
  obtain ⟨R, z, rfl⟩ : ∃ (R : Fin 32) (z : Fin 1), i = ix2 R z := ⟨i 0, i 1, by funext a; fin_cases a <;> rfl⟩
  obtain rfl : z = 0 := Subsingleton.elim _ _
  have h' := h
  rw [← h0, ← h1, ← h2, ← h3] at h'
  exact (ScanRefValue.result h' (states m' c) rfl (fun _ => rfl) R).trans (ScanValue.result m c h R).symm

theorem scan_algebraic : algebraic_ScanIdeal_ScanRefIdeal_pre_positive_and_finite := by
  intro m g m' g' hm hargs
  refine ⟨fun c => scanned m c, ScanIdeal.Value.run_blocks (F := Ideal) m g, ?_⟩
  refine (θ_run _ _ _).mono (fun r h c => ?_)
    (ScanRefIdeal.StepRun.run_iter (F := Ideal) m' g' (states m') (fun _ => rfl) (fun _ _ => rfl))
  obtain ⟨hr, hk⟩ := h c
  obtain ⟨h0, h1, h2, h3⟩ := hargs c
  exact ⟨hr.trans (scan_arrays_agree m m' c hm h0 h1 h2 h3), hk⟩

/-- The scan's reference ends with its arguments unchanged and no semaphore held. -/
theorem scan_reference_frame : quiescent_ScanRefIdeal := fun m g _ => (θ_run ScanRefIdeal.defs _ _).mono
  (fun r h => ⟨fun c => (h c).2, sem_eq_zero_of_no_sems (by decide) r.2⟩) (ScanRefIdeal.Value.run (F := Ideal) m g)

theorem claim : Cert.Claim :=
  ⟨Lse.Gen.facts, LseIdeal.Gen.facts, LseRefIdeal.Gen.facts, States.Gen.facts, StatesIdeal.Gen.facts, StatesRefIdeal.Gen.facts,
    Scan.Gen.facts, ScanIdeal.Gen.facts, ScanRefIdeal.Gen.facts,
    Pre_tokens_in_range.Gen.facts, Pre_in_range_and_finite.Gen.facts, Pre_positive_and_finite.Gen.facts,
    fun m g _ => Lse.Gen.frame m g,
    fun m g _ => LseIdeal.Gen.frame m g,
    fun m g _ => (θ_run LseRefIdeal.defs _ _).mono
      (fun r h => ⟨fun c => (h c).2, sem_eq_zero_of_no_sems (by decide) r.2⟩) (LseRefIdeal.Value.run (F := Ideal) m g),
    fun m g h => States.Gen.frame m g (device_in_bounds h),
    fun m g h => StatesIdeal.Gen.frame m g (ideal_in_bounds h),
    fun m g h => StatesIdeal.Gen.frame m g (in_bounds h),
    states_reference_frame,
    fun m g _ => states_reference_frame m g trivial,
    fun m g _ => Scan.Gen.frame m g,
    fun m g _ => ScanIdeal.Gen.frame m g,
    fun m g _ => ScanIdeal.Gen.frame m g,
    scan_reference_frame,
    fun m g _ => scan_reference_frame m g trivial,
    trivial, algebraic, trivial, states_algebraic, trivial, scan_algebraic⟩

end Cert.Proof

end
